-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Combine [hPre_slots_in_range : Cert.Pre_slots_in_range.Facts] (m : (ℓ : Loc Cert.Combine.nD Cert.Combine.τ Cert.Combine.sig) → Buf (Elt Bits) ℓ) : Prop :=
  ∀ c : Dev Cert.Combine.nD,
    (Cert.Pre_slots_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))) = (fun _ => 1#1)

def Pre_CombineIdeal [hPre_slots_in_range : Cert.Pre_slots_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_slots_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_BlendIdeal [hPre_slots_in_range : Cert.Pre_slots_in_range.Facts] (m : (ℓ : Loc Cert.BlendIdeal.nD Cert.BlendIdeal.τ Cert.BlendIdeal.sig) → Buf (Elt Ideal) ℓ) : Prop :=
  ∀ c : Dev Cert.BlendIdeal.nD,
    (Cert.Pre_slots_in_range.fn (F := Ideal) (m ((c.tc : Thread Cert.BlendIdeal.nD Cert.BlendIdeal.τ).loc Cert.BlendIdeal.main_arg0)) (m ((c.tc : Thread Cert.BlendIdeal.nD Cert.BlendIdeal.τ).loc Cert.BlendIdeal.main_arg1)) (m ((c.tc : Thread Cert.BlendIdeal.nD Cert.BlendIdeal.τ).loc Cert.BlendIdeal.main_arg2)) (m ((c.tc : Thread Cert.BlendIdeal.nD Cert.BlendIdeal.τ).loc Cert.BlendIdeal.main_arg3)) (m ((c.tc : Thread Cert.BlendIdeal.nD Cert.BlendIdeal.τ).loc Cert.BlendIdeal.main_arg4))) = (fun _ => 1#1)

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_ExpertIdeal (m : (ℓ : Loc Cert.ExpertIdeal.nD Cert.ExpertIdeal.τ Cert.ExpertIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Combine [hCombine : Cert.Combine.Facts] [hPre_slots_in_range : Cert.Pre_slots_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_slots_in_range : Cert.Pre_slots_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_BlendIdeal [hBlendIdeal : Cert.BlendIdeal.Facts] [hPre_slots_in_range : Cert.Pre_slots_in_range.Facts] : Prop :=
  ∀ (m : (ℓ : Loc Cert.BlendIdeal.nD Cert.BlendIdeal.τ Cert.BlendIdeal.sig) → Buf (Elt Ideal) ℓ) (g : Dev Cert.BlendIdeal.nD → PrngReg), Pre_BlendIdeal m →
    θ_run (Cert.BlendIdeal.defs (F := Ideal)) (onTc (τ := Cert.BlendIdeal.τ) (Cert.BlendIdeal.main (F := Ideal))) ⟨m, fun _ => 0, g⟩ (fun r => (∀ c : Dev Cert.BlendIdeal.nD,
      r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
      ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
      ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
      ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3)
      ∧ r.2.mem ((c.tc : Thread Cert.BlendIdeal.nD Cert.BlendIdeal.τ).loc Cert.BlendIdeal.main_arg4) = m ((c.tc : Thread Cert.BlendIdeal.nD Cert.BlendIdeal.τ).loc Cert.BlendIdeal.main_arg4))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4)
      ∧ r.2.mem ((c.tc : Thread Cert.Shared.nD Cert.Shared.τ).loc Cert.Shared.main_arg5) = m ((c.tc : Thread Cert.Shared.nD Cert.Shared.τ).loc Cert.Shared.main_arg5))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5))
      ∧ r.2.sem = fun _ => 0)

def quiescent_ExpertIdeal [hExpertIdeal : Cert.ExpertIdeal.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5))
      ∧ r.2.sem = fun _ => 0)

def preserves_Kernel_KernelIdeal : Prop :=
  IdealRules.bf16_pair.BufferStatement Cert.KernelIdeal.S32x2x512 Cert.KernelIdeal.S32x1x512
  ∧ IdealRules.bf16_pair.BufferStatement Cert.KernelIdeal.S112x2x2048 Cert.KernelIdeal.S112x1x2048
  ∧ IdealRules.bf16_pair.HalfStatement Cert.KernelIdeal.S32x512
  ∧ IdealRules.bf16_pair.Statement Cert.KernelIdeal.S32x2x512 Cert.KernelIdeal.S32x1x512
  ∧ IdealRules.bf16_pair.HalfStatement Cert.KernelIdeal.S112x2048
  ∧ IdealRules.bf16_pair.Statement Cert.KernelIdeal.S112x2x2048 Cert.KernelIdeal.S112x1x2048
  ∧ IdealRules.bf16_pair.Statement Cert.KernelIdeal.S1x2x512 Cert.KernelIdeal.S1x1x512
  ∧ IdealRules.bf16_pair.Statement Cert.KernelIdeal.S2x512 Cert.KernelIdeal.S1x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Combine_CombineIdeal : Prop :=
  True

def algebraic_CombineIdeal_BlendIdeal [hCombineIdeal : Cert.CombineIdeal.Facts] [hBlendIdeal : Cert.BlendIdeal.Facts] [hPre_slots_in_range : Cert.Pre_slots_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.BlendIdeal.nD Cert.BlendIdeal.τ Cert.BlendIdeal.sig) → Buf (Elt Ideal) ℓ) (g' : Dev Cert.BlendIdeal.nD → PrngReg), Pre_CombineIdeal m →
    (∀ c : Dev Cert.CombineIdeal.nD,
      m' ((c.tc : Thread Cert.BlendIdeal.nD Cert.BlendIdeal.τ).loc Cert.BlendIdeal.main_arg0) = m ((c.tc : Thread Cert.CombineIdeal.nD Cert.CombineIdeal.τ).loc Cert.CombineIdeal.main_arg0)
      ∧ m' ((c.tc : Thread Cert.BlendIdeal.nD Cert.BlendIdeal.τ).loc Cert.BlendIdeal.main_arg1) = m ((c.tc : Thread Cert.CombineIdeal.nD Cert.CombineIdeal.τ).loc Cert.CombineIdeal.main_arg1)
      ∧ m' ((c.tc : Thread Cert.BlendIdeal.nD Cert.BlendIdeal.τ).loc Cert.BlendIdeal.main_arg2) = m ((c.tc : Thread Cert.CombineIdeal.nD Cert.CombineIdeal.τ).loc Cert.CombineIdeal.main_arg2)
      ∧ m' ((c.tc : Thread Cert.BlendIdeal.nD Cert.BlendIdeal.τ).loc Cert.BlendIdeal.main_arg3) = m ((c.tc : Thread Cert.CombineIdeal.nD Cert.CombineIdeal.τ).loc Cert.CombineIdeal.main_arg3)
      ∧ m' ((c.tc : Thread Cert.BlendIdeal.nD Cert.BlendIdeal.τ).loc Cert.BlendIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v5)) (v1 : (c : Dev Cert.CombineIdeal.nD) → Buf (Elt Ideal) ((c.tc : Thread Cert.CombineIdeal.nD Cert.CombineIdeal.τ).loc Cert.CombineIdeal.main_v8)) (v2 : (c : Dev Cert.CombineIdeal.nD) → Buf (Elt Ideal) ((c.tc : Thread Cert.CombineIdeal.nD Cert.CombineIdeal.τ).loc Cert.CombineIdeal.main_v9)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v5) = v0 c
          ∧ r.2.mem ((c.tc : Thread Cert.CombineIdeal.nD Cert.CombineIdeal.τ).loc Cert.CombineIdeal.main_v8) = v1 c
          ∧ r.2.mem ((c.tc : Thread Cert.CombineIdeal.nD Cert.CombineIdeal.τ).loc Cert.CombineIdeal.main_v9) = v2 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.BlendIdeal.defs (F := Ideal)) (onTc (τ := Cert.BlendIdeal.τ) (Cert.BlendIdeal.main (F := Ideal))) ⟨m', fun _ => 0, g'⟩ (fun r => ∀ c : Dev Cert.BlendIdeal.nD,
          r.2.mem ((c.tc : Thread Cert.BlendIdeal.nD Cert.BlendIdeal.τ).loc Cert.BlendIdeal.main_v51) = v0 c
          ∧ r.2.mem ((c.tc : Thread Cert.BlendIdeal.nD Cert.BlendIdeal.τ).loc Cert.BlendIdeal.main_v52) = v1 c
          ∧ r.2.mem ((c.tc : Thread Cert.BlendIdeal.nD Cert.BlendIdeal.τ).loc Cert.BlendIdeal.main_v53) = v2 c
          ∧ r.2.mem ((c.tc : Thread Cert.BlendIdeal.nD Cert.BlendIdeal.τ).loc Cert.BlendIdeal.main_arg0) = m' ((c.tc : Thread Cert.BlendIdeal.nD Cert.BlendIdeal.τ).loc Cert.BlendIdeal.main_arg0)
          ∧ r.2.mem ((c.tc : Thread Cert.BlendIdeal.nD Cert.BlendIdeal.τ).loc Cert.BlendIdeal.main_arg1) = m' ((c.tc : Thread Cert.BlendIdeal.nD Cert.BlendIdeal.τ).loc Cert.BlendIdeal.main_arg1)
          ∧ r.2.mem ((c.tc : Thread Cert.BlendIdeal.nD Cert.BlendIdeal.τ).loc Cert.BlendIdeal.main_arg2) = m' ((c.tc : Thread Cert.BlendIdeal.nD Cert.BlendIdeal.τ).loc Cert.BlendIdeal.main_arg2)
          ∧ r.2.mem ((c.tc : Thread Cert.BlendIdeal.nD Cert.BlendIdeal.τ).loc Cert.BlendIdeal.main_arg3) = m' ((c.tc : Thread Cert.BlendIdeal.nD Cert.BlendIdeal.τ).loc Cert.BlendIdeal.main_arg3)
          ∧ r.2.mem ((c.tc : Thread Cert.BlendIdeal.nD Cert.BlendIdeal.τ).loc Cert.BlendIdeal.main_arg4) = m' ((c.tc : Thread Cert.BlendIdeal.nD Cert.BlendIdeal.τ).loc Cert.BlendIdeal.main_arg4))

def preserves_Shared_SharedIdeal : Prop :=
  IdealRules.bf16_pair.BufferStatement Cert.SharedIdeal.S32x2x512 Cert.SharedIdeal.S32x1x512
  ∧ IdealRules.bf16_pair.BufferStatement Cert.SharedIdeal.S112x2x2048 Cert.SharedIdeal.S112x1x2048
  ∧ IdealRules.bf16_pair.HalfStatement Cert.SharedIdeal.S32x512
  ∧ IdealRules.bf16_pair.Statement Cert.SharedIdeal.S32x2x512 Cert.SharedIdeal.S32x1x512
  ∧ IdealRules.bf16_pair.HalfStatement Cert.SharedIdeal.S112x2048
  ∧ IdealRules.bf16_pair.Statement Cert.SharedIdeal.S112x2x2048 Cert.SharedIdeal.S112x1x2048
  ∧ IdealRules.bf16_pair.Statement Cert.SharedIdeal.S1x2x512 Cert.SharedIdeal.S1x1x512
  ∧ IdealRules.bf16_pair.Statement Cert.SharedIdeal.S2x512 Cert.SharedIdeal.S1x512

def algebraic_SharedIdeal_ExpertIdeal [hSharedIdeal : Cert.SharedIdeal.Facts] [hExpertIdeal : Cert.ExpertIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.ExpertIdeal.nD Cert.ExpertIdeal.τ Cert.ExpertIdeal.sig) → Buf (Elt Ideal) ℓ) (g' : Dev Cert.ExpertIdeal.nD → PrngReg), Pre_SharedIdeal m →
    (∀ c : Dev Cert.SharedIdeal.nD,
      m' ((c.tc : Thread Cert.ExpertIdeal.nD Cert.ExpertIdeal.τ).loc Cert.ExpertIdeal.main_arg0) = m ((c.tc : Thread Cert.SharedIdeal.nD Cert.SharedIdeal.τ).loc Cert.SharedIdeal.main_arg0)
      ∧ m' ((c.tc : Thread Cert.ExpertIdeal.nD Cert.ExpertIdeal.τ).loc Cert.ExpertIdeal.main_arg1) = m ((c.tc : Thread Cert.SharedIdeal.nD Cert.SharedIdeal.τ).loc Cert.SharedIdeal.main_arg1)
      ∧ m' ((c.tc : Thread Cert.ExpertIdeal.nD Cert.ExpertIdeal.τ).loc Cert.ExpertIdeal.main_arg2) = m ((c.tc : Thread Cert.SharedIdeal.nD Cert.SharedIdeal.τ).loc Cert.SharedIdeal.main_arg2)
      ∧ m' ((c.tc : Thread Cert.ExpertIdeal.nD Cert.ExpertIdeal.τ).loc Cert.ExpertIdeal.main_arg3) = m ((c.tc : Thread Cert.SharedIdeal.nD Cert.SharedIdeal.τ).loc Cert.SharedIdeal.main_arg3)
      ∧ m' ((c.tc : Thread Cert.ExpertIdeal.nD Cert.ExpertIdeal.τ).loc Cert.ExpertIdeal.main_arg4) = m ((c.tc : Thread Cert.SharedIdeal.nD Cert.SharedIdeal.τ).loc Cert.SharedIdeal.main_arg4)
      ∧ m' ((c.tc : Thread Cert.ExpertIdeal.nD Cert.ExpertIdeal.τ).loc Cert.ExpertIdeal.main_arg5) = m ((c.tc : Thread Cert.SharedIdeal.nD Cert.SharedIdeal.τ).loc Cert.SharedIdeal.main_arg5)) →
    ∃ (v0 : (c : Dev Cert.SharedIdeal.nD) → Buf (Elt Ideal) ((c.tc : Thread Cert.SharedIdeal.nD Cert.SharedIdeal.τ).loc Cert.SharedIdeal.main_v17)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v17) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
          ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5))
      ∧ θ_run (Cert.ExpertIdeal.defs (F := Ideal)) (onTc (τ := Cert.ExpertIdeal.τ) (Cert.ExpertIdeal.main (F := Ideal))) ⟨m', fun _ => 0, g'⟩ (fun r => ∀ c : Dev Cert.ExpertIdeal.nD,
          r.2.mem ((c.tc : Thread Cert.ExpertIdeal.nD Cert.ExpertIdeal.τ).loc Cert.ExpertIdeal.main_v66) = v0 c
          ∧ r.2.mem ((c.tc : Thread Cert.ExpertIdeal.nD Cert.ExpertIdeal.τ).loc Cert.ExpertIdeal.main_arg0) = m' ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m' ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m' ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m' ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m' ((c.tc : Thread Cert.ExpertIdeal.nD Cert.ExpertIdeal.τ).loc Cert.ExpertIdeal.main_arg4)
          ∧ r.2.mem ((c.tc : Thread Cert.ExpertIdeal.nD Cert.ExpertIdeal.τ).loc Cert.ExpertIdeal.main_arg5) = m' ((c.tc : Thread Cert.ExpertIdeal.nD Cert.ExpertIdeal.τ).loc Cert.ExpertIdeal.main_arg5))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hBlendIdeal : Cert.BlendIdeal.Facts) (hShared : Cert.Shared.Facts) (hSharedIdeal : Cert.SharedIdeal.Facts) (hExpertIdeal : Cert.ExpertIdeal.Facts) (hPre_slots_in_range : Cert.Pre_slots_in_range.Facts),
    quiescent_Kernel (hKernel := hKernel)
    ∧ quiescent_KernelIdeal (hKernelIdeal := hKernelIdeal)
    ∧ quiescent_ReferenceIdeal (hReferenceIdeal := hReferenceIdeal)
    ∧ quiescent_Combine (hCombine := hCombine) (hPre_slots_in_range := hPre_slots_in_range)
    ∧ quiescent_CombineIdeal (hCombineIdeal := hCombineIdeal) (hPre_slots_in_range := hPre_slots_in_range)
    ∧ quiescent_BlendIdeal (hBlendIdeal := hBlendIdeal) (hPre_slots_in_range := hPre_slots_in_range)
    ∧ quiescent_Shared (hShared := hShared)
    ∧ quiescent_SharedIdeal (hSharedIdeal := hSharedIdeal)
    ∧ quiescent_ExpertIdeal (hExpertIdeal := hExpertIdeal)
    ∧ preserves_Kernel_KernelIdeal
    ∧ algebraic_KernelIdeal_ReferenceIdeal (hKernelIdeal := hKernelIdeal) (hReferenceIdeal := hReferenceIdeal)
    ∧ preserves_Combine_CombineIdeal
    ∧ algebraic_CombineIdeal_BlendIdeal (hCombineIdeal := hCombineIdeal) (hBlendIdeal := hBlendIdeal) (hPre_slots_in_range := hPre_slots_in_range)
    ∧ preserves_Shared_SharedIdeal
    ∧ algebraic_SharedIdeal_ExpertIdeal (hSharedIdeal := hSharedIdeal) (hExpertIdeal := hExpertIdeal)
-- ==== Pre_slots_in_range.lean ====
abbrev S7x1x2 : Shape := ⟨3, ![7, 1, 2]⟩
abbrev S8 : Shape := ⟨1, ![8]⟩
abbrev S6x8x4096 : Shape := ⟨3, ![6, 8, 4096]⟩
abbrev S1x8x4096 : Shape := ⟨3, ![1, 8, 4096]⟩
abbrev S_ : Shape := ⟨0, ![]⟩
abbrev S14 : Shape := ⟨1, ![14]⟩
abbrev S22 : Shape := ⟨1, ![22]⟩

class Facts : Prop where
  bcast_S_S7x1x2 : S_.BroadcastsInDim S7x1x2 (![] : Fin 0 → Fin S7x1x2.rank)
  shapeCasts_S7x1x2_S14 : S7x1x2.ShapeCasts S14
  bcast_S_S8 : S_.BroadcastsInDim S8 (![] : Fin 0 → Fin S8.rank)
  concatenates_S14_S8_S22_d0 : Shape.Concatenates [S14, S8] S22 0

variable [Facts]

def fn {F : FTy → Type} [FloatOps F] (main_arg0 : IVec S7x1x2 32) (main_arg1 : FVec F S7x1x2 .f32) (main_arg2 : IVec S8 32) (main_arg3 : FVec F S6x8x4096 .f32) (main_arg4 : FVec F S1x8x4096 .f32) : IVec S22 1 :=
  let main_c : IVec S_ 32 := constantI S_ 32 0#32
  let main_v0 : IVec S7x1x2 32 := broadcastInDim S7x1x2 ![] bcast_S_S7x1x2 main_c
  let main_v1 : IVec S7x1x2 1 := cmpi .sge main_arg0 main_v0
  let main_c_0 : IVec S_ 32 := constantI S_ 32 8#32
  let main_v2 : IVec S7x1x2 32 := broadcastInDim S7x1x2 ![] bcast_S_S7x1x2 main_c_0
  let main_v3 : IVec S7x1x2 1 := cmpi .slt main_arg0 main_v2
  let main_v4 : IVec S7x1x2 1 := andi main_v1 main_v3
  let main_v5 : IVec S14 1 := shapeCast S14 main_v4 shapeCasts_S7x1x2_S14
  let main_c_1 : IVec S_ 32 := constantI S_ 32 6#32
  let main_v6 : IVec S8 32 := broadcastInDim S8 ![] bcast_S_S8 main_c_1
  let main_v7 : IVec S8 1 := cmpi .slt main_arg2 main_v6
  let main_v8 : IVec S22 1 := (fun a b => concatenate S22 0 [⟨S14, a⟩, ⟨S8, b⟩] concatenates_S14_S8_S22_d0) main_v5 main_v7
  main_v8
-- ==== Kernel.lean ====
abbrev S7x1x4096 : Shape := ⟨3, ![7, 1, 4096]⟩
abbrev S6x4096x14336 : Shape := ⟨3, ![6, 4096, 14336]⟩
abbrev S6x32x14336 : Shape := ⟨3, ![6, 32, 14336]⟩
abbrev S6x14336x2048 : Shape := ⟨3, ![6, 14336, 2048]⟩
abbrev S6x112x4096 : Shape := ⟨3, ![6, 112, 4096]⟩
abbrev S7x4096 : Shape := ⟨2, ![7, 4096]⟩
abbrev S_ : Shape := ⟨0, ![]⟩
abbrev S8x4096 : Shape := ⟨2, ![8, 4096]⟩
abbrev S8x4096x1 : Shape := ⟨3, ![8, 4096, 1]⟩
abbrev S8x4096x2 : Shape := ⟨3, ![8, 4096, 2]⟩
abbrev S8x8192 : Shape := ⟨2, ![8, 8192]⟩
abbrev S16x8192 : Shape := ⟨2, ![16, 8192]⟩
abbrev S6x8x4096 : Shape := ⟨3, ![6, 8, 4096]⟩
abbrev S1x4096x512 : Shape := ⟨3, ![1, 4096, 512]⟩
abbrev S1x32x512 : Shape := ⟨3, ![1, 32, 512]⟩
abbrev S1x512x2048 : Shape := ⟨3, ![1, 512, 2048]⟩
abbrev S1x112x4096 : Shape := ⟨3, ![1, 112, 4096]⟩
abbrev S1x8x4096 : Shape := ⟨3, ![1, 8, 4096]⟩
abbrev S32x512 : Shape := ⟨2, ![32, 512]⟩
abbrev S112x2048 : Shape := ⟨2, ![112, 2048]⟩
abbrev S16x1024 : Shape := ⟨2, ![16, 1024]⟩
abbrev S1x112x2048 : Shape := ⟨3, ![1, 112, 2048]⟩
abbrev S16x512 : Shape := ⟨2, ![16, 512]⟩
abbrev S1x128x512 : Shape := ⟨3, ![1, 128, 512]⟩
abbrev S128x512 : Shape := ⟨2, ![128, 512]⟩
abbrev S1x512 : Shape := ⟨2, ![1, 512]⟩
abbrev S128x1x512 : Shape := ⟨3, ![128, 1, 512]⟩
abbrev S128x2x512 : Shape := ⟨3, ![128, 2, 512]⟩
abbrev S256x512 : Shape := ⟨2, ![256, 512]⟩
abbrev S2x512 : Shape := ⟨2, ![2, 512]⟩
abbrev S1x2x512 : Shape := ⟨3, ![1, 2, 512]⟩
abbrev S2048x512 : Shape := ⟨2, ![2048, 512]⟩
abbrev S16x2048 : Shape := ⟨2, ![16, 2048]⟩
abbrev S8x512 : Shape := ⟨2, ![8, 512]⟩
abbrev S128x256 : Shape := ⟨2, ![128, 256]⟩
abbrev S8x128 : Shape := ⟨2, ![8, 128]⟩
abbrev S8x256 : Shape := ⟨2, ![8, 256]⟩
abbrev S16x256 : Shape := ⟨2, ![16, 256]⟩
abbrev S1024x512 : Shape := ⟨2, ![1024, 512]⟩
abbrev S1x8x512 : Shape := ⟨3, ![1, 8, 512]⟩

abbrev nBuf : Space → Nat
  | .hbm => 22
  | .vmem => 16
  | .smem => 0
  | _ => 0

abbrev bufTy : (tb : Table) → Fin (tcTables nBuf tb) → BufTy
  | .hbm, ⟨0, _⟩ => ⟨S7x1x4096, .bf16⟩
  | .hbm, ⟨1, _⟩ => ⟨S6x4096x14336, .i8⟩
  | .hbm, ⟨2, _⟩ => ⟨S6x32x14336, .bf16⟩
  | .hbm, ⟨3, _⟩ => ⟨S6x32x14336, .bf16⟩
  | .hbm, ⟨4, _⟩ => ⟨S6x14336x2048, .i8⟩
  | .hbm, ⟨5, _⟩ => ⟨S6x112x4096, .bf16⟩
  | .hbm, ⟨6, _⟩ => ⟨S7x4096, .bf16⟩
  | .hbm, ⟨7, _⟩ => ⟨S_, .i32⟩
  | .hbm, ⟨8, _⟩ => ⟨S_, .bf16⟩
  | .hbm, ⟨9, _⟩ => ⟨S8x4096, .bf16⟩
  | .hbm, ⟨10, _⟩ => ⟨S_, .bf16⟩
  | .hbm, ⟨11, _⟩ => ⟨S8x4096, .bf16⟩
  | .hbm, ⟨12, _⟩ => ⟨S8x4096x1, .bf16⟩
  | .hbm, ⟨13, _⟩ => ⟨S8x4096x1, .bf16⟩
  | .hbm, ⟨14, _⟩ => ⟨S8x4096x2, .bf16⟩
  | .hbm, ⟨15, _⟩ => ⟨S8x8192, .bf16⟩
  | .hbm, ⟨16, _⟩ => ⟨S8x4096x1, .bf16⟩
  | .hbm, ⟨17, _⟩ => ⟨S8x4096x1, .bf16⟩
  | .hbm, ⟨18, _⟩ => ⟨S8x4096x2, .bf16⟩
  | .hbm, ⟨19, _⟩ => ⟨S8x8192, .bf16⟩
  | .hbm, ⟨20, _⟩ => ⟨S16x8192, .bf16⟩
  | .hbm, ⟨21, _⟩ => ⟨S6x8x4096, .f32⟩
  | .local _ .vmem, ⟨0, _⟩ => ⟨S16x8192, .bf16⟩
  | .local _ .vmem, ⟨1, _⟩ => ⟨S1x4096x512, .i8⟩
  | .local _ .vmem, ⟨2, _⟩ => ⟨S1x4096x512, .i8⟩
  | .local _ .vmem, ⟨3, _⟩ => ⟨S1x32x512, .bf16⟩
  | .local _ .vmem, ⟨4, _⟩ => ⟨S1x32x512, .bf16⟩
  | .local _ .vmem, ⟨5, _⟩ => ⟨S1x32x512, .bf16⟩
  | .local _ .vmem, ⟨6, _⟩ => ⟨S1x32x512, .bf16⟩
  | .local _ .vmem, ⟨7, _⟩ => ⟨S1x512x2048, .i8⟩
  | .local _ .vmem, ⟨8, _⟩ => ⟨S1x512x2048, .i8⟩
  | .local _ .vmem, ⟨9, _⟩ => ⟨S1x112x4096, .bf16⟩
  | .local _ .vmem, ⟨10, _⟩ => ⟨S1x112x4096, .bf16⟩
  | .local _ .vmem, ⟨11, _⟩ => ⟨S1x8x4096, .f32⟩
  | .local _ .vmem, ⟨12, _⟩ => ⟨S1x8x4096, .f32⟩
  | .local _ .vmem, ⟨13, _⟩ => ⟨S32x512, .i32⟩
  | .local _ .vmem, ⟨14, _⟩ => ⟨S112x2048, .i32⟩
  | .local _ .vmem, ⟨15, _⟩ => ⟨S16x1024, .bf16⟩
  | _, _ => ⟨S7x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨2, ![6, 28], ![false, false]⟩

@[reducible] def k0_t1_loop : Scf.Loop 32 :=
  let c0_i32 : BitVec 32 := 0#32
  let c4_i32 : BitVec 32 := 4#32
  let v29 : BitVec 32 := Scalar.addi c0_i32 c4_i32
  let c1_i32 : BitVec 32 := 1#32
  ⟨c0_i32, v29, c1_i32⟩
def k0_off1 (k0_t1 : Fin k0_t1_loop.trips) (c0_i32_228 : BitVec 32) : Fin 3 → Nat :=
  let c0_229 : Index := 0#32
  let c0_i32 : BitVec 32 := 0#32
  let c1_i32 : BitVec 32 := 1#32
  let arg12 : BitVec 32 := Scf.iv c0_i32 c1_i32 k0_t1
  let c8_i32 : BitVec 32 := 8#32
  let v524 : BitVec 32 := Scalar.muli arg12 c8_i32
  let v525 : BitVec 32 := Scalar.addi v524 c0_i32_228
  let c128_i32 : BitVec 32 := 128#32
  let v526 : BitVec 32 := Scalar.muli v525 c128_i32
  let v527 : Index := Scalar.indexCast v526
  let c0_230 : Index := 0#32
  ![0, v527.toNat, 0]
def k0_off2 (k0_t1 : Fin k0_t1_loop.trips) (c0_i32_228 : BitVec 32) : Fin 2 → Nat :=
  let c0_i32 : BitVec 32 := 0#32
  let c1_i32 : BitVec 32 := 1#32
  let arg12 : BitVec 32 := Scf.iv c0_i32 c1_i32 k0_t1
  let c8_i32 : BitVec 32 := 8#32
  let v524 : BitVec 32 := Scalar.muli arg12 c8_i32
  let v525 : BitVec 32 := Scalar.addi v524 c0_i32_228
  let v530 : Index := Scalar.indexCast v525
  let c0_231 : Index := 0#32
  ![v530.toNat, 0]
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c2048_i32 : BitVec 32 := 2048#32
  let v725 : BitVec 32 := Scalar.muli arg12 c2048_i32
  v725
def k0_off3 (k0_t1 : Fin k0_t1_loop.trips) : Fin 2 → Nat :=
  let c0_295 : Index := 0#32
  let c0_i32 : BitVec 32 := 0#32
  let c1_i32 : BitVec 32 := 1#32
  let arg12 : BitVec 32 := Scf.iv c0_i32 c1_i32 k0_t1
  let c2048_i32 : BitVec 32 := 2048#32
  let v725 : BitVec 32 := Scalar.muli arg12 c2048_i32
  let v726 : BitVec 32 := v725
  let v727 : Index := Scalar.indexCast v726
  ![0, v727.toNat]
def k0_off4 (i : grid0.Coords) (c0_i32_37 : BitVec 32) : Fin 2 → Nat :=
  let arg1 : BitVec 32 := BitVec.ofNat 32 (i 1).val
  let c4_i32_36 : BitVec 32 := 4#32
  let v90 : BitVec 32 := Scalar.muli arg1 c4_i32_36
  let v91 : BitVec 32 := Scalar.addi v90 c0_i32_37
  let v92 : Index := Scalar.indexCast v91
  let c0_38 : Index := 0#32
  ![v92.toNat, 0]
def k0_off5 (i : grid0.Coords) (c0_i32_84 : BitVec 32) : Fin 2 → Nat :=
  let arg1 : BitVec 32 := BitVec.ofNat 32 (i 1).val
  let c4_i32_83 : BitVec 32 := 4#32
  let v199 : BitVec 32 := Scalar.muli arg1 c4_i32_83
  let v200 : BitVec 32 := Scalar.addi v199 c0_i32_84
  let v201 : Index := Scalar.indexCast v200
  let c512_85 : Index := 512#32
  ![v201.toNat, 512]
def k0_off6 (i : grid0.Coords) (c0_i32_133 : BitVec 32) : Fin 2 → Nat :=
  let arg1 : BitVec 32 := BitVec.ofNat 32 (i 1).val
  let c4_i32_132 : BitVec 32 := 4#32
  let v308 : BitVec 32 := Scalar.muli arg1 c4_i32_132
  let v309 : BitVec 32 := Scalar.addi v308 c0_i32_133
  let v310 : Index := Scalar.indexCast v309
  let c1024_134 : Index := 1024#32
  ![v310.toNat, 1024]
def k0_off7 (i : grid0.Coords) (c0_i32_182 : BitVec 32) : Fin 2 → Nat :=
  let arg1 : BitVec 32 := BitVec.ofNat 32 (i 1).val
  let c4_i32_181 : BitVec 32 := 4#32
  let v417 : BitVec 32 := Scalar.muli arg1 c4_i32_181
  let v418 : BitVec 32 := Scalar.addi v417 c0_i32_182
  let v419 : Index := Scalar.indexCast v418
  let c1536_183 : Index := 1536#32
  ![v419.toNat, 1536]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x112x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
abbrev S7x1x4096 : Shape := ⟨3, ![7, 1, 4096]⟩
abbrev S6x4096x14336 : Shape := ⟨3, ![6, 4096, 14336]⟩
abbrev S6x32x14336 : Shape := ⟨3, ![6, 32, 14336]⟩
abbrev S6x14336x2048 : Shape := ⟨3, ![6, 14336, 2048]⟩
abbrev S6x112x4096 : Shape := ⟨3, ![6, 112, 4096]⟩
abbrev S7x4096 : Shape := ⟨2, ![7, 4096]⟩
abbrev S_ : Shape := ⟨0, ![]⟩
abbrev S8x4096 : Shape := ⟨2, ![8, 4096]⟩
abbrev S8x4096x1 : Shape := ⟨3, ![8, 4096, 1]⟩
abbrev S8x4096x2 : Shape := ⟨3, ![8, 4096, 2]⟩
abbrev S8x8192 : Shape := ⟨2, ![8, 8192]⟩
abbrev S16x8192 : Shape := ⟨2, ![16, 8192]⟩
abbrev S6x8x4096 : Shape := ⟨3, ![6, 8, 4096]⟩
abbrev S1x4096x512 : Shape := ⟨3, ![1, 4096, 512]⟩
abbrev S1x32x512 : Shape := ⟨3, ![1, 32, 512]⟩
abbrev S1x512x2048 : Shape := ⟨3, ![1, 512, 2048]⟩
abbrev S1x112x4096 : Shape := ⟨3, ![1, 112, 4096]⟩
abbrev S1x8x4096 : Shape := ⟨3, ![1, 8, 4096]⟩
abbrev S32x512 : Shape := ⟨2, ![32, 512]⟩
abbrev S32x2x512 : Shape := ⟨3, ![32, 2, 512]⟩
abbrev S32x1x512 : Shape := ⟨3, ![32, 1, 512]⟩
abbrev S112x2048 : Shape := ⟨2, ![112, 2048]⟩
abbrev S112x2x2048 : Shape := ⟨3, ![112, 2, 2048]⟩
abbrev S112x1x2048 : Shape := ⟨3, ![112, 1, 2048]⟩
abbrev S16x1024 : Shape := ⟨2, ![16, 1024]⟩
abbrev S1x112x2048 : Shape := ⟨3, ![1, 112, 2048]⟩
abbrev S16x512 : Shape := ⟨2, ![16, 512]⟩
abbrev S1x128x512 : Shape := ⟨3, ![1, 128, 512]⟩
abbrev S128x512 : Shape := ⟨2, ![128, 512]⟩
abbrev S1x512 : Shape := ⟨2, ![1, 512]⟩
abbrev S1x2x512 : Shape := ⟨3, ![1, 2, 512]⟩
abbrev S1x1x512 : Shape := ⟨3, ![1, 1, 512]⟩
abbrev S128x1x512 : Shape := ⟨3, ![128, 1, 512]⟩
abbrev S128x2x512 : Shape := ⟨3, ![128, 2, 512]⟩
abbrev S256x512 : Shape := ⟨2, ![256, 512]⟩
abbrev S2x512 : Shape := ⟨2, ![2, 512]⟩
abbrev S2048x512 : Shape := ⟨2, ![2048, 512]⟩
abbrev S16x2048 : Shape := ⟨2, ![16, 2048]⟩
abbrev S8x512 : Shape := ⟨2, ![8, 512]⟩
abbrev S128x256 : Shape := ⟨2, ![128, 256]⟩
abbrev S8x128 : Shape := ⟨2, ![8, 128]⟩
abbrev S8x256 : Shape := ⟨2, ![8, 256]⟩
abbrev S16x256 : Shape := ⟨2, ![16, 256]⟩
abbrev S1024x512 : Shape := ⟨2, ![1024, 512]⟩
abbrev S1x8x512 : Shape := ⟨3, ![1, 8, 512]⟩

abbrev nBuf : Space → Nat
  | .hbm => 22
  | .vmem => 16
  | .smem => 0
  | _ => 0

abbrev bufTy : (tb : Table) → Fin (tcTables nBuf tb) → BufTy
  | .hbm, ⟨0, _⟩ => ⟨S7x1x4096, .bf16⟩
  | .hbm, ⟨1, _⟩ => ⟨S6x4096x14336, .i8⟩
  | .hbm, ⟨2, _⟩ => ⟨S6x32x14336, .bf16⟩
  | .hbm, ⟨3, _⟩ => ⟨S6x32x14336, .bf16⟩
  | .hbm, ⟨4, _⟩ => ⟨S6x14336x2048, .i8⟩
  | .hbm, ⟨5, _⟩ => ⟨S6x112x4096, .bf16⟩
  | .hbm, ⟨6, _⟩ => ⟨S7x4096, .bf16⟩
  | .hbm, ⟨7, _⟩ => ⟨S_, .i32⟩
  | .hbm, ⟨8, _⟩ => ⟨S_, .bf16⟩
  | .hbm, ⟨9, _⟩ => ⟨S8x4096, .bf16⟩
  | .hbm, ⟨10, _⟩ => ⟨S_, .bf16⟩
  | .hbm, ⟨11, _⟩ => ⟨S8x4096, .bf16⟩
  | .hbm, ⟨12, _⟩ => ⟨S8x4096x1, .bf16⟩
  | .hbm, ⟨13, _⟩ => ⟨S8x4096x1, .bf16⟩
  | .hbm, ⟨14, _⟩ => ⟨S8x4096x2, .bf16⟩
  | .hbm, ⟨15, _⟩ => ⟨S8x8192, .bf16⟩
  | .hbm, ⟨16, _⟩ => ⟨S8x4096x1, .bf16⟩
  | .hbm, ⟨17, _⟩ => ⟨S8x4096x1, .bf16⟩
  | .hbm, ⟨18, _⟩ => ⟨S8x4096x2, .bf16⟩
  | .hbm, ⟨19, _⟩ => ⟨S8x8192, .bf16⟩
  | .hbm, ⟨20, _⟩ => ⟨S16x8192, .bf16⟩
  | .hbm, ⟨21, _⟩ => ⟨S6x8x4096, .f32⟩
  | .local _ .vmem, ⟨0, _⟩ => ⟨S16x8192, .bf16⟩
  | .local _ .vmem, ⟨1, _⟩ => ⟨S1x4096x512, .i8⟩
  | .local _ .vmem, ⟨2, _⟩ => ⟨S1x4096x512, .i8⟩
  | .local _ .vmem, ⟨3, _⟩ => ⟨S1x32x512, .bf16⟩
  | .local _ .vmem, ⟨4, _⟩ => ⟨S1x32x512, .bf16⟩
  | .local _ .vmem, ⟨5, _⟩ => ⟨S1x32x512, .bf16⟩
  | .local _ .vmem, ⟨6, _⟩ => ⟨S1x32x512, .bf16⟩
  | .local _ .vmem, ⟨7, _⟩ => ⟨S1x512x2048, .i8⟩
  | .local _ .vmem, ⟨8, _⟩ => ⟨S1x512x2048, .i8⟩
  | .local _ .vmem, ⟨9, _⟩ => ⟨S1x112x4096, .bf16⟩
  | .local _ .vmem, ⟨10, _⟩ => ⟨S1x112x4096, .bf16⟩
  | .local _ .vmem, ⟨11, _⟩ => ⟨S1x8x4096, .f32⟩
  | .local _ .vmem, ⟨12, _⟩ => ⟨S1x8x4096, .f32⟩
  | .local _ .vmem, ⟨13, _⟩ => ⟨S32x2x512, .bf16⟩
  | .local _ .vmem, ⟨14, _⟩ => ⟨S112x2x2048, .bf16⟩
  | .local _ .vmem, ⟨15, _⟩ => ⟨S16x1024, .bf16⟩
  | _, _ => ⟨S7x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![6, 28], ![false, false]⟩

@[reducible] def k0_t1_loop : Scf.Loop 32 :=
  let c0_i32 : BitVec 32 := 0#32
  let c4_i32 : BitVec 32 := 4#32
  let v29 : BitVec 32 := Scalar.addi c0_i32 c4_i32
  let c1_i32 : BitVec 32 := 1#32
  ⟨c0_i32, v29, c1_i32⟩
def k0_off1 (k0_t1 : Fin k0_t1_loop.trips) (c0_i32_228 : BitVec 32) : Fin 3 → Nat :=
  let c0_229 : Index := 0#32
  let c0_i32 : BitVec 32 := 0#32
  let c1_i32 : BitVec 32 := 1#32
  let arg12 : BitVec 32 := Scf.iv c0_i32 c1_i32 k0_t1
  let c8_i32 : BitVec 32 := 8#32
  let v524 : BitVec 32 := Scalar.muli arg12 c8_i32
  let v525 : BitVec 32 := Scalar.addi v524 c0_i32_228
  let c128_i32 : BitVec 32 := 128#32
  let v526 : BitVec 32 := Scalar.muli v525 c128_i32
  let v527 : Index := Scalar.indexCast v526
  let c0_230 : Index := 0#32
  ![0, v527.toNat, 0]
def k0_off2 (k0_t1 : Fin k0_t1_loop.trips) (c0_i32_228 : BitVec 32) : Fin 3 → Nat :=
  let c0_i32 : BitVec 32 := 0#32
  let c1_i32 : BitVec 32 := 1#32
  let arg12 : BitVec 32 := Scf.iv c0_i32 c1_i32 k0_t1
  let c8_i32 : BitVec 32 := 8#32
  let v524 : BitVec 32 := Scalar.muli arg12 c8_i32
  let v525 : BitVec 32 := Scalar.addi v524 c0_i32_228
  let v530 : Index := Scalar.indexCast v525
  let c0_231 : Index := 0#32
  ![v530.toNat, 0, 0]
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c2048_i32 : BitVec 32 := 2048#32
  let v725 : BitVec 32 := Scalar.muli arg12 c2048_i32
  v725
def k0_off3 (k0_t1 : Fin k0_t1_loop.trips) : Fin 2 → Nat :=
  let c0_295 : Index := 0#32
  let c0_i32 : BitVec 32 := 0#32
  let c1_i32 : BitVec 32 := 1#32
  let arg12 : BitVec 32 := Scf.iv c0_i32 c1_i32 k0_t1
  let c2048_i32 : BitVec 32 := 2048#32
  let v725 : BitVec 32 := Scalar.muli arg12 c2048_i32
  let v726 : BitVec 32 := v725
  let v727 : Index := Scalar.indexCast v726
  ![0, v727.toNat]
def k0_off4 (i : grid0.Coords) (c0_i32_37 : BitVec 32) : Fin 3 → Nat :=
  let arg1 : BitVec 32 := BitVec.ofNat 32 (i 1).val
  let c4_i32_36 : BitVec 32 := 4#32
  let v90 : BitVec 32 := Scalar.muli arg1 c4_i32_36
  let v91 : BitVec 32 := Scalar.addi v90 c0_i32_37
  let v92 : Index := Scalar.indexCast v91
  let c0_38 : Index := 0#32
  ![v92.toNat, 0, 0]
def k0_off5 (i : grid0.Coords) (c0_i32_84 : BitVec 32) : Fin 3 → Nat :=
  let arg1 : BitVec 32 := BitVec.ofNat 32 (i 1).val
  let c4_i32_83 : BitVec 32 := 4#32
  let v199 : BitVec 32 := Scalar.muli arg1 c4_i32_83
  let v200 : BitVec 32 := Scalar.addi v199 c0_i32_84
  let v201 : Index := Scalar.indexCast v200
  let c512_85 : Index := 512#32
  ![v201.toNat, 0, 512]
def k0_off6 (i : grid0.Coords) (c0_i32_133 : BitVec 32) : Fin 3 → Nat :=
  let arg1 : BitVec 32 := BitVec.ofNat 32 (i 1).val
  let c4_i32_132 : BitVec 32 := 4#32
  let v308 : BitVec 32 := Scalar.muli arg1 c4_i32_132
  let v309 : BitVec 32 := Scalar.addi v308 c0_i32_133
  let v310 : Index := Scalar.indexCast v309
  let c1024_134 : Index := 1024#32
  ![v310.toNat, 0, 1024]
def k0_off7 (i : grid0.Coords) (c0_i32_182 : BitVec 32) : Fin 3 → Nat :=
  let arg1 : BitVec 32 := BitVec.ofNat 32 (i 1).val
  let c4_i32_181 : BitVec 32 := 4#32
  let v417 : BitVec 32 := Scalar.muli arg1 c4_i32_181
  let v418 : BitVec 32 := Scalar.addi v417 c0_i32_182
  let v419 : Index := Scalar.indexCast v418
  let c1536_183 : Index := 1536#32
  ![v419.toNat, 0, 1536]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x112x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S7x1x4096 : Shape := ⟨3, ![7, 1, 4096]⟩
abbrev S6x4096x14336 : Shape := ⟨3, ![6, 4096, 14336]⟩
abbrev S6x32x14336 : Shape := ⟨3, ![6, 32, 14336]⟩
abbrev S6x14336x2048 : Shape := ⟨3, ![6, 14336, 2048]⟩
abbrev S6x112x4096 : Shape := ⟨3, ![6, 112, 4096]⟩
abbrev S7x4096 : Shape := ⟨2, ![7, 4096]⟩
abbrev S_ : Shape := ⟨0, ![]⟩
abbrev S8x4096 : Shape := ⟨2, ![8, 4096]⟩
abbrev S6x32x128x14336 : Shape := ⟨4, ![6, 32, 128, 14336]⟩
abbrev S6x32x1x14336 : Shape := ⟨4, ![6, 32, 1, 14336]⟩
abbrev S6x14336x8 : Shape := ⟨3, ![6, 14336, 8]⟩
abbrev S6x8x14336 : Shape := ⟨3, ![6, 8, 14336]⟩
abbrev S6x112x2048 : Shape := ⟨3, ![6, 112, 2048]⟩
abbrev S6x112x128x2048 : Shape := ⟨4, ![6, 112, 128, 2048]⟩
abbrev S6x112x1x2048 : Shape := ⟨4, ![6, 112, 1, 2048]⟩
abbrev S6x8x2048 : Shape := ⟨3, ![6, 8, 2048]⟩
abbrev S6x8x4096 : Shape := ⟨3, ![6, 8, 4096]⟩

abbrev nBuf : Space → Nat
  | .hbm => 86
  | .vmem => 0
  | .smem => 0
  | _ => 0

abbrev bufTy : (tb : Table) → Fin (tcTables nBuf tb) → BufTy
  | .hbm, ⟨0, _⟩ => ⟨S7x1x4096, .bf16⟩
  | .hbm, ⟨1, _⟩ => ⟨S6x4096x14336, .i8⟩
  | .hbm, ⟨2, _⟩ => ⟨S6x32x14336, .bf16⟩
  | .hbm, ⟨3, _⟩ => ⟨S6x32x14336, .bf16⟩
  | .hbm, ⟨4, _⟩ => ⟨S6x14336x2048, .i8⟩
  | .hbm, ⟨5, _⟩ => ⟨S6x112x4096, .bf16⟩
  | .hbm, ⟨6, _⟩ => ⟨S7x4096, .bf16⟩
  | .hbm, ⟨7, _⟩ => ⟨S_, .i32⟩
  | .hbm, ⟨8, _⟩ => ⟨S_, .bf16⟩
  | .hbm, ⟨9, _⟩ => ⟨S8x4096, .bf16⟩
  | .hbm, ⟨10, _⟩ => ⟨S6x4096x14336, .i32⟩
  | .hbm, ⟨11, _⟩ => ⟨S_, .i32⟩
  | .hbm, ⟨12, _⟩ => ⟨S6x4096x14336, .i32⟩
  | .hbm, ⟨13, _⟩ => ⟨S6x4096x14336, .i32⟩
  | .hbm, ⟨14, _⟩ => ⟨S_, .i32⟩
  | .hbm, ⟨15, _⟩ => ⟨S6x4096x14336, .i32⟩
  | .hbm, ⟨16, _⟩ => ⟨S6x4096x14336, .i32⟩
  | .hbm, ⟨17, _⟩ => ⟨S6x4096x14336, .f32⟩
  | .hbm, ⟨18, _⟩ => ⟨S6x4096x14336, .bf16⟩
  | .hbm, ⟨19, _⟩ => ⟨S6x32x128x14336, .bf16⟩
  | .hbm, ⟨20, _⟩ => ⟨S6x32x1x14336, .bf16⟩
  | .hbm, ⟨21, _⟩ => ⟨S6x32x128x14336, .bf16⟩
  | .hbm, ⟨22, _⟩ => ⟨S6x32x128x14336, .bf16⟩
  | .hbm, ⟨23, _⟩ => ⟨S6x4096x14336, .bf16⟩
  | .hbm, ⟨24, _⟩ => ⟨S6x4096x14336, .i32⟩
  | .hbm, ⟨25, _⟩ => ⟨S_, .i32⟩
  | .hbm, ⟨26, _⟩ => ⟨S6x4096x14336, .i32⟩
  | .hbm, ⟨27, _⟩ => ⟨S6x4096x14336, .i32⟩
  | .hbm, ⟨28, _⟩ => ⟨S_, .i32⟩
  | .hbm, ⟨29, _⟩ => ⟨S6x4096x14336, .i32⟩
  | .hbm, ⟨30, _⟩ => ⟨S6x4096x14336, .i32⟩
  | .hbm, ⟨31, _⟩ => ⟨S6x4096x14336, .f32⟩
  | .hbm, ⟨32, _⟩ => ⟨S6x4096x14336, .bf16⟩
  | .hbm, ⟨33, _⟩ => ⟨S6x32x128x14336, .bf16⟩
  | .hbm, ⟨34, _⟩ => ⟨S6x32x1x14336, .bf16⟩
  | .hbm, ⟨35, _⟩ => ⟨S6x32x128x14336, .bf16⟩
  | .hbm, ⟨36, _⟩ => ⟨S6x32x128x14336, .bf16⟩
  | .hbm, ⟨37, _⟩ => ⟨S6x4096x14336, .bf16⟩
  | .hbm, ⟨38, _⟩ => ⟨S6x14336x8, .f32⟩
  | .hbm, ⟨39, _⟩ => ⟨S6x8x14336, .f32⟩
  | .hbm, ⟨40, _⟩ => ⟨S6x14336x8, .f32⟩
  | .hbm, ⟨41, _⟩ => ⟨S6x8x14336, .f32⟩
  | .hbm, ⟨42, _⟩ => ⟨S6x8x14336, .f32⟩
  | .hbm, ⟨43, _⟩ => ⟨S6x8x14336, .f32⟩
  | .hbm, ⟨44, _⟩ => ⟨S_, .f32⟩
  | .hbm, ⟨45, _⟩ => ⟨S6x8x14336, .f32⟩
  | .hbm, ⟨46, _⟩ => ⟨S6x8x14336, .f32⟩
  | .hbm, ⟨47, _⟩ => ⟨S_, .f32⟩
  | .hbm, ⟨48, _⟩ => ⟨S6x8x14336, .f32⟩
  | .hbm, ⟨49, _⟩ => ⟨S6x8x14336, .f32⟩
  | .hbm, ⟨50, _⟩ => ⟨S6x8x14336, .f32⟩
  | .hbm, ⟨51, _⟩ => ⟨S6x8x14336, .f32⟩
  | .hbm, ⟨52, _⟩ => ⟨S6x8x14336, .bf16⟩
  | .hbm, ⟨53, _⟩ => ⟨S6x14336x2048, .i32⟩
  | .hbm, ⟨54, _⟩ => ⟨S_, .i32⟩
  | .hbm, ⟨55, _⟩ => ⟨S6x14336x2048, .i32⟩
  | .hbm, ⟨56, _⟩ => ⟨S6x14336x2048, .i32⟩
  | .hbm, ⟨57, _⟩ => ⟨S_, .i32⟩
  | .hbm, ⟨58, _⟩ => ⟨S6x14336x2048, .i32⟩
  | .hbm, ⟨59, _⟩ => ⟨S6x14336x2048, .i32⟩
  | .hbm, ⟨60, _⟩ => ⟨S6x112x2048, .bf16⟩
  | .hbm, ⟨61, _⟩ => ⟨S6x14336x2048, .f32⟩
  | .hbm, ⟨62, _⟩ => ⟨S6x14336x2048, .bf16⟩
  | .hbm, ⟨63, _⟩ => ⟨S6x112x128x2048, .bf16⟩
  | .hbm, ⟨64, _⟩ => ⟨S6x112x1x2048, .bf16⟩
  | .hbm, ⟨65, _⟩ => ⟨S6x112x128x2048, .bf16⟩
  | .hbm, ⟨66, _⟩ => ⟨S6x112x128x2048, .bf16⟩
  | .hbm, ⟨67, _⟩ => ⟨S6x14336x2048, .bf16⟩
  | .hbm, ⟨68, _⟩ => ⟨S6x14336x2048, .i32⟩
  | .hbm, ⟨69, _⟩ => ⟨S_, .i32⟩
  | .hbm, ⟨70, _⟩ => ⟨S6x14336x2048, .i32⟩
  | .hbm, ⟨71, _⟩ => ⟨S6x14336x2048, .i32⟩
  | .hbm, ⟨72, _⟩ => ⟨S_, .i32⟩
  | .hbm, ⟨73, _⟩ => ⟨S6x14336x2048, .i32⟩
  | .hbm, ⟨74, _⟩ => ⟨S6x14336x2048, .i32⟩
  | .hbm, ⟨75, _⟩ => ⟨S6x112x2048, .bf16⟩
  | .hbm, ⟨76, _⟩ => ⟨S6x14336x2048, .f32⟩
  | .hbm, ⟨77, _⟩ => ⟨S6x14336x2048, .bf16⟩
  | .hbm, ⟨78, _⟩ => ⟨S6x112x128x2048, .bf16⟩
  | .hbm, ⟨79, _⟩ => ⟨S6x112x1x2048, .bf16⟩
  | .hbm, ⟨80, _⟩ => ⟨S6x112x128x2048, .bf16⟩
  | .hbm, ⟨81, _⟩ => ⟨S6x112x128x2048, .bf16⟩
  | .hbm, ⟨82, _⟩ => ⟨S6x14336x2048, .bf16⟩
  | .hbm, ⟨83, _⟩ => ⟨S6x8x2048, .f32⟩
  | .hbm, ⟨84, _⟩ => ⟨S6x8x2048, .f32⟩
  | .hbm, ⟨85, _⟩ => ⟨S6x8x4096, .f32⟩
  | _, _ => ⟨S7x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Combine.lean ====
abbrev S7x1x2 : Shape := ⟨3, ![7, 1, 2]⟩
abbrev S8 : Shape := ⟨1, ![8]⟩
abbrev S6x8x4096 : Shape := ⟨3, ![6, 8, 4096]⟩
abbrev S1x8x4096 : Shape := ⟨3, ![1, 8, 4096]⟩
abbrev S14 : Shape := ⟨1, ![14]⟩
abbrev S8x4096 : Shape := ⟨2, ![8, 4096]⟩
abbrev S7x4096 : Shape := ⟨2, ![7, 4096]⟩
abbrev S7x128 : Shape := ⟨2, ![7, 128]⟩
abbrev S14x4096 : Shape := ⟨2, ![14, 4096]⟩
abbrev S1 : Shape := ⟨1, ![1]⟩
abbrev S1x1x4096 : Shape := ⟨3, ![1, 1, 4096]⟩
abbrev S1x4096 : Shape := ⟨2, ![1, 4096]⟩
abbrev S1x128 : Shape := ⟨2, ![1, 128]⟩
abbrev S1x1 : Shape := ⟨2, ![1, 1]⟩
abbrev S7x1x4096 : Shape := ⟨3, ![7, 1, 4096]⟩
abbrev S7x1 : Shape := ⟨2, ![7, 1]⟩
abbrev S7 : Shape := ⟨1, ![7]⟩
abbrev S7x1x2x4096 : Shape := ⟨4, ![7, 1, 2, 4096]⟩

abbrev nBuf : Space → Nat
  | .hbm => 17
  | .vmem => 5
  | .smem => 3
  | _ => 0

abbrev bufTy : (tb : Table) → Fin (tcTables nBuf tb) → BufTy
  | .hbm, ⟨0, _⟩ => ⟨S7x1x2, .i32⟩
  | .hbm, ⟨1, _⟩ => ⟨S7x1x2, .f32⟩
  | .hbm, ⟨2, _⟩ => ⟨S8, .i32⟩
  | .hbm, ⟨3, _⟩ => ⟨S6x8x4096, .f32⟩
  | .hbm, ⟨4, _⟩ => ⟨S1x8x4096, .f32⟩
  | .hbm, ⟨5, _⟩ => ⟨S14, .i32⟩
  | .hbm, ⟨6, _⟩ => ⟨S14, .f32⟩
  | .hbm, ⟨7, _⟩ => ⟨S8x4096, .f32⟩
  | .hbm, ⟨8, _⟩ => ⟨S7x4096, .f32⟩
  | .hbm, ⟨9, _⟩ => ⟨S7x128, .f32⟩
  | .hbm, ⟨10, _⟩ => ⟨S14x4096, .f32⟩
  | .hbm, ⟨11, _⟩ => ⟨S7x1x4096, .f32⟩
  | .hbm, ⟨12, _⟩ => ⟨S7x1x4096, .bf16⟩
  | .hbm, ⟨13, _⟩ => ⟨S7x1, .f32⟩
  | .hbm, ⟨14, _⟩ => ⟨S7, .f32⟩
  | .hbm, ⟨15, _⟩ => ⟨S7x1, .f32⟩
  | .hbm, ⟨16, _⟩ => ⟨S7x1x2x4096, .f32⟩
  | .local _ .vmem, ⟨0, _⟩ => ⟨S6x8x4096, .f32⟩
  | .local _ .vmem, ⟨1, _⟩ => ⟨S8x4096, .f32⟩
  | .local _ .vmem, ⟨2, _⟩ => ⟨S7x4096, .f32⟩
  | .local _ .vmem, ⟨3, _⟩ => ⟨S7x128, .f32⟩
  | .local _ .vmem, ⟨4, _⟩ => ⟨S14x4096, .f32⟩
  | .local _ .smem, ⟨0, _⟩ => ⟨S14, .i32⟩
  | .local _ .smem, ⟨1, _⟩ => ⟨S8, .i32⟩
  | .local _ .smem, ⟨2, _⟩ => ⟨S14, .f32⟩
  | _, _ => ⟨S7x1x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

def k0_off1 (v0 : BitVec 32) : Fin 1 → Nat :=
  let v1 : Index := Scalar.indexCast v0
  ![v1.toNat]

def k0_chk1 (v0 : BitVec 32) : Prop :=
  (∀ a, (k0_off1 v0) a + S1.size a ≤ S8.size a)
theorem k0_off1_inb : ∀ (v0 : BitVec 32) (k0_hw1 : k0_chk1 v0), ∀ a, (k0_off1 v0) a + S1.size a ≤ S8.size a := fun v0 k0_hw1 => k0_hw1

def k0_off2 (v2 : BitVec 32) : Fin 3 → Nat :=
  let c0_i32_0 : BitVec 32 := 0#32
  let v4 : BitVec 32 := Scalar.maxsi v2 c0_i32_0
  let v5 : Index := Scalar.indexCast v4
  let c0_1 : Index := 0#32
  let c0_2 : Index := 0#32
  ![v5.toNat, 0, 0]

def k0_chk2 (v2 : BitVec 32) : Prop :=
  (∀ a, (k0_off2 v2) a + S1x1x4096.size a ≤ S6x8x4096.size a)
theorem k0_off2_inb : ∀ (v2 : BitVec 32) (k0_hw2 : k0_chk2 v2), ∀ a, (k0_off2 v2) a + S1x1x4096.size a ≤ S6x8x4096.size a := fun v2 k0_hw2 => k0_hw2

def k0_off3 (v13 : BitVec 32) : Fin 1 → Nat :=
  let v14 : Index := Scalar.indexCast v13
  ![v14.toNat]

def k0_chk3 (v13 : BitVec 32) : Prop :=
  (∀ a, (k0_off3 v13) a + S1.size a ≤ S8.size a)
theorem k0_off3_inb : ∀ (v13 : BitVec 32) (k0_hw3 : k0_chk3 v13), ∀ a, (k0_off3 v13) a + S1.size a ≤ S8.size a := fun v13 k0_hw3 => k0_hw3

def k0_off4 (v15 : BitVec 32) : Fin 3 → Nat :=
  let c0_i32_9 : BitVec 32 := 0#32
  let v17 : BitVec 32 := Scalar.maxsi v15 c0_i32_9
  let v18 : Index := Scalar.indexCast v17
  let c0_10 : Index := 0#32
  let c0_11 : Index := 0#32
  ![v18.toNat, 0, 0]

def k0_chk4 (v15 : BitVec 32) : Prop :=
  (∀ a, (k0_off4 v15) a + S1x1x4096.size a ≤ S6x8x4096.size a)
theorem k0_off4_inb : ∀ (v15 : BitVec 32) (k0_hw4 : k0_chk4 v15), ∀ a, (k0_off4 v15) a + S1x1x4096.size a ≤ S6x8x4096.size a := fun v15 k0_hw4 => k0_hw4

def k0_off5 (v75 : BitVec 32) : Fin 1 → Nat :=
  let v76 : Index := Scalar.indexCast v75
  ![v76.toNat]

def k0_chk5 (v75 : BitVec 32) : Prop :=
  (∀ a, (k0_off5 v75) a + S1.size a ≤ S8.size a)
theorem k0_off5_inb : ∀ (v75 : BitVec 32) (k0_hw5 : k0_chk5 v75), ∀ a, (k0_off5 v75) a + S1.size a ≤ S8.size a := fun v75 k0_hw5 => k0_hw5

def k0_off6 (v77 : BitVec 32) : Fin 3 → Nat :=
  let c0_i32_37 : BitVec 32 := 0#32
  let v79 : BitVec 32 := Scalar.maxsi v77 c0_i32_37
  let v80 : Index := Scalar.indexCast v79
  let c1_38 : Index := 1#32
  let c0_39 : Index := 0#32
  ![v80.toNat, 1, 0]

def k0_chk6 (v77 : BitVec 32) : Prop :=
  (∀ a, (k0_off6 v77) a + S1x1x4096.size a ≤ S6x8x4096.size a)
theorem k0_off6_inb : ∀ (v77 : BitVec 32) (k0_hw6 : k0_chk6 v77), ∀ a, (k0_off6 v77) a + S1x1x4096.size a ≤ S6x8x4096.size a := fun v77 k0_hw6 => k0_hw6

def k0_off7 (v88 : BitVec 32) : Fin 1 → Nat :=
  let v89 : Index := Scalar.indexCast v88
  ![v89.toNat]

def k0_chk7 (v88 : BitVec 32) : Prop :=
  (∀ a, (k0_off7 v88) a + S1.size a ≤ S8.size a)
theorem k0_off7_inb : ∀ (v88 : BitVec 32) (k0_hw7 : k0_chk7 v88), ∀ a, (k0_off7 v88) a + S1.size a ≤ S8.size a := fun v88 k0_hw7 => k0_hw7

def k0_off8 (v90 : BitVec 32) : Fin 3 → Nat :=
  let c0_i32_47 : BitVec 32 := 0#32
  let v92 : BitVec 32 := Scalar.maxsi v90 c0_i32_47
  let v93 : Index := Scalar.indexCast v92
  let c1_48 : Index := 1#32
  let c0_49 : Index := 0#32
  ![v93.toNat, 1, 0]

def k0_chk8 (v90 : BitVec 32) : Prop :=
  (∀ a, (k0_off8 v90) a + S1x1x4096.size a ≤ S6x8x4096.size a)
theorem k0_off8_inb : ∀ (v90 : BitVec 32) (k0_hw8 : k0_chk8 v90), ∀ a, (k0_off8 v90) a + S1x1x4096.size a ≤ S6x8x4096.size a := fun v90 k0_hw8 => k0_hw8

def k0_off9 (v150 : BitVec 32) : Fin 1 → Nat :=
  let v151 : Index := Scalar.indexCast v150
  ![v151.toNat]

def k0_chk9 (v150 : BitVec 32) : Prop :=
  (∀ a, (k0_off9 v150) a + S1.size a ≤ S8.size a)
theorem k0_off9_inb : ∀ (v150 : BitVec 32) (k0_hw9 : k0_chk9 v150), ∀ a, (k0_off9 v150) a + S1.size a ≤ S8.size a := fun v150 k0_hw9 => k0_hw9

def k0_off10 (v152 : BitVec 32) : Fin 3 → Nat :=
  let c0_i32_75 : BitVec 32 := 0#32
  let v154 : BitVec 32 := Scalar.maxsi v152 c0_i32_75
  let v155 : Index := Scalar.indexCast v154
  let c2_76 : Index := 2#32
  let c0_77 : Index := 0#32
  ![v155.toNat, 2, 0]

def k0_chk10 (v152 : BitVec 32) : Prop :=
  (∀ a, (k0_off10 v152) a + S1x1x4096.size a ≤ S6x8x4096.size a)
theorem k0_off10_inb : ∀ (v152 : BitVec 32) (k0_hw10 : k0_chk10 v152), ∀ a, (k0_off10 v152) a + S1x1x4096.size a ≤ S6x8x4096.size a := fun v152 k0_hw10 => k0_hw10

def k0_off11 (v163 : BitVec 32) : Fin 1 → Nat :=
  let v164 : Index := Scalar.indexCast v163
  ![v164.toNat]

def k0_chk11 (v163 : BitVec 32) : Prop :=
  (∀ a, (k0_off11 v163) a + S1.size a ≤ S8.size a)
theorem k0_off11_inb : ∀ (v163 : BitVec 32) (k0_hw11 : k0_chk11 v163), ∀ a, (k0_off11 v163) a + S1.size a ≤ S8.size a := fun v163 k0_hw11 => k0_hw11

def k0_off12 (v165 : BitVec 32) : Fin 3 → Nat :=
  let c0_i32_85 : BitVec 32 := 0#32
  let v167 : BitVec 32 := Scalar.maxsi v165 c0_i32_85
  let v168 : Index := Scalar.indexCast v167
  let c2_86 : Index := 2#32
  let c0_87 : Index := 0#32
  ![v168.toNat, 2, 0]

def k0_chk12 (v165 : BitVec 32) : Prop :=
  (∀ a, (k0_off12 v165) a + S1x1x4096.size a ≤ S6x8x4096.size a)
theorem k0_off12_inb : ∀ (v165 : BitVec 32) (k0_hw12 : k0_chk12 v165), ∀ a, (k0_off12 v165) a + S1x1x4096.size a ≤ S6x8x4096.size a := fun v165 k0_hw12 => k0_hw12

def k0_off13 (v225 : BitVec 32) : Fin 1 → Nat :=
  let v226 : Index := Scalar.indexCast v225
  ![v226.toNat]

def k0_chk13 (v225 : BitVec 32) : Prop :=
  (∀ a, (k0_off13 v225) a + S1.size a ≤ S8.size a)
theorem k0_off13_inb : ∀ (v225 : BitVec 32) (k0_hw13 : k0_chk13 v225), ∀ a, (k0_off13 v225) a + S1.size a ≤ S8.size a := fun v225 k0_hw13 => k0_hw13

def k0_off14 (v227 : BitVec 32) : Fin 3 → Nat :=
  let c0_i32_113 : BitVec 32 := 0#32
  let v229 : BitVec 32 := Scalar.maxsi v227 c0_i32_113
  let v230 : Index := Scalar.indexCast v229
  let c3_114 : Index := 3#32
  let c0_115 : Index := 0#32
  ![v230.toNat, 3, 0]

def k0_chk14 (v227 : BitVec 32) : Prop :=
  (∀ a, (k0_off14 v227) a + S1x1x4096.size a ≤ S6x8x4096.size a)
theorem k0_off14_inb : ∀ (v227 : BitVec 32) (k0_hw14 : k0_chk14 v227), ∀ a, (k0_off14 v227) a + S1x1x4096.size a ≤ S6x8x4096.size a := fun v227 k0_hw14 => k0_hw14

def k0_off15 (v238 : BitVec 32) : Fin 1 → Nat :=
  let v239 : Index := Scalar.indexCast v238
  ![v239.toNat]

def k0_chk15 (v238 : BitVec 32) : Prop :=
  (∀ a, (k0_off15 v238) a + S1.size a ≤ S8.size a)
theorem k0_off15_inb : ∀ (v238 : BitVec 32) (k0_hw15 : k0_chk15 v238), ∀ a, (k0_off15 v238) a + S1.size a ≤ S8.size a := fun v238 k0_hw15 => k0_hw15

def k0_off16 (v240 : BitVec 32) : Fin 3 → Nat :=
  let c0_i32_123 : BitVec 32 := 0#32
  let v242 : BitVec 32 := Scalar.maxsi v240 c0_i32_123
  let v243 : Index := Scalar.indexCast v242
  let c3_124 : Index := 3#32
  let c0_125 : Index := 0#32
  ![v243.toNat, 3, 0]

def k0_chk16 (v240 : BitVec 32) : Prop :=
  (∀ a, (k0_off16 v240) a + S1x1x4096.size a ≤ S6x8x4096.size a)
theorem k0_off16_inb : ∀ (v240 : BitVec 32) (k0_hw16 : k0_chk16 v240), ∀ a, (k0_off16 v240) a + S1x1x4096.size a ≤ S6x8x4096.size a := fun v240 k0_hw16 => k0_hw16

def k0_off17 (v300 : BitVec 32) : Fin 1 → Nat :=
  let v301 : Index := Scalar.indexCast v300
  ![v301.toNat]

def k0_chk17 (v300 : BitVec 32) : Prop :=
  (∀ a, (k0_off17 v300) a + S1.size a ≤ S8.size a)
theorem k0_off17_inb : ∀ (v300 : BitVec 32) (k0_hw17 : k0_chk17 v300), ∀ a, (k0_off17 v300) a + S1.size a ≤ S8.size a := fun v300 k0_hw17 => k0_hw17

def k0_off18 (v302 : BitVec 32) : Fin 3 → Nat :=
  let c0_i32_151 : BitVec 32 := 0#32
  let v304 : BitVec 32 := Scalar.maxsi v302 c0_i32_151
  let v305 : Index := Scalar.indexCast v304
  let c4_152 : Index := 4#32
  let c0_153 : Index := 0#32
  ![v305.toNat, 4, 0]

def k0_chk18 (v302 : BitVec 32) : Prop :=
  (∀ a, (k0_off18 v302) a + S1x1x4096.size a ≤ S6x8x4096.size a)
theorem k0_off18_inb : ∀ (v302 : BitVec 32) (k0_hw18 : k0_chk18 v302), ∀ a, (k0_off18 v302) a + S1x1x4096.size a ≤ S6x8x4096.size a := fun v302 k0_hw18 => k0_hw18

def k0_off19 (v313 : BitVec 32) : Fin 1 → Nat :=
  let v314 : Index := Scalar.indexCast v313
  ![v314.toNat]

def k0_chk19 (v313 : BitVec 32) : Prop :=
  (∀ a, (k0_off19 v313) a + S1.size a ≤ S8.size a)
theorem k0_off19_inb : ∀ (v313 : BitVec 32) (k0_hw19 : k0_chk19 v313), ∀ a, (k0_off19 v313) a + S1.size a ≤ S8.size a := fun v313 k0_hw19 => k0_hw19

def k0_off20 (v315 : BitVec 32) : Fin 3 → Nat :=
  let c0_i32_161 : BitVec 32 := 0#32
  let v317 : BitVec 32 := Scalar.maxsi v315 c0_i32_161
  let v318 : Index := Scalar.indexCast v317
  let c4_162 : Index := 4#32
  let c0_163 : Index := 0#32
  ![v318.toNat, 4, 0]

def k0_chk20 (v315 : BitVec 32) : Prop :=
  (∀ a, (k0_off20 v315) a + S1x1x4096.size a ≤ S6x8x4096.size a)
theorem k0_off20_inb : ∀ (v315 : BitVec 32) (k0_hw20 : k0_chk20 v315), ∀ a, (k0_off20 v315) a + S1x1x4096.size a ≤ S6x8x4096.size a := fun v315 k0_hw20 => k0_hw20

def k0_off21 (v375 : BitVec 32) : Fin 1 → Nat :=
  let v376 : Index := Scalar.indexCast v375
  ![v376.toNat]

def k0_chk21 (v375 : BitVec 32) : Prop :=
  (∀ a, (k0_off21 v375) a + S1.size a ≤ S8.size a)
theorem k0_off21_inb : ∀ (v375 : BitVec 32) (k0_hw21 : k0_chk21 v375), ∀ a, (k0_off21 v375) a + S1.size a ≤ S8.size a := fun v375 k0_hw21 => k0_hw21

def k0_off22 (v377 : BitVec 32) : Fin 3 → Nat :=
  let c0_i32_189 : BitVec 32 := 0#32
  let v379 : BitVec 32 := Scalar.maxsi v377 c0_i32_189
  let v380 : Index := Scalar.indexCast v379
  let c5_190 : Index := 5#32
  let c0_191 : Index := 0#32
  ![v380.toNat, 5, 0]

def k0_chk22 (v377 : BitVec 32) : Prop :=
  (∀ a, (k0_off22 v377) a + S1x1x4096.size a ≤ S6x8x4096.size a)
theorem k0_off22_inb : ∀ (v377 : BitVec 32) (k0_hw22 : k0_chk22 v377), ∀ a, (k0_off22 v377) a + S1x1x4096.size a ≤ S6x8x4096.size a := fun v377 k0_hw22 => k0_hw22

def k0_off23 (v388 : BitVec 32) : Fin 1 → Nat :=
  let v389 : Index := Scalar.indexCast v388
  ![v389.toNat]

def k0_chk23 (v388 : BitVec 32) : Prop :=
  (∀ a, (k0_off23 v388) a + S1.size a ≤ S8.size a)
theorem k0_off23_inb : ∀ (v388 : BitVec 32) (k0_hw23 : k0_chk23 v388), ∀ a, (k0_off23 v388) a + S1.size a ≤ S8.size a := fun v388 k0_hw23 => k0_hw23

def k0_off24 (v390 : BitVec 32) : Fin 3 → Nat :=
  let c0_i32_199 : BitVec 32 := 0#32
  let v392 : BitVec 32 := Scalar.maxsi v390 c0_i32_199
  let v393 : Index := Scalar.indexCast v392
  let c5_200 : Index := 5#32
  let c0_201 : Index := 0#32
  ![v393.toNat, 5, 0]

def k0_chk24 (v390 : BitVec 32) : Prop :=
  (∀ a, (k0_off24 v390) a + S1x1x4096.size a ≤ S6x8x4096.size a)
theorem k0_off24_inb : ∀ (v390 : BitVec 32) (k0_hw24 : k0_chk24 v390), ∀ a, (k0_off24 v390) a + S1x1x4096.size a ≤ S6x8x4096.size a := fun v390 k0_hw24 => k0_hw24

def k0_off25 (v450 : BitVec 32) : Fin 1 → Nat :=
  let v451 : Index := Scalar.indexCast v450
  ![v451.toNat]

def k0_chk25 (v450 : BitVec 32) : Prop :=
  (∀ a, (k0_off25 v450) a + S1.size a ≤ S8.size a)
theorem k0_off25_inb : ∀ (v450 : BitVec 32) (k0_hw25 : k0_chk25 v450), ∀ a, (k0_off25 v450) a + S1.size a ≤ S8.size a := fun v450 k0_hw25 => k0_hw25

def k0_off26 (v452 : BitVec 32) : Fin 3 → Nat :=
  let c0_i32_227 : BitVec 32 := 0#32
  let v454 : BitVec 32 := Scalar.maxsi v452 c0_i32_227
  let v455 : Index := Scalar.indexCast v454
  let c6_228 : Index := 6#32
  let c0_229 : Index := 0#32
  ![v455.toNat, 6, 0]

def k0_chk26 (v452 : BitVec 32) : Prop :=
  (∀ a, (k0_off26 v452) a + S1x1x4096.size a ≤ S6x8x4096.size a)
theorem k0_off26_inb : ∀ (v452 : BitVec 32) (k0_hw26 : k0_chk26 v452), ∀ a, (k0_off26 v452) a + S1x1x4096.size a ≤ S6x8x4096.size a := fun v452 k0_hw26 => k0_hw26

def k0_off27 (v463 : BitVec 32) : Fin 1 → Nat :=
  let v464 : Index := Scalar.indexCast v463
  ![v464.toNat]

def k0_chk27 (v463 : BitVec 32) : Prop :=
  (∀ a, (k0_off27 v463) a + S1.size a ≤ S8.size a)
theorem k0_off27_inb : ∀ (v463 : BitVec 32) (k0_hw27 : k0_chk27 v463), ∀ a, (k0_off27 v463) a + S1.size a ≤ S8.size a := fun v463 k0_hw27 => k0_hw27

def k0_off28 (v465 : BitVec 32) : Fin 3 → Nat :=
  let c0_i32_237 : BitVec 32 := 0#32
  let v467 : BitVec 32 := Scalar.maxsi v465 c0_i32_237
  let v468 : Index := Scalar.indexCast v467
  let c6_238 : Index := 6#32
  let c0_239 : Index := 0#32
  ![v468.toNat, 6, 0]

def k0_chk28 (v465 : BitVec 32) : Prop :=
  (∀ a, (k0_off28 v465) a + S1x1x4096.size a ≤ S6x8x4096.size a)
theorem k0_off28_inb : ∀ (v465 : BitVec 32) (k0_hw28 : k0_chk28 v465), ∀ a, (k0_off28 v465) a + S1x1x4096.size a ≤ S6x8x4096.size a := fun v465 k0_hw28 => k0_hw28

abbrev stage0_0 : Fin 1 → Memref sig .tc .smem S14 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== BlendIdeal.lean ====
abbrev S7x1x2 : Shape := ⟨3, ![7, 1, 2]⟩
abbrev S8 : Shape := ⟨1, ![8]⟩
abbrev S6x8x4096 : Shape := ⟨3, ![6, 8, 4096]⟩
abbrev S1x8x4096 : Shape := ⟨3, ![1, 8, 4096]⟩
abbrev S_ : Shape := ⟨0, ![]⟩
abbrev S7x1x2x1 : Shape := ⟨4, ![7, 1, 2, 1]⟩
abbrev S7x2 : Shape := ⟨2, ![7, 2]⟩
abbrev S7 : Shape := ⟨1, ![7]⟩
abbrev S7x1 : Shape := ⟨2, ![7, 1]⟩
abbrev S7x2x1 : Shape := ⟨3, ![7, 2, 1]⟩
abbrev S7x2x2 : Shape := ⟨3, ![7, 2, 2]⟩
abbrev S7x2x4096 : Shape := ⟨3, ![7, 2, 4096]⟩
abbrev S7x4096 : Shape := ⟨2, ![7, 4096]⟩
abbrev S1x7x4096 : Shape := ⟨3, ![1, 7, 4096]⟩
abbrev S7x1x4096 : Shape := ⟨3, ![7, 1, 4096]⟩
abbrev S7x1x2x4096 : Shape := ⟨4, ![7, 1, 2, 4096]⟩

abbrev nBuf : Space → Nat
  | .hbm => 78
  | .vmem => 0
  | .smem => 0
  | _ => 0

abbrev bufTy : (tb : Table) → Fin (tcTables nBuf tb) → BufTy
  | .hbm, ⟨0, _⟩ => ⟨S7x1x2, .i32⟩
  | .hbm, ⟨1, _⟩ => ⟨S7x1x2, .f32⟩
  | .hbm, ⟨2, _⟩ => ⟨S8, .i32⟩
  | .hbm, ⟨3, _⟩ => ⟨S6x8x4096, .f32⟩
  | .hbm, ⟨4, _⟩ => ⟨S1x8x4096, .f32⟩
  | .hbm, ⟨5, _⟩ => ⟨S_, .i32⟩
  | .hbm, ⟨6, _⟩ => ⟨S7x1x2, .i32⟩
  | .hbm, ⟨7, _⟩ => ⟨S7x1x2, .i1⟩
  | .hbm, ⟨8, _⟩ => ⟨S_, .i32⟩
  | .hbm, ⟨9, _⟩ => ⟨S7x1x2, .i32⟩
  | .hbm, ⟨10, _⟩ => ⟨S7x1x2, .i32⟩
  | .hbm, ⟨11, _⟩ => ⟨S7x1x2, .i32⟩
  | .hbm, ⟨12, _⟩ => ⟨S7x1x2x1, .i32⟩
  | .hbm, ⟨13, _⟩ => ⟨S7x1x2, .i32⟩
  | .hbm, ⟨14, _⟩ => ⟨S7x2, .i32⟩
  | .hbm, ⟨15, _⟩ => ⟨S_, .i32⟩
  | .hbm, ⟨16, _⟩ => ⟨S7x2, .i32⟩
  | .hbm, ⟨17, _⟩ => ⟨S7x2, .i1⟩
  | .hbm, ⟨18, _⟩ => ⟨S7x2, .f32⟩
  | .hbm, ⟨19, _⟩ => ⟨S7x2, .f32⟩
  | .hbm, ⟨20, _⟩ => ⟨S_, .f32⟩
  | .hbm, ⟨21, _⟩ => ⟨S7x2, .f32⟩
  | .hbm, ⟨22, _⟩ => ⟨S7x2, .f32⟩
  | .hbm, ⟨23, _⟩ => ⟨S7x2, .f32⟩
  | .hbm, ⟨24, _⟩ => ⟨S_, .f32⟩
  | .hbm, ⟨25, _⟩ => ⟨S7, .f32⟩
  | .hbm, ⟨26, _⟩ => ⟨S7x2, .f32⟩
  | .hbm, ⟨27, _⟩ => ⟨S_, .f32⟩
  | .hbm, ⟨28, _⟩ => ⟨S7, .f32⟩
  | .hbm, ⟨29, _⟩ => ⟨S7x2, .f32⟩
  | .hbm, ⟨30, _⟩ => ⟨S_, .f32⟩
  | .hbm, ⟨31, _⟩ => ⟨S7, .f32⟩
  | .hbm, ⟨32, _⟩ => ⟨S7, .i1⟩
  | .hbm, ⟨33, _⟩ => ⟨S_, .f32⟩
  | .hbm, ⟨34, _⟩ => ⟨S_, .f32⟩
  | .hbm, ⟨35, _⟩ => ⟨S7, .f32⟩
  | .hbm, ⟨36, _⟩ => ⟨S7, .f32⟩
  | .hbm, ⟨37, _⟩ => ⟨S7x1, .f32⟩
  | .hbm, ⟨38, _⟩ => ⟨S7x2, .f32⟩
  | .hbm, ⟨39, _⟩ => ⟨S7x2, .f32⟩
  | .hbm, ⟨40, _⟩ => ⟨S7, .i32⟩
  | .hbm, ⟨41, _⟩ => ⟨S7x1, .i32⟩
  | .hbm, ⟨42, _⟩ => ⟨S7x2x1, .i1⟩
  | .hbm, ⟨43, _⟩ => ⟨S_, .i32⟩
  | .hbm, ⟨44, _⟩ => ⟨S7x2, .i32⟩
  | .hbm, ⟨45, _⟩ => ⟨S7x2, .i32⟩
  | .hbm, ⟨46, _⟩ => ⟨S_, .i32⟩
  | .hbm, ⟨47, _⟩ => ⟨S7x2, .i32⟩
  | .hbm, ⟨48, _⟩ => ⟨S7x2, .i1⟩
  | .hbm, ⟨49, _⟩ => ⟨S_, .i32⟩
  | .hbm, ⟨50, _⟩ => ⟨S7x2, .i32⟩
  | .hbm, ⟨51, _⟩ => ⟨S7x2, .i32⟩
  | .hbm, ⟨52, _⟩ => ⟨S7x2, .i32⟩
  | .hbm, ⟨53, _⟩ => ⟨S_, .i32⟩
  | .hbm, ⟨54, _⟩ => ⟨S7x1, .i32⟩
  | .hbm, ⟨55, _⟩ => ⟨S7x1, .i1⟩
  | .hbm, ⟨56, _⟩ => ⟨S_, .i32⟩
  | .hbm, ⟨57, _⟩ => ⟨S7x1, .i32⟩
  | .hbm, ⟨58, _⟩ => ⟨S7x1, .i32⟩
  | .hbm, ⟨59, _⟩ => ⟨S7x1, .i32⟩
  | .hbm, ⟨60, _⟩ => ⟨S7x2, .i32⟩
  | .hbm, ⟨61, _⟩ => ⟨S7x2x1, .i32⟩
  | .hbm, ⟨62, _⟩ => ⟨S7x2x1, .i32⟩
  | .hbm, ⟨63, _⟩ => ⟨S7x2x2, .i32⟩
  | .hbm, ⟨64, _⟩ => ⟨S7x2x4096, .f32⟩
  | .hbm, ⟨65, _⟩ => ⟨S_, .f32⟩
  | .hbm, ⟨66, _⟩ => ⟨S_, .f32⟩
  | .hbm, ⟨67, _⟩ => ⟨S7x2x4096, .i1⟩
  | .hbm, ⟨68, _⟩ => ⟨S7x2x4096, .f32⟩
  | .hbm, ⟨69, _⟩ => ⟨S7x2x4096, .f32⟩
  | .hbm, ⟨70, _⟩ => ⟨S7x4096, .f32⟩
  | .hbm, ⟨71, _⟩ => ⟨S1x7x4096, .f32⟩
  | .hbm, ⟨72, _⟩ => ⟨S7x4096, .f32⟩
  | .hbm, ⟨73, _⟩ => ⟨S7x4096, .f32⟩
  | .hbm, ⟨74, _⟩ => ⟨S7x1x4096, .f32⟩
  | .hbm, ⟨75, _⟩ => ⟨S7x1x4096, .bf16⟩
  | .hbm, ⟨76, _⟩ => ⟨S7x1, .f32⟩
  | .hbm, ⟨77, _⟩ => ⟨S7x1x2x4096, .f32⟩
  | _, _ => ⟨S7x1x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Shared.lean ====
abbrev S7x1x4096 : Shape := ⟨3, ![7, 1, 4096]⟩
abbrev S4096x14336 : Shape := ⟨2, ![4096, 14336]⟩
abbrev S32x14336 : Shape := ⟨2, ![32, 14336]⟩
abbrev S14336x2048 : Shape := ⟨2, ![14336, 2048]⟩
abbrev S112x4096 : Shape := ⟨2, ![112, 4096]⟩
abbrev S1x4096x14336 : Shape := ⟨3, ![1, 4096, 14336]⟩
abbrev S1x32x14336 : Shape := ⟨3, ![1, 32, 14336]⟩
abbrev S1x14336x2048 : Shape := ⟨3, ![1, 14336, 2048]⟩
abbrev S1x112x4096 : Shape := ⟨3, ![1, 112, 4096]⟩
abbrev S7x4096 : Shape := ⟨2, ![7, 4096]⟩
abbrev S_ : Shape := ⟨0, ![]⟩
abbrev S8x4096 : Shape := ⟨2, ![8, 4096]⟩
abbrev S8x4096x1 : Shape := ⟨3, ![8, 4096, 1]⟩
abbrev S8x4096x2 : Shape := ⟨3, ![8, 4096, 2]⟩
abbrev S8x8192 : Shape := ⟨2, ![8, 8192]⟩
abbrev S16x8192 : Shape := ⟨2, ![16, 8192]⟩
abbrev S1x8x4096 : Shape := ⟨3, ![1, 8, 4096]⟩
abbrev S1x4096x512 : Shape := ⟨3, ![1, 4096, 512]⟩
abbrev S1x32x512 : Shape := ⟨3, ![1, 32, 512]⟩
abbrev S1x512x2048 : Shape := ⟨3, ![1, 512, 2048]⟩
abbrev S32x512 : Shape := ⟨2, ![32, 512]⟩
abbrev S112x2048 : Shape := ⟨2, ![112, 2048]⟩
abbrev S16x1024 : Shape := ⟨2, ![16, 1024]⟩
abbrev S1x112x2048 : Shape := ⟨3, ![1, 112, 2048]⟩
abbrev S16x512 : Shape := ⟨2, ![16, 512]⟩
abbrev S1x128x512 : Shape := ⟨3, ![1, 128, 512]⟩
abbrev S128x512 : Shape := ⟨2, ![128, 512]⟩
abbrev S1x512 : Shape := ⟨2, ![1, 512]⟩
abbrev S128x1x512 : Shape := ⟨3, ![128, 1, 512]⟩
abbrev S128x2x512 : Shape := ⟨3, ![128, 2, 512]⟩
abbrev S256x512 : Shape := ⟨2, ![256, 512]⟩
abbrev S2x512 : Shape := ⟨2, ![2, 512]⟩
abbrev S1x2x512 : Shape := ⟨3, ![1, 2, 512]⟩
abbrev S2048x512 : Shape := ⟨2, ![2048, 512]⟩
abbrev S16x2048 : Shape := ⟨2, ![16, 2048]⟩
abbrev S8x512 : Shape := ⟨2, ![8, 512]⟩
abbrev S128x256 : Shape := ⟨2, ![128, 256]⟩
abbrev S8x128 : Shape := ⟨2, ![8, 128]⟩
abbrev S8x256 : Shape := ⟨2, ![8, 256]⟩
abbrev S16x256 : Shape := ⟨2, ![16, 256]⟩
abbrev S1024x512 : Shape := ⟨2, ![1024, 512]⟩
abbrev S1x8x512 : Shape := ⟨3, ![1, 8, 512]⟩

abbrev nBuf : Space → Nat
  | .hbm => 27
  | .vmem => 14
  | .smem => 0
  | _ => 0

abbrev bufTy : (tb : Table) → Fin (tcTables nBuf tb) → BufTy
  | .hbm, ⟨0, _⟩ => ⟨S7x1x4096, .bf16⟩
  | .hbm, ⟨1, _⟩ => ⟨S4096x14336, .i8⟩
  | .hbm, ⟨2, _⟩ => ⟨S32x14336, .bf16⟩
  | .hbm, ⟨3, _⟩ => ⟨S32x14336, .bf16⟩
  | .hbm, ⟨4, _⟩ => ⟨S14336x2048, .i8⟩
  | .hbm, ⟨5, _⟩ => ⟨S112x4096, .bf16⟩
  | .hbm, ⟨6, _⟩ => ⟨S1x4096x14336, .i8⟩
  | .hbm, ⟨7, _⟩ => ⟨S1x32x14336, .bf16⟩
  | .hbm, ⟨8, _⟩ => ⟨S1x32x14336, .bf16⟩
  | .hbm, ⟨9, _⟩ => ⟨S1x14336x2048, .i8⟩
  | .hbm, ⟨10, _⟩ => ⟨S1x112x4096, .bf16⟩
  | .hbm, ⟨11, _⟩ => ⟨S7x4096, .bf16⟩
  | .hbm, ⟨12, _⟩ => ⟨S_, .i32⟩
  | .hbm, ⟨13, _⟩ => ⟨S_, .bf16⟩
  | .hbm, ⟨14, _⟩ => ⟨S8x4096, .bf16⟩
  | .hbm, ⟨15, _⟩ => ⟨S_, .bf16⟩
  | .hbm, ⟨16, _⟩ => ⟨S8x4096, .bf16⟩
  | .hbm, ⟨17, _⟩ => ⟨S8x4096x1, .bf16⟩
  | .hbm, ⟨18, _⟩ => ⟨S8x4096x1, .bf16⟩
  | .hbm, ⟨19, _⟩ => ⟨S8x4096x2, .bf16⟩
  | .hbm, ⟨20, _⟩ => ⟨S8x8192, .bf16⟩
  | .hbm, ⟨21, _⟩ => ⟨S8x4096x1, .bf16⟩
  | .hbm, ⟨22, _⟩ => ⟨S8x4096x1, .bf16⟩
  | .hbm, ⟨23, _⟩ => ⟨S8x4096x2, .bf16⟩
  | .hbm, ⟨24, _⟩ => ⟨S8x8192, .bf16⟩
  | .hbm, ⟨25, _⟩ => ⟨S16x8192, .bf16⟩
  | .hbm, ⟨26, _⟩ => ⟨S1x8x4096, .f32⟩
  | .local _ .vmem, ⟨0, _⟩ => ⟨S16x8192, .bf16⟩
  | .local _ .vmem, ⟨1, _⟩ => ⟨S1x4096x512, .i8⟩
  | .local _ .vmem, ⟨2, _⟩ => ⟨S1x4096x512, .i8⟩
  | .local _ .vmem, ⟨3, _⟩ => ⟨S1x32x512, .bf16⟩
  | .local _ .vmem, ⟨4, _⟩ => ⟨S1x32x512, .bf16⟩
  | .local _ .vmem, ⟨5, _⟩ => ⟨S1x32x512, .bf16⟩
  | .local _ .vmem, ⟨6, _⟩ => ⟨S1x32x512, .bf16⟩
  | .local _ .vmem, ⟨7, _⟩ => ⟨S1x512x2048, .i8⟩
  | .local _ .vmem, ⟨8, _⟩ => ⟨S1x512x2048, .i8⟩
  | .local _ .vmem, ⟨9, _⟩ => ⟨S1x112x4096, .bf16⟩
  | .local _ .vmem, ⟨10, _⟩ => ⟨S1x8x4096, .f32⟩
  | .local _ .vmem, ⟨11, _⟩ => ⟨S32x512, .i32⟩
  | .local _ .vmem, ⟨12, _⟩ => ⟨S112x2048, .i32⟩
  | .local _ .vmem, ⟨13, _⟩ => ⟨S16x1024, .bf16⟩
  | _, _ => ⟨S7x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [BitOps F]

abbrev grid0 : Pipeline.Grid := ⟨2, ![1, 28], ![false, false]⟩

@[reducible] def k0_t1_loop : Scf.Loop 32 :=
  let c0_i32 : BitVec 32 := 0#32
  let c4_i32 : BitVec 32 := 4#32
  let v29 : BitVec 32 := Scalar.addi c0_i32 c4_i32
  let c1_i32 : BitVec 32 := 1#32
  ⟨c0_i32, v29, c1_i32⟩
def k0_off1 (k0_t1 : Fin k0_t1_loop.trips) (c0_i32_228 : BitVec 32) : Fin 3 → Nat :=
  let c0_229 : Index := 0#32
  let c0_i32 : BitVec 32 := 0#32
  let c1_i32 : BitVec 32 := 1#32
  let arg12 : BitVec 32 := Scf.iv c0_i32 c1_i32 k0_t1
  let c8_i32 : BitVec 32 := 8#32
  let v524 : BitVec 32 := Scalar.muli arg12 c8_i32
  let v525 : BitVec 32 := Scalar.addi v524 c0_i32_228
  let c128_i32 : BitVec 32 := 128#32
  let v526 : BitVec 32 := Scalar.muli v525 c128_i32
  let v527 : Index := Scalar.indexCast v526
  let c0_230 : Index := 0#32
  ![0, v527.toNat, 0]
def k0_off2 (k0_t1 : Fin k0_t1_loop.trips) (c0_i32_228 : BitVec 32) : Fin 2 → Nat :=
  let c0_i32 : BitVec 32 := 0#32
  let c1_i32 : BitVec 32 := 1#32
  let arg12 : BitVec 32 := Scf.iv c0_i32 c1_i32 k0_t1
  let c8_i32 : BitVec 32 := 8#32
  let v524 : BitVec 32 := Scalar.muli arg12 c8_i32
  let v525 : BitVec 32 := Scalar.addi v524 c0_i32_228
  let v530 : Index := Scalar.indexCast v525
  let c0_231 : Index := 0#32
  ![v530.toNat, 0]
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c2048_i32 : BitVec 32 := 2048#32
  let v725 : BitVec 32 := Scalar.muli arg12 c2048_i32
  v725
def k0_off3 (k0_t1 : Fin k0_t1_loop.trips) : Fin 2 → Nat :=
  let c0_295 : Index := 0#32
  let c0_i32 : BitVec 32 := 0#32
  let c1_i32 : BitVec 32 := 1#32
  let arg12 : BitVec 32 := Scf.iv c0_i32 c1_i32 k0_t1
  let c2048_i32 : BitVec 32 := 2048#32
  let v725 : BitVec 32 := Scalar.muli arg12 c2048_i32
  let v726 : BitVec 32 := v725
  let v727 : Index := Scalar.indexCast v726
  ![0, v727.toNat]
def k0_off4 (i : grid0.Coords) (c0_i32_37 : BitVec 32) : Fin 2 → Nat :=
  let arg1 : BitVec 32 := BitVec.ofNat 32 (i 1).val
  let c4_i32_36 : BitVec 32 := 4#32
  let v90 : BitVec 32 := Scalar.muli arg1 c4_i32_36
  let v91 : BitVec 32 := Scalar.addi v90 c0_i32_37
  let v92 : Index := Scalar.indexCast v91
  let c0_38 : Index := 0#32
  ![v92.toNat, 0]
def k0_off5 (i : grid0.Coords) (c0_i32_84 : BitVec 32) : Fin 2 → Nat :=
  let arg1 : BitVec 32 := BitVec.ofNat 32 (i 1).val
  let c4_i32_83 : BitVec 32 := 4#32
  let v199 : BitVec 32 := Scalar.muli arg1 c4_i32_83
  let v200 : BitVec 32 := Scalar.addi v199 c0_i32_84
  let v201 : Index := Scalar.indexCast v200
  let c512_85 : Index := 512#32
  ![v201.toNat, 512]
def k0_off6 (i : grid0.Coords) (c0_i32_133 : BitVec 32) : Fin 2 → Nat :=
  let arg1 : BitVec 32 := BitVec.ofNat 32 (i 1).val
  let c4_i32_132 : BitVec 32 := 4#32
  let v308 : BitVec 32 := Scalar.muli arg1 c4_i32_132
  let v309 : BitVec 32 := Scalar.addi v308 c0_i32_133
  let v310 : Index := Scalar.indexCast v309
  let c1024_134 : Index := 1024#32
  ![v310.toNat, 1024]
def k0_off7 (i : grid0.Coords) (c0_i32_182 : BitVec 32) : Fin 2 → Nat :=
  let arg1 : BitVec 32 := BitVec.ofNat 32 (i 1).val
  let c4_i32_181 : BitVec 32 := 4#32
  let v417 : BitVec 32 := Scalar.muli arg1 c4_i32_181
  let v418 : BitVec 32 := Scalar.addi v417 c0_i32_182
  let v419 : Index := Scalar.indexCast v418
  let c1536_183 : Index := 1536#32
  ![v419.toNat, 1536]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x112x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== SharedIdeal.lean ====
abbrev S7x1x4096 : Shape := ⟨3, ![7, 1, 4096]⟩
abbrev S4096x14336 : Shape := ⟨2, ![4096, 14336]⟩
abbrev S32x14336 : Shape := ⟨2, ![32, 14336]⟩
abbrev S14336x2048 : Shape := ⟨2, ![14336, 2048]⟩
abbrev S112x4096 : Shape := ⟨2, ![112, 4096]⟩
abbrev S1x4096x14336 : Shape := ⟨3, ![1, 4096, 14336]⟩
abbrev S1x32x14336 : Shape := ⟨3, ![1, 32, 14336]⟩
abbrev S1x14336x2048 : Shape := ⟨3, ![1, 14336, 2048]⟩
abbrev S1x112x4096 : Shape := ⟨3, ![1, 112, 4096]⟩
abbrev S7x4096 : Shape := ⟨2, ![7, 4096]⟩
abbrev S_ : Shape := ⟨0, ![]⟩
abbrev S8x4096 : Shape := ⟨2, ![8, 4096]⟩
abbrev S8x4096x1 : Shape := ⟨3, ![8, 4096, 1]⟩
abbrev S8x4096x2 : Shape := ⟨3, ![8, 4096, 2]⟩
abbrev S8x8192 : Shape := ⟨2, ![8, 8192]⟩
abbrev S16x8192 : Shape := ⟨2, ![16, 8192]⟩
abbrev S1x8x4096 : Shape := ⟨3, ![1, 8, 4096]⟩
abbrev S1x4096x512 : Shape := ⟨3, ![1, 4096, 512]⟩
abbrev S1x32x512 : Shape := ⟨3, ![1, 32, 512]⟩
abbrev S1x512x2048 : Shape := ⟨3, ![1, 512, 2048]⟩
abbrev S32x512 : Shape := ⟨2, ![32, 512]⟩
abbrev S32x2x512 : Shape := ⟨3, ![32, 2, 512]⟩
abbrev S32x1x512 : Shape := ⟨3, ![32, 1, 512]⟩
abbrev S112x2048 : Shape := ⟨2, ![112, 2048]⟩
abbrev S112x2x2048 : Shape := ⟨3, ![112, 2, 2048]⟩
abbrev S112x1x2048 : Shape := ⟨3, ![112, 1, 2048]⟩
abbrev S16x1024 : Shape := ⟨2, ![16, 1024]⟩
abbrev S1x112x2048 : Shape := ⟨3, ![1, 112, 2048]⟩
abbrev S16x512 : Shape := ⟨2, ![16, 512]⟩
abbrev S1x128x512 : Shape := ⟨3, ![1, 128, 512]⟩
abbrev S128x512 : Shape := ⟨2, ![128, 512]⟩
abbrev S1x512 : Shape := ⟨2, ![1, 512]⟩
abbrev S1x2x512 : Shape := ⟨3, ![1, 2, 512]⟩
abbrev S1x1x512 : Shape := ⟨3, ![1, 1, 512]⟩
abbrev S128x1x512 : Shape := ⟨3, ![128, 1, 512]⟩
abbrev S128x2x512 : Shape := ⟨3, ![128, 2, 512]⟩
abbrev S256x512 : Shape := ⟨2, ![256, 512]⟩
abbrev S2x512 : Shape := ⟨2, ![2, 512]⟩
abbrev S2048x512 : Shape := ⟨2, ![2048, 512]⟩
abbrev S16x2048 : Shape := ⟨2, ![16, 2048]⟩
abbrev S8x512 : Shape := ⟨2, ![8, 512]⟩
abbrev S128x256 : Shape := ⟨2, ![128, 256]⟩
abbrev S8x128 : Shape := ⟨2, ![8, 128]⟩
abbrev S8x256 : Shape := ⟨2, ![8, 256]⟩
abbrev S16x256 : Shape := ⟨2, ![16, 256]⟩
abbrev S1024x512 : Shape := ⟨2, ![1024, 512]⟩
abbrev S1x8x512 : Shape := ⟨3, ![1, 8, 512]⟩

abbrev nBuf : Space → Nat
  | .hbm => 27
  | .vmem => 14
  | .smem => 0
  | _ => 0

abbrev bufTy : (tb : Table) → Fin (tcTables nBuf tb) → BufTy
  | .hbm, ⟨0, _⟩ => ⟨S7x1x4096, .bf16⟩
  | .hbm, ⟨1, _⟩ => ⟨S4096x14336, .i8⟩
  | .hbm, ⟨2, _⟩ => ⟨S32x14336, .bf16⟩
  | .hbm, ⟨3, _⟩ => ⟨S32x14336, .bf16⟩
  | .hbm, ⟨4, _⟩ => ⟨S14336x2048, .i8⟩
  | .hbm, ⟨5, _⟩ => ⟨S112x4096, .bf16⟩
  | .hbm, ⟨6, _⟩ => ⟨S1x4096x14336, .i8⟩
  | .hbm, ⟨7, _⟩ => ⟨S1x32x14336, .bf16⟩
  | .hbm, ⟨8, _⟩ => ⟨S1x32x14336, .bf16⟩
  | .hbm, ⟨9, _⟩ => ⟨S1x14336x2048, .i8⟩
  | .hbm, ⟨10, _⟩ => ⟨S1x112x4096, .bf16⟩
  | .hbm, ⟨11, _⟩ => ⟨S7x4096, .bf16⟩
  | .hbm, ⟨12, _⟩ => ⟨S_, .i32⟩
  | .hbm, ⟨13, _⟩ => ⟨S_, .bf16⟩
  | .hbm, ⟨14, _⟩ => ⟨S8x4096, .bf16⟩
  | .hbm, ⟨15, _⟩ => ⟨S_, .bf16⟩
  | .hbm, ⟨16, _⟩ => ⟨S8x4096, .bf16⟩
  | .hbm, ⟨17, _⟩ => ⟨S8x4096x1, .bf16⟩
  | .hbm, ⟨18, _⟩ => ⟨S8x4096x1, .bf16⟩
  | .hbm, ⟨19, _⟩ => ⟨S8x4096x2, .bf16⟩
  | .hbm, ⟨20, _⟩ => ⟨S8x8192, .bf16⟩
  | .hbm, ⟨21, _⟩ => ⟨S8x4096x1, .bf16⟩
  | .hbm, ⟨22, _⟩ => ⟨S8x4096x1, .bf16⟩
  | .hbm, ⟨23, _⟩ => ⟨S8x4096x2, .bf16⟩
  | .hbm, ⟨24, _⟩ => ⟨S8x8192, .bf16⟩
  | .hbm, ⟨25, _⟩ => ⟨S16x8192, .bf16⟩
  | .hbm, ⟨26, _⟩ => ⟨S1x8x4096, .f32⟩
  | .local _ .vmem, ⟨0, _⟩ => ⟨S16x8192, .bf16⟩
  | .local _ .vmem, ⟨1, _⟩ => ⟨S1x4096x512, .i8⟩
  | .local _ .vmem, ⟨2, _⟩ => ⟨S1x4096x512, .i8⟩
  | .local _ .vmem, ⟨3, _⟩ => ⟨S1x32x512, .bf16⟩
  | .local _ .vmem, ⟨4, _⟩ => ⟨S1x32x512, .bf16⟩
  | .local _ .vmem, ⟨5, _⟩ => ⟨S1x32x512, .bf16⟩
  | .local _ .vmem, ⟨6, _⟩ => ⟨S1x32x512, .bf16⟩
  | .local _ .vmem, ⟨7, _⟩ => ⟨S1x512x2048, .i8⟩
  | .local _ .vmem, ⟨8, _⟩ => ⟨S1x512x2048, .i8⟩
  | .local _ .vmem, ⟨9, _⟩ => ⟨S1x112x4096, .bf16⟩
  | .local _ .vmem, ⟨10, _⟩ => ⟨S1x8x4096, .f32⟩
  | .local _ .vmem, ⟨11, _⟩ => ⟨S32x2x512, .bf16⟩
  | .local _ .vmem, ⟨12, _⟩ => ⟨S112x2x2048, .bf16⟩
  | .local _ .vmem, ⟨13, _⟩ => ⟨S16x1024, .bf16⟩
  | _, _ => ⟨S7x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![1, 28], ![false, false]⟩

@[reducible] def k0_t1_loop : Scf.Loop 32 :=
  let c0_i32 : BitVec 32 := 0#32
  let c4_i32 : BitVec 32 := 4#32
  let v29 : BitVec 32 := Scalar.addi c0_i32 c4_i32
  let c1_i32 : BitVec 32 := 1#32
  ⟨c0_i32, v29, c1_i32⟩
def k0_off1 (k0_t1 : Fin k0_t1_loop.trips) (c0_i32_228 : BitVec 32) : Fin 3 → Nat :=
  let c0_229 : Index := 0#32
  let c0_i32 : BitVec 32 := 0#32
  let c1_i32 : BitVec 32 := 1#32
  let arg12 : BitVec 32 := Scf.iv c0_i32 c1_i32 k0_t1
  let c8_i32 : BitVec 32 := 8#32
  let v524 : BitVec 32 := Scalar.muli arg12 c8_i32
  let v525 : BitVec 32 := Scalar.addi v524 c0_i32_228
  let c128_i32 : BitVec 32 := 128#32
  let v526 : BitVec 32 := Scalar.muli v525 c128_i32
  let v527 : Index := Scalar.indexCast v526
  let c0_230 : Index := 0#32
  ![0, v527.toNat, 0]
def k0_off2 (k0_t1 : Fin k0_t1_loop.trips) (c0_i32_228 : BitVec 32) : Fin 3 → Nat :=
  let c0_i32 : BitVec 32 := 0#32
  let c1_i32 : BitVec 32 := 1#32
  let arg12 : BitVec 32 := Scf.iv c0_i32 c1_i32 k0_t1
  let c8_i32 : BitVec 32 := 8#32
  let v524 : BitVec 32 := Scalar.muli arg12 c8_i32
  let v525 : BitVec 32 := Scalar.addi v524 c0_i32_228
  let v530 : Index := Scalar.indexCast v525
  let c0_231 : Index := 0#32
  ![v530.toNat, 0, 0]
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c2048_i32 : BitVec 32 := 2048#32
  let v725 : BitVec 32 := Scalar.muli arg12 c2048_i32
  v725
def k0_off3 (k0_t1 : Fin k0_t1_loop.trips) : Fin 2 → Nat :=
  let c0_295 : Index := 0#32
  let c0_i32 : BitVec 32 := 0#32
  let c1_i32 : BitVec 32 := 1#32
  let arg12 : BitVec 32 := Scf.iv c0_i32 c1_i32 k0_t1
  let c2048_i32 : BitVec 32 := 2048#32
  let v725 : BitVec 32 := Scalar.muli arg12 c2048_i32
  let v726 : BitVec 32 := v725
  let v727 : Index := Scalar.indexCast v726
  ![0, v727.toNat]
def k0_off4 (i : grid0.Coords) (c0_i32_37 : BitVec 32) : Fin 3 → Nat :=
  let arg1 : BitVec 32 := BitVec.ofNat 32 (i 1).val
  let c4_i32_36 : BitVec 32 := 4#32
  let v90 : BitVec 32 := Scalar.muli arg1 c4_i32_36
  let v91 : BitVec 32 := Scalar.addi v90 c0_i32_37
  let v92 : Index := Scalar.indexCast v91
  let c0_38 : Index := 0#32
  ![v92.toNat, 0, 0]
def k0_off5 (i : grid0.Coords) (c0_i32_84 : BitVec 32) : Fin 3 → Nat :=
  let arg1 : BitVec 32 := BitVec.ofNat 32 (i 1).val
  let c4_i32_83 : BitVec 32 := 4#32
  let v199 : BitVec 32 := Scalar.muli arg1 c4_i32_83
  let v200 : BitVec 32 := Scalar.addi v199 c0_i32_84
  let v201 : Index := Scalar.indexCast v200
  let c512_85 : Index := 512#32
  ![v201.toNat, 0, 512]
def k0_off6 (i : grid0.Coords) (c0_i32_133 : BitVec 32) : Fin 3 → Nat :=
  let arg1 : BitVec 32 := BitVec.ofNat 32 (i 1).val
  let c4_i32_132 : BitVec 32 := 4#32
  let v308 : BitVec 32 := Scalar.muli arg1 c4_i32_132
  let v309 : BitVec 32 := Scalar.addi v308 c0_i32_133
  let v310 : Index := Scalar.indexCast v309
  let c1024_134 : Index := 1024#32
  ![v310.toNat, 0, 1024]
def k0_off7 (i : grid0.Coords) (c0_i32_182 : BitVec 32) : Fin 3 → Nat :=
  let arg1 : BitVec 32 := BitVec.ofNat 32 (i 1).val
  let c4_i32_181 : BitVec 32 := 4#32
  let v417 : BitVec 32 := Scalar.muli arg1 c4_i32_181
  let v418 : BitVec 32 := Scalar.addi v417 c0_i32_182
  let v419 : Index := Scalar.indexCast v418
  let c1536_183 : Index := 1536#32
  ![v419.toNat, 0, 1536]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x112x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ExpertIdeal.lean ====
abbrev S7x1x4096 : Shape := ⟨3, ![7, 1, 4096]⟩
abbrev S4096x14336 : Shape := ⟨2, ![4096, 14336]⟩
abbrev S32x14336 : Shape := ⟨2, ![32, 14336]⟩
abbrev S14336x2048 : Shape := ⟨2, ![14336, 2048]⟩
abbrev S112x4096 : Shape := ⟨2, ![112, 4096]⟩
abbrev S1x4096x14336 : Shape := ⟨3, ![1, 4096, 14336]⟩
abbrev S1x32x14336 : Shape := ⟨3, ![1, 32, 14336]⟩
abbrev S1x14336x2048 : Shape := ⟨3, ![1, 14336, 2048]⟩
abbrev S1x112x4096 : Shape := ⟨3, ![1, 112, 4096]⟩
abbrev S7x4096 : Shape := ⟨2, ![7, 4096]⟩
abbrev S_ : Shape := ⟨0, ![]⟩
abbrev S8x4096 : Shape := ⟨2, ![8, 4096]⟩
abbrev S1x32x128x14336 : Shape := ⟨4, ![1, 32, 128, 14336]⟩
abbrev S1x32x1x14336 : Shape := ⟨4, ![1, 32, 1, 14336]⟩
abbrev S1x14336x8 : Shape := ⟨3, ![1, 14336, 8]⟩
abbrev S1x8x14336 : Shape := ⟨3, ![1, 8, 14336]⟩
abbrev S1x112x2048 : Shape := ⟨3, ![1, 112, 2048]⟩
abbrev S1x112x128x2048 : Shape := ⟨4, ![1, 112, 128, 2048]⟩
abbrev S1x112x1x2048 : Shape := ⟨4, ![1, 112, 1, 2048]⟩
abbrev S1x8x2048 : Shape := ⟨3, ![1, 8, 2048]⟩
abbrev S1x8x4096 : Shape := ⟨3, ![1, 8, 4096]⟩

abbrev nBuf : Space → Nat
  | .hbm => 91
  | .vmem => 0
  | .smem => 0
  | _ => 0

abbrev bufTy : (tb : Table) → Fin (tcTables nBuf tb) → BufTy
  | .hbm, ⟨0, _⟩ => ⟨S7x1x4096, .bf16⟩
  | .hbm, ⟨1, _⟩ => ⟨S4096x14336, .i8⟩
  | .hbm, ⟨2, _⟩ => ⟨S32x14336, .bf16⟩
  | .hbm, ⟨3, _⟩ => ⟨S32x14336, .bf16⟩
  | .hbm, ⟨4, _⟩ => ⟨S14336x2048, .i8⟩
  | .hbm, ⟨5, _⟩ => ⟨S112x4096, .bf16⟩
  | .hbm, ⟨6, _⟩ => ⟨S1x4096x14336, .i8⟩
  | .hbm, ⟨7, _⟩ => ⟨S1x32x14336, .bf16⟩
  | .hbm, ⟨8, _⟩ => ⟨S1x32x14336, .bf16⟩
  | .hbm, ⟨9, _⟩ => ⟨S1x14336x2048, .i8⟩
  | .hbm, ⟨10, _⟩ => ⟨S1x112x4096, .bf16⟩
  | .hbm, ⟨11, _⟩ => ⟨S7x4096, .bf16⟩
  | .hbm, ⟨12, _⟩ => ⟨S_, .i32⟩
  | .hbm, ⟨13, _⟩ => ⟨S_, .bf16⟩
  | .hbm, ⟨14, _⟩ => ⟨S8x4096, .bf16⟩
  | .hbm, ⟨15, _⟩ => ⟨S1x4096x14336, .i32⟩
  | .hbm, ⟨16, _⟩ => ⟨S_, .i32⟩
  | .hbm, ⟨17, _⟩ => ⟨S1x4096x14336, .i32⟩
  | .hbm, ⟨18, _⟩ => ⟨S1x4096x14336, .i32⟩
  | .hbm, ⟨19, _⟩ => ⟨S_, .i32⟩
  | .hbm, ⟨20, _⟩ => ⟨S1x4096x14336, .i32⟩
  | .hbm, ⟨21, _⟩ => ⟨S1x4096x14336, .i32⟩
  | .hbm, ⟨22, _⟩ => ⟨S1x4096x14336, .f32⟩
  | .hbm, ⟨23, _⟩ => ⟨S1x4096x14336, .bf16⟩
  | .hbm, ⟨24, _⟩ => ⟨S1x32x128x14336, .bf16⟩
  | .hbm, ⟨25, _⟩ => ⟨S1x32x1x14336, .bf16⟩
  | .hbm, ⟨26, _⟩ => ⟨S1x32x128x14336, .bf16⟩
  | .hbm, ⟨27, _⟩ => ⟨S1x32x128x14336, .bf16⟩
  | .hbm, ⟨28, _⟩ => ⟨S1x4096x14336, .bf16⟩
  | .hbm, ⟨29, _⟩ => ⟨S1x4096x14336, .i32⟩
  | .hbm, ⟨30, _⟩ => ⟨S_, .i32⟩
  | .hbm, ⟨31, _⟩ => ⟨S1x4096x14336, .i32⟩
  | .hbm, ⟨32, _⟩ => ⟨S1x4096x14336, .i32⟩
  | .hbm, ⟨33, _⟩ => ⟨S_, .i32⟩
  | .hbm, ⟨34, _⟩ => ⟨S1x4096x14336, .i32⟩
  | .hbm, ⟨35, _⟩ => ⟨S1x4096x14336, .i32⟩
  | .hbm, ⟨36, _⟩ => ⟨S1x4096x14336, .f32⟩
  | .hbm, ⟨37, _⟩ => ⟨S1x4096x14336, .bf16⟩
  | .hbm, ⟨38, _⟩ => ⟨S1x32x128x14336, .bf16⟩
  | .hbm, ⟨39, _⟩ => ⟨S1x32x1x14336, .bf16⟩
  | .hbm, ⟨40, _⟩ => ⟨S1x32x128x14336, .bf16⟩
  | .hbm, ⟨41, _⟩ => ⟨S1x32x128x14336, .bf16⟩
  | .hbm, ⟨42, _⟩ => ⟨S1x4096x14336, .bf16⟩
  | .hbm, ⟨43, _⟩ => ⟨S1x14336x8, .f32⟩
  | .hbm, ⟨44, _⟩ => ⟨S1x8x14336, .f32⟩
  | .hbm, ⟨45, _⟩ => ⟨S1x14336x8, .f32⟩
  | .hbm, ⟨46, _⟩ => ⟨S1x8x14336, .f32⟩
  | .hbm, ⟨47, _⟩ => ⟨S1x8x14336, .f32⟩
  | .hbm, ⟨48, _⟩ => ⟨S1x8x14336, .f32⟩
  | .hbm, ⟨49, _⟩ => ⟨S_, .f32⟩
  | .hbm, ⟨50, _⟩ => ⟨S1x8x14336, .f32⟩
  | .hbm, ⟨51, _⟩ => ⟨S1x8x14336, .f32⟩
  | .hbm, ⟨52, _⟩ => ⟨S_, .f32⟩
  | .hbm, ⟨53, _⟩ => ⟨S1x8x14336, .f32⟩
  | .hbm, ⟨54, _⟩ => ⟨S1x8x14336, .f32⟩
  | .hbm, ⟨55, _⟩ => ⟨S1x8x14336, .f32⟩
  | .hbm, ⟨56, _⟩ => ⟨S1x8x14336, .f32⟩
  | .hbm, ⟨57, _⟩ => ⟨S1x8x14336, .bf16⟩
  | .hbm, ⟨58, _⟩ => ⟨S1x14336x2048, .i32⟩
  | .hbm, ⟨59, _⟩ => ⟨S_, .i32⟩
  | .hbm, ⟨60, _⟩ => ⟨S1x14336x2048, .i32⟩
  | .hbm, ⟨61, _⟩ => ⟨S1x14336x2048, .i32⟩
  | .hbm, ⟨62, _⟩ => ⟨S_, .i32⟩
  | .hbm, ⟨63, _⟩ => ⟨S1x14336x2048, .i32⟩
  | .hbm, ⟨64, _⟩ => ⟨S1x14336x2048, .i32⟩
  | .hbm, ⟨65, _⟩ => ⟨S1x112x2048, .bf16⟩
  | .hbm, ⟨66, _⟩ => ⟨S1x14336x2048, .f32⟩
  | .hbm, ⟨67, _⟩ => ⟨S1x14336x2048, .bf16⟩
  | .hbm, ⟨68, _⟩ => ⟨S1x112x128x2048, .bf16⟩
  | .hbm, ⟨69, _⟩ => ⟨S1x112x1x2048, .bf16⟩
  | .hbm, ⟨70, _⟩ => ⟨S1x112x128x2048, .bf16⟩
  | .hbm, ⟨71, _⟩ => ⟨S1x112x128x2048, .bf16⟩
  | .hbm, ⟨72, _⟩ => ⟨S1x14336x2048, .bf16⟩
  | .hbm, ⟨73, _⟩ => ⟨S1x14336x2048, .i32⟩
  | .hbm, ⟨74, _⟩ => ⟨S_, .i32⟩
  | .hbm, ⟨75, _⟩ => ⟨S1x14336x2048, .i32⟩
  | .hbm, ⟨76, _⟩ => ⟨S1x14336x2048, .i32⟩
  | .hbm, ⟨77, _⟩ => ⟨S_, .i32⟩
  | .hbm, ⟨78, _⟩ => ⟨S1x14336x2048, .i32⟩
  | .hbm, ⟨79, _⟩ => ⟨S1x14336x2048, .i32⟩
  | .hbm, ⟨80, _⟩ => ⟨S1x112x2048, .bf16⟩
  | .hbm, ⟨81, _⟩ => ⟨S1x14336x2048, .f32⟩
  | .hbm, ⟨82, _⟩ => ⟨S1x14336x2048, .bf16⟩
  | .hbm, ⟨83, _⟩ => ⟨S1x112x128x2048, .bf16⟩
  | .hbm, ⟨84, _⟩ => ⟨S1x112x1x2048, .bf16⟩
  | .hbm, ⟨85, _⟩ => ⟨S1x112x128x2048, .bf16⟩
  | .hbm, ⟨86, _⟩ => ⟨S1x112x128x2048, .bf16⟩
  | .hbm, ⟨87, _⟩ => ⟨S1x14336x2048, .bf16⟩
  | .hbm, ⟨88, _⟩ => ⟨S1x8x2048, .f32⟩
  | .hbm, ⟨89, _⟩ => ⟨S1x8x2048, .f32⟩
  | .hbm, ⟨90, _⟩ => ⟨S1x8x4096, .f32⟩
  | _, _ => ⟨S7x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_6 : Ref sig .tc := ⟨.hbm, 74, rfl⟩
abbrev main_v52 : Ref sig .tc := ⟨.hbm, 75, rfl⟩
abbrev main_v53 : Ref sig .tc := ⟨.hbm, 76, rfl⟩
abbrev main_c_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Proof.Claims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Lib.Bf16PairInverse
public import Idealize.ShloMosaic.Lib.Quiescent

/-! # The frames, and the ideal kernel's rewrites -/

@[expose] public section

noncomputable section

namespace Cert.Proof

open Idealize.ShloMosaic Idealize.SL.Sem

/-- The kernel terminates without fault and keeps its arguments. -/
theorem frame_p : Cert.quiescent_Kernel := fun m ρ _ => Cert.Kernel.Gen.frame m ρ

/-- So does the ideal kernel. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal kernel is the kernel with packed pairs of scales kept as pairs: each rewritten place, by its statement. -/
theorem preserves : Cert.preserves_Kernel_KernelIdeal :=
  open Cert.KernelIdeal IdealRules.bf16_pair in
  ⟨bufferStatement S32x2x512 S32x1x512, bufferStatement S112x2x2048 S112x1x2048, halfStatement S32x512,
   statement S32x2x512 S32x1x512, halfStatement S112x2048, statement S112x2x2048 S112x1x2048,
   statement S1x2x512 S1x1x512, statement S2x512 S1x512⟩

end Cert.Proof

end
-- ==== Proof.Dequant.lean ====
module

public import proofs.«01_k».proof.Proof.Gen.KernelIdeal.Skeleton
public import Idealize.ShloMosaic.Lib.Pointwise

/-! # One dequantised block

A byte of packed codes holds two signed four-bit numbers. The kernel unpacks a block of 128 rows of bytes
to 256 rows, the low number of byte row `k` in row `2k` and the high one in row `2k + 1`, and multiplies even
rows by the first and odd rows by the second row of a pair of scales. -/

@[expose] public section

set_option maxRecDepth 16384

noncomputable section

namespace Cert.KernelIdeal.Body

open Cert.KernelIdeal Cert.KernelIdeal.Gen Idealize.ShloMosaic Idealize.ShloMosaic.TcCoe Idealize.SL.Sem

/-- The low four bits of a byte as a signed number. -/
def nlo (b : BitVec 8) : EReal :=
  FloatOps.sitofp (F := Ideal) FTy.bf16 (IntOp.shrsi ArithUnit.vector (IntOp.shli ArithUnit.vector b 4#8) 4#8)

/-- The high four bits of a byte as a signed number. -/
def nhi (b : BitVec 8) : EReal := FloatOps.sitofp (F := Ideal) FTy.bf16 (IntOp.shrsi ArithUnit.vector b 4#8)

/-- The dequantised weight in row `p` of an unpacked block: low code times the first scale in even rows, high
    code times the second in odd rows. -/
def dq (p : ℕ) (b : BitVec 8) (s0 s1 : EReal) : EReal := if p % 2 = 0 then nlo b * s0 else nhi b * s1

theorem dq_congr {p p' : ℕ} {b b' : BitVec 8} {s0 s0' s1 s1' : EReal} (hp : p % 2 = p' % 2) (hb : b = b')
    (h0 : s0 = s0') (h1 : s1 = s1') : dq p b s0 s1 = dq p' b' s0' s1' := by
  subst hb h0 h1; unfold dq; rw [hp]

/-- The unpacked and scaled block at a row and a column. -/
theorem block_apply (v : Vec Ideal S1x128x512 .i8) (s : Vec Ideal S1x2x512 .bf16) (r : Fin 256) (n : Fin 512) :
    k0_pay4 (F := Ideal) v s (ix2 r n)
      = dq r.val (v (ix3 0 ⟨r.val / 2, by omega⟩ n)) (s (ix3 0 0 n)) (s (ix3 0 1 n)) := by
  pointwise [k0_pay4]
  unfold dq nlo nhi
  by_cases h : r.val % 2 = 0
  · have h' : r.val % 2 < 1 := by omega
    have h'' : r.val % 2 % 2 = 0 := by omega
    rw [dif_pos h', if_pos h'', if_pos h]
  · have h' : ¬ r.val % 2 < 1 := by omega
    have h'' : ¬ r.val % 2 % 2 = 0 := by omega
    rw [dif_neg h', if_neg h'', if_neg h]

/-- Eight blocks stacked, multiplied from the left and added to an accumulator: one trip of the loop. -/
def trip8 (acc : FVec Ideal S16x512 .f32) (w0 w1 w2 w3 w4 w5 w6 w7 : FVec Ideal S256x512 .bf16)
    (x : FVec Ideal S16x2048 .bf16) : FVec Ideal S16x512 .f32 :=
  addf acc (matmul dot_S16x2048_S2048x512_S16x512_1_0_0_1_n_n none
    (shapeCast S16x2048 x Gen.shapeCasts_S16x2048_S16x2048)
    (concatenate S2048x512 0 [⟨S256x512, w0⟩, ⟨S256x512, w1⟩, ⟨S256x512, w2⟩, ⟨S256x512, w3⟩, ⟨S256x512, w4⟩,
      ⟨S256x512, w5⟩, ⟨S256x512, w6⟩, ⟨S256x512, w7⟩]
      Gen.concatenates_S256x512_S256x512_S256x512_S256x512_S256x512_S256x512_S256x512_S256x512_S2048x512_d0)
    (constant S16x512 .f32 0x00000000#32))

theorem trip8_eq (acc : FVec Ideal S16x512 .f32) (a0 a1 a2 a3 a4 a5 a6 a7 : Vec Ideal S1x128x512 .i8)
    (s0 s1 s2 s3 s4 s5 s6 s7 : Vec Ideal S1x2x512 .bf16) (x : Vec Ideal S16x2048 .bf16) :
    k0_pay21 (F := Ideal) acc (k0_pay4 a0 s0) (k0_pay9 (k0_pay5 a1) (k0_pay6 s1) (k0_pay7 s1) (k0_pay8 (F := Ideal) a1) 4#8)
        (k0_pay10 a2 s2) (k0_pay12 (k0_pay11 a3) s3) (k0_pay15 (k0_pay13 a4) (k0_pay14 s4)) (k0_pay16 a5 s5)
        (k0_pay17 a6) (k0_pay18 s6) (k0_pay19 s6) (k0_pay20 (F := Ideal) a6) 4#8 a7 s7 x
      = trip8 acc (k0_pay4 a0 s0) (k0_pay4 a1 s1) (k0_pay4 a2 s2) (k0_pay4 a3 s3) (k0_pay4 a4 s4) (k0_pay4 a5 s5)
          (k0_pay4 a6 s6) (k0_pay4 a7 s7) x := rfl

/-- Four blocks stacked and multiplied from the left by the spread activations: one block of 512 columns of the
    down projection, the low halves in rows 0 to 7 and the high halves in rows 8 to 15. -/
def down4 (w0 w1 w2 w3 : FVec Ideal S256x512 .bf16) (h : FVec Ideal S16x1024 .bf16) : FVec Ideal S16x512 .f32 :=
  matmul dot_S16x1024_S1024x512_S16x512_1_0_0_1_n_n none h
    (concatenate S1024x512 0 [⟨S256x512, w0⟩, ⟨S256x512, w1⟩, ⟨S256x512, w2⟩, ⟨S256x512, w3⟩]
      Gen.concatenates_S256x512_S256x512_S256x512_S256x512_S1024x512_d0)
    (constant S16x512 .f32 0x00000000#32)

/-- The rows of the low halves added to what stood there. -/
def addLow (d : FVec Ideal S16x512 .f32) (o : FVec Ideal S1x8x512 .f32) : FVec Ideal S1x8x512 .f32 :=
  shapeCast S1x8x512 (addf (shapeCast S8x512 o Gen.shapeCasts_S1x8x512_S8x512)
    (extractStridedSlice S8x512 ![0, 0] d Gen.slices_S16x512_o0_0_S8x512)) Gen.shapeCasts_S8x512_S1x8x512

/-- The rows of the high halves added to what stood there. -/
def addHigh (d : FVec Ideal S16x512 .f32) (o : FVec Ideal S1x8x512 .f32) : FVec Ideal S1x8x512 .f32 :=
  shapeCast S1x8x512 (addf (shapeCast S8x512 o Gen.shapeCasts_S1x8x512_S8x512)
    (extractStridedSlice S8x512 ![8, 0] d Gen.slices_S16x512_o8_0_S8x512)) Gen.shapeCasts_S8x512_S1x8x512

variable (a0 a1 a2 a3 : Vec Ideal S1x128x512 .i8) (s0 s1 s2 s3 : Vec Ideal S1x2x512 .bf16)
  (h : Vec Ideal S16x1024 .bf16) (o : Vec Ideal S1x8x512 .f32)

theorem pay41_eq : k0_pay41 (F := Ideal) (k0_pay35 a0 s0) (k0_pay37 (k0_pay36 a1) s1) (k0_pay38 a2) (k0_pay39 s2) a3 s3 h o
    = addLow (down4 (k0_pay4 a0 s0) (k0_pay4 a1 s1) (k0_pay4 a2 s2) (k0_pay4 a3 s3) h) o := rfl

theorem pay43_eq : k0_pay43 (F := Ideal) (k0_pay40 (k0_pay35 a0 s0) (k0_pay37 (k0_pay36 a1) s1) (k0_pay38 a2) (k0_pay39 s2) a3 s3 h) (k0_pay42 o)
    = addHigh (down4 (k0_pay4 a0 s0) (k0_pay4 a1 s1) (k0_pay4 a2 s2) (k0_pay4 a3 s3) h) o := rfl

theorem pay53_eq : k0_pay53 (F := Ideal) (k0_pay44 a0 s0) (k0_pay49 (k0_pay45 a1) (k0_pay46 s1) (k0_pay47 s1) (k0_pay48 (F := Ideal) a1)) (k0_pay50 a2 s2) (k0_pay51 a3) s3 h o
    = addLow (down4 (k0_pay4 a0 s0) (k0_pay4 a1 s1) (k0_pay4 a2 s2) (k0_pay4 a3 s3) h) o := rfl

theorem pay54_eq : k0_pay54 (F := Ideal) (k0_pay44 a0 s0) (k0_pay49 (k0_pay45 a1) (k0_pay46 s1) (k0_pay47 s1) (k0_pay48 (F := Ideal) a1)) (k0_pay50 a2 s2) (k0_pay51 a3) s3 h o
    = addHigh (down4 (k0_pay4 a0 s0) (k0_pay4 a1 s1) (k0_pay4 a2 s2) (k0_pay4 a3 s3) h) o := rfl

theorem pay67_eq : k0_pay67 (F := Ideal) (k0_pay55 a0 s0) (k0_pay59 (k0_pay56 s1) (k0_pay57 s1) (k0_pay58 (F := Ideal) a1)) (k0_pay60 a2 s2) (k0_pay61 a3) (k0_pay62 s3) (k0_pay63 s3) (k0_pay64 (F := Ideal) a3) (k0_pay65) h o
    = addLow (down4 (k0_pay4 a0 s0) (k0_pay4 a1 s1) (k0_pay4 a2 s2) (k0_pay4 a3 s3) h) o := rfl

theorem pay68_eq : k0_pay68 (F := Ideal) (k0_pay55 a0 s0) (k0_pay59 (k0_pay56 s1) (k0_pay57 s1) (k0_pay58 (F := Ideal) a1)) (k0_pay60 a2 s2) (k0_pay61 a3) (k0_pay62 s3) (k0_pay63 s3) (k0_pay64 (F := Ideal) a3) (k0_pay65) h o
    = addHigh (down4 (k0_pay4 a0 s0) (k0_pay4 a1 s1) (k0_pay4 a2 s2) (k0_pay4 a3 s3) h) o := rfl

theorem pay2_eq : k0_pay2 (F := Ideal) (k0_pay70 (k0_pay69 a0) s0) (k0_pay71 a1 s1) (k0_pay72 a2 s2) (k0_pay73 a3) (k0_pay74 s3) h o
    = addLow (down4 (k0_pay4 a0 s0) (k0_pay4 a1 s1) (k0_pay4 a2 s2) (k0_pay4 a3 s3) h) o := rfl

theorem pay3_eq : k0_pay3 (F := Ideal) (k0_pay70 (k0_pay69 a0) s0) (k0_pay71 a1 s1) (k0_pay72 a2 s2) (k0_pay73 a3) (k0_pay74 s3) h o
    = addHigh (down4 (k0_pay4 a0 s0) (k0_pay4 a1 s1) (k0_pay4 a2 s2) (k0_pay4 a3 s3) h) o := rfl

end Cert.KernelIdeal.Body
-- ==== Proof.Up.lean ====
module

public import proofs.«01_k».proof.Proof.Dequant
public import proofs.«01_k».proof.Proof.Gen.KernelIdeal.Value
public import Idealize.ShloMosaic.Lib.Pipeline.ValueKit
public import Idealize.ShloMosaic.Lib.Pipeline.ReadBack

/-! # The gate and up projections of one block

The kernel's loop reads the activations 2048 interleaved columns at a time and the packed weights 1024 byte rows
at a time. One trip is a product over 2048 interleaved rows; the four trips together are one product over all
8192. -/

@[expose] public section

set_option maxRecDepth 16384

noncomputable section

namespace Cert.KernelIdeal.Body

open Cert.KernelIdeal Cert.KernelIdeal.Gen Idealize.ShloMosaic Idealize.ShloMosaic.TcCoe Idealize.SL.Sem

/-- The dequantised gate-and-up weight in interleaved row `X` and column `n`: even rows are the gate's, from low
    codes, odd rows the up projection's, from high codes. -/
def wgu (x1 : Vec Ideal S1x4096x512 .i8) (s9 : Vec Ideal S32x2x512 .bf16) (X : Fin 8192) (n : Fin 512) : EReal :=
  dq X.val (x1 (ix3 0 ⟨X.val / 2, by omega⟩ n)) (s9 (ix3 ⟨X.val / 256, by omega⟩ 0 n))
    (s9 (ix3 ⟨X.val / 256, by omega⟩ 1 n))

theorem code_off' : ∀ (k : Fin k0_t1_loop.trips) (g : Fin 8),
    BitVec.toNat (Scalar.indexCast (Scalar.muli (Scalar.addi (Scalar.muli (Scf.iv 0#32 1#32 k.val) 8#32)
      (BitVec.ofNat 32 g.val)) 128#32)) = (8 * k.val + g.val) * 128 := by decide +kernel

theorem scale_off' : ∀ (k : Fin k0_t1_loop.trips) (g : Fin 8),
    BitVec.toNat (Scalar.indexCast (Scalar.addi (Scalar.muli (Scf.iv 0#32 1#32 k.val) 8#32)
      (BitVec.ofNat 32 g.val))) = 8 * k.val + g.val := by decide +kernel

theorem act_off : ∀ k : Fin k0_t1_loop.trips,
    BitVec.toNat (Scalar.indexCast (Scalar.muli (Scf.iv 0#32 1#32 k.val) 2048#32)) = 2048 * k.val := by decide +kernel

theorem code_off (k : Fin k0_t1_loop.trips) (g : ℕ) (hg : g < 8) :
    BitVec.toNat (Scalar.indexCast (Scalar.muli (Scalar.addi (Scalar.muli (Scf.iv 0#32 1#32 k.val) 8#32)
      (BitVec.ofNat 32 g)) 128#32)) = (8 * k.val + g) * 128 := code_off' k ⟨g, hg⟩

theorem scale_off (k : Fin k0_t1_loop.trips) (g : ℕ) (hg : g < 8) :
    BitVec.toNat (Scalar.indexCast (Scalar.addi (Scalar.muli (Scf.iv 0#32 1#32 k.val) 8#32)
      (BitVec.ofNat 32 g))) = 8 * k.val + g := scale_off' k ⟨g, hg⟩

theorem trips_eq : k0_t1_loop.trips = 4 := by decide +kernel

/-- One block of a trip: rows `128 b` of the bytes with scale row `b`, at a row and a column. -/
theorem block_at (x1 : Vec Ideal S1x4096x512 .i8) (s9 : Vec Ideal S32x2x512 .bf16) (o1 o2 b : ℕ)
    (h1 : ∀ a, (![0, o1, 0] : Fin 3 → ℕ) a + (![1, 128, 512] : Fin 3 → ℕ) a ≤ S1x4096x512.size a)
    (h2 : ∀ a, (![o2, 0, 0] : Fin 3 → ℕ) a + (![1, 2, 512] : Fin 3 → ℕ) a ≤ S32x2x512.size a)
    (e1 : o1 = b * 128) (e2 : o2 = b) (r : Fin 256) (n : Fin 512) (X : Fin 8192) (hX : X.val = 256 * b + r.val) :
    k0_pay4 (F := Ideal) (View.ld x1 (Rect.unit (s := S1x4096x512) ![0, o1, 0] ![1, 128, 512] h1))
        (View.ld s9 (Rect.unit (s := S32x2x512) ![o2, 0, 0] ![1, 2, 512] h2)) (ix2 r n)
      = wgu x1 s9 X n := by
  subst e1 e2
  rw [block_apply]
  unfold wgu
  refine dq_congr (by omega) ?_ ?_ ?_
  · pointwise []
    blk_ext []
  · pointwise []
    blk_ext []
  · pointwise []
    blk_ext []

variable (x0 : Vec Ideal S16x8192 .bf16) (x1 : Vec Ideal S1x4096x512 .i8) (s9 : Vec Ideal S32x2x512 .bf16)

/-- One trip's product at a row and a column. -/
def tripTerm (r : Fin 16) (n : Fin 512) (k : Fin 4) : EReal :=
  ∑ x : Fin 2048, x0 (ix2 r ⟨k.val * 2048 + x.val, by omega⟩) * wgu x1 s9 ⟨k.val * 2048 + x.val, by omega⟩ n

set_option maxHeartbeats 400000 in
/-- Eight stacked blocks of one table of weights, read at a row and a column. -/
theorem trip8_apply (W : Fin 8192 → Fin 512 → EReal) (k : Fin 4) (acc : FVec Ideal S16x512 .f32)
    (w0 w1 w2 w3 w4 w5 w6 w7 : FVec Ideal S256x512 .bf16) (a : Vec Ideal S16x2048 .bf16) (r : Fin 16) (n : Fin 512)
    (h0 : ∀ (q : Fin 256) (X : Fin 8192), X.val = 256 * (8 * k.val + 0) + q.val → w0 (ix2 q n) = W X n)
    (h1 : ∀ (q : Fin 256) (X : Fin 8192), X.val = 256 * (8 * k.val + 1) + q.val → w1 (ix2 q n) = W X n)
    (h2 : ∀ (q : Fin 256) (X : Fin 8192), X.val = 256 * (8 * k.val + 2) + q.val → w2 (ix2 q n) = W X n)
    (h3 : ∀ (q : Fin 256) (X : Fin 8192), X.val = 256 * (8 * k.val + 3) + q.val → w3 (ix2 q n) = W X n)
    (h4 : ∀ (q : Fin 256) (X : Fin 8192), X.val = 256 * (8 * k.val + 4) + q.val → w4 (ix2 q n) = W X n)
    (h5 : ∀ (q : Fin 256) (X : Fin 8192), X.val = 256 * (8 * k.val + 5) + q.val → w5 (ix2 q n) = W X n)
    (h6 : ∀ (q : Fin 256) (X : Fin 8192), X.val = 256 * (8 * k.val + 6) + q.val → w6 (ix2 q n) = W X n)
    (h7 : ∀ (q : Fin 256) (X : Fin 8192), X.val = 256 * (8 * k.val + 7) + q.val → w7 (ix2 q n) = W X n)
    : trip8 acc w0 w1 w2 w3 w4 w5 w6 w7 a (ix2 r n)
      = acc (ix2 r n) + ∑ x : Fin 2048, a (ix2 r x) * W ⟨k.val * 2048 + x.val, by omega⟩ n := by
  pointwise [trip8]
  refine congrArg _ (Finset.sum_congr rfl fun x _ => ?_)
  refine Ideal.mul_congr rfl ?_
  by_cases c0 : x.val < 256
  · rw [dif_pos c0]; exact h0 _ _ (by dsimp only; omega)
  rw [dif_neg c0]
  by_cases c1 : x.val - 256 < 256
  · rw [dif_pos c1]; exact h1 _ _ (by dsimp only; omega)
  rw [dif_neg c1]
  by_cases c2 : x.val - 256 - 256 < 256
  · rw [dif_pos c2]; exact h2 _ _ (by dsimp only; omega)
  rw [dif_neg c2]
  by_cases c3 : x.val - 256 - 256 - 256 < 256
  · rw [dif_pos c3]; exact h3 _ _ (by dsimp only; omega)
  rw [dif_neg c3]
  by_cases c4 : x.val - 256 - 256 - 256 - 256 < 256
  · rw [dif_pos c4]; exact h4 _ _ (by dsimp only; omega)
  rw [dif_neg c4]
  by_cases c5 : x.val - 256 - 256 - 256 - 256 - 256 < 256
  · rw [dif_pos c5]; exact h5 _ _ (by dsimp only; omega)
  rw [dif_neg c5]
  by_cases c6 : x.val - 256 - 256 - 256 - 256 - 256 - 256 < 256
  · rw [dif_pos c6]; exact h6 _ _ (by dsimp only; omega)
  rw [dif_neg c6]
  exact h7 _ _ (by dsimp only; omega)

set_option maxHeartbeats 2000000 in
/-- One trip of the loop adds its product to the accumulator. -/
theorem trip_apply
  (𝒱 : Variants) (c : Dev nD) (bd : Option 𝒱.V) (i : grid0.Coords) (arg2 : Memref sig .tc .vmem S16x8192 .bf16) (harg2 :
    arg2.IsWhole) (arg3 : Memref sig .tc .vmem S1x4096x512 .i8) (harg3 : arg3.IsWhole) (arg4 : Memref sig .tc .vmem
    S1x32x512 .bf16) (harg4 : arg4.IsWhole) (arg5 : Memref sig .tc .vmem S1x32x512 .bf16) (harg5 : arg5.IsWhole) (arg6 :
    Memref sig .tc .vmem S1x512x2048 .i8) (harg6 : arg6.IsWhole) (arg7 : Memref sig .tc .vmem S1x112x4096 .bf16) (harg7
    : arg7.IsWhole) (arg8 : Memref sig .tc .vmem S1x8x4096 .f32) (harg8 : arg8.IsWhole) (arg9 : Memref sig .tc .vmem
    S32x2x512 .bf16) (harg9 : arg9.IsWhole) (arg10 : Memref sig .tc .vmem S112x2x2048 .bf16) (harg10 : arg10.IsWhole)
    (arg11 : Memref sig .tc .vmem S16x1024 .bf16) (harg11 : arg11.IsWhole)
    (X9 : BufTy.Contents (Elt Ideal) arg9.view.ty) (h9 : arg9.view.read (Elt Ideal) X9 = s9)
    (k : Fin k0_t1_loop.trips) (acc : FVec Ideal S16x512 .f32) (r : Fin 16) (n : Fin 512) :
    tripR_k0_t1 (F := Ideal)
      𝒱 c bd i arg2 harg2 arg3 harg3 arg4 harg4 arg5 harg5 arg6 harg6 arg7 harg7 arg8 harg8 arg9 harg9 arg10 harg10 arg11
      harg11
      (harg2.unread x0) (harg3.unread x1) X9 k acc (ix2 r n)
      = acc (ix2 r n) + tripTerm x0 x1 s9 r n ⟨k.val, k.isLt.trans_eq trips_eq⟩ := by
  have hk : k.val < 4 := k.isLt.trans_eq trips_eq
  have c0 := code_off k 0 (by omega)
  have c1 := code_off k 1 (by omega)
  have c2 := code_off k 2 (by omega)
  have c3 := code_off k 3 (by omega)
  have c4 := code_off k 4 (by omega)
  have c5 := code_off k 5 (by omega)
  have c6 := code_off k 6 (by omega)
  have c7 := code_off k 7 (by omega)
  have d0 := scale_off k 0 (by omega)
  have d1 := scale_off k 1 (by omega)
  have d2 := scale_off k 2 (by omega)
  have d3 := scale_off k 3 (by omega)
  have d4 := scale_off k 4 (by omega)
  have d5 := scale_off k 5 (by omega)
  have d6 := scale_off k 6 (by omega)
  have d7 := scale_off k 7 (by omega)
  have ao := act_off k
  unfold tripR_k0_t1 trip_k0_t1
  dsimp only
  sl_unfold_words
  simp only [View.readAt_eq_ld, harg2.read_unread, harg3.read_unread, h9]
  rw [trip8_eq, trip8_apply (wgu x1 s9) ⟨k.val, hk⟩]
  · unfold tripTerm
    refine congrArg _ (Finset.sum_congr rfl fun x _ => Ideal.mul_congr ?_ rfl)
    pointwise []
    blk_ext []
  · exact fun q X h => block_at x1 s9 _ _ (8 * k.val + 0) _ _ c0 d0 q n X h
  · exact fun q X h => block_at x1 s9 _ _ (8 * k.val + 1) _ _ c1 d1 q n X h
  · exact fun q X h => block_at x1 s9 _ _ (8 * k.val + 2) _ _ c2 d2 q n X h
  · exact fun q X h => block_at x1 s9 _ _ (8 * k.val + 3) _ _ c3 d3 q n X h
  · exact fun q X h => block_at x1 s9 _ _ (8 * k.val + 4) _ _ c4 d4 q n X h
  · exact fun q X h => block_at x1 s9 _ _ (8 * k.val + 5) _ _ c5 d5 q n X h
  · exact fun q X h => block_at x1 s9 _ _ (8 * k.val + 6) _ _ c6 d6 q n X h
  · exact fun q X h => block_at x1 s9 _ _ (8 * k.val + 7) _ _ c7 d7 q n X h

/-- The accumulator after `q` trips. -/
theorem st_apply
  (𝒱 : Variants) (c : Dev nD) (bd : Option 𝒱.V) (i : grid0.Coords) (arg2 : Memref sig .tc .vmem S16x8192 .bf16) (harg2 :
    arg2.IsWhole) (arg3 : Memref sig .tc .vmem S1x4096x512 .i8) (harg3 : arg3.IsWhole) (arg4 : Memref sig .tc .vmem
    S1x32x512 .bf16) (harg4 : arg4.IsWhole) (arg5 : Memref sig .tc .vmem S1x32x512 .bf16) (harg5 : arg5.IsWhole) (arg6 :
    Memref sig .tc .vmem S1x512x2048 .i8) (harg6 : arg6.IsWhole) (arg7 : Memref sig .tc .vmem S1x112x4096 .bf16) (harg7
    : arg7.IsWhole) (arg8 : Memref sig .tc .vmem S1x8x4096 .f32) (harg8 : arg8.IsWhole) (arg9 : Memref sig .tc .vmem
    S32x2x512 .bf16) (harg9 : arg9.IsWhole) (arg10 : Memref sig .tc .vmem S112x2x2048 .bf16) (harg10 : arg10.IsWhole)
    (arg11 : Memref sig .tc .vmem S16x1024 .bf16) (harg11 : arg11.IsWhole)
    (X9 : BufTy.Contents (Elt Ideal) arg9.view.ty) (h9 : arg9.view.read (Elt Ideal) X9 = s9)
    (r : Fin 16) (n : Fin 512) (q : ℕ) (hq : q ≤ 4) :
    st_k0_t1 (F := Ideal)
      𝒱 c bd i arg2 harg2 arg3 harg3 arg4 harg4 arg5 harg5 arg6 harg6 arg7 harg7 arg8 harg8 arg9 harg9 arg10 harg10 arg11
      harg11
      (harg2.unread x0) (harg3.unread x1) X9 k0_pay24 q (ix2 r n)
      = ∑ j : Fin q, tripTerm x0 x1 s9 r n ⟨j.val, by omega⟩ := by
  induction q with
  | zero => rw [st_k0_t1_zero, Fin.sum_univ_zero]; pointwise [k0_pay24]
  | succ q ih =>
    have hlt : q < k0_t1_loop.trips := by rw [trips_eq]; omega
    refine Eq.trans (congrFun (st_k0_t1_succ (F := Ideal)
      𝒱 c bd i arg2 harg2 arg3 harg3 arg4 harg4 arg5 harg5 arg6 harg6 arg7 harg7 arg8 harg8 arg9 harg9 arg10 harg10 arg11
      harg11
      (harg2.unread x0) (harg3.unread x1) X9 k0_pay24 ⟨q, hlt⟩) (ix2 r n)) ?_
    rw [trip_apply (h9 := h9), ih (by omega), Fin.sum_univ_castSucc]
    rfl

/-- The accumulator after the loop: one product over all 8192 interleaved rows. -/
theorem loop_apply
  (𝒱 : Variants) (c : Dev nD) (bd : Option 𝒱.V) (i : grid0.Coords) (arg2 : Memref sig .tc .vmem S16x8192 .bf16) (harg2 :
    arg2.IsWhole) (arg3 : Memref sig .tc .vmem S1x4096x512 .i8) (harg3 : arg3.IsWhole) (arg4 : Memref sig .tc .vmem
    S1x32x512 .bf16) (harg4 : arg4.IsWhole) (arg5 : Memref sig .tc .vmem S1x32x512 .bf16) (harg5 : arg5.IsWhole) (arg6 :
    Memref sig .tc .vmem S1x512x2048 .i8) (harg6 : arg6.IsWhole) (arg7 : Memref sig .tc .vmem S1x112x4096 .bf16) (harg7
    : arg7.IsWhole) (arg8 : Memref sig .tc .vmem S1x8x4096 .f32) (harg8 : arg8.IsWhole) (arg9 : Memref sig .tc .vmem
    S32x2x512 .bf16) (harg9 : arg9.IsWhole) (arg10 : Memref sig .tc .vmem S112x2x2048 .bf16) (harg10 : arg10.IsWhole)
    (arg11 : Memref sig .tc .vmem S16x1024 .bf16) (harg11 : arg11.IsWhole)
    (X9 : BufTy.Contents (Elt Ideal) arg9.view.ty) (h9 : arg9.view.read (Elt Ideal) X9 = s9)
    (r : Fin 16) (n : Fin 512) (q : ℕ) (hq : q = 4) :
    st_k0_t1 (F := Ideal)
      𝒱 c bd i arg2 harg2 arg3 harg3 arg4 harg4 arg5 harg5 arg6 harg6 arg7 harg7 arg8 harg8 arg9 harg9 arg10 harg10 arg11
      harg11
      (harg2.unread x0) (harg3.unread x1) X9 k0_pay24 q (ix2 r n)
      = ∑ X : Fin 8192, x0 (ix2 r X) * wgu x1 s9 X n := by
  subst hq
  rw [st_apply (h9 := h9) (hq := le_rfl)]
  exact (Fin.sum_univ_tiles 4 2048 rfl (fun X : Fin 8192 => x0 (ix2 r X) * wgu x1 s9 X n)).symm

/-- A sum over interleaved rows whose odd terms vanish. -/
theorem sum_even {N : ℕ} (M : ℕ) (hM : M * 2 = N) (f : Fin N → EReal) (g : Fin M → EReal)
    (h0 : ∀ k : Fin M, f ⟨k.val * 2, by omega⟩ = g k) (h1 : ∀ k : Fin M, f ⟨k.val * 2 + 1, by omega⟩ = 0) :
    ∑ X, f X = ∑ k, g k := by
  rw [Fin.sum_univ_tiles M 2 hM f]
  refine Finset.sum_congr rfl fun k _ => ?_
  rw [Fin.sum_univ_two]
  exact (congrArg₂ (· + ·) (h0 k) (h1 k)).trans (add_zero _)

/-- A sum over interleaved rows whose even terms vanish. -/
theorem sum_odd {N : ℕ} (M : ℕ) (hM : M * 2 = N) (f : Fin N → EReal) (g : Fin M → EReal)
    (h0 : ∀ k : Fin M, f ⟨k.val * 2, by omega⟩ = 0) (h1 : ∀ k : Fin M, f ⟨k.val * 2 + 1, by omega⟩ = g k) :
    ∑ X, f X = ∑ k, g k := by
  rw [Fin.sum_univ_tiles M 2 hM f]
  refine Finset.sum_congr rfl fun k _ => ?_
  rw [Fin.sum_univ_two]
  exact (congrArg₂ (· + ·) (h0 k) (h1 k)).trans (zero_add _)

variable (gs us : Vec Ideal S1x32x512 .bf16) (xr : Fin 8 → Fin 4096 → EReal)

/-- The gate projection of a token, in one block of 512 columns. -/
def gateB (t : Fin 8) (n : Fin 512) : EReal :=
  ∑ k : Fin 4096, xr t k * (nlo (x1 (ix3 0 k n)) * gs (ix3 0 ⟨k.val / 128, by omega⟩ n))

/-- The up projection of a token, in one block of 512 columns. -/
def upB (t : Fin 8) (n : Fin 512) : EReal :=
  ∑ k : Fin 4096, xr t k * (nhi (x1 (ix3 0 k n)) * us (ix3 0 ⟨k.val / 128, by omega⟩ n))

/-- The spread activations: row `t` holds the activation of token `t` in the even columns and zero in the odd ones,
    row `t + 8` the other way round. -/
structure Spread : Prop where
  ee : ∀ (t : Fin 8) (k : Fin 4096), x0 (ix2 ⟨t.val, by omega⟩ ⟨k.val * 2, by omega⟩) = xr t k
  eo : ∀ (t : Fin 8) (k : Fin 4096), x0 (ix2 ⟨t.val, by omega⟩ ⟨k.val * 2 + 1, by omega⟩) = (0 : EReal)
  oe : ∀ (t : Fin 8) (k : Fin 4096), x0 (ix2 ⟨t.val + 8, by omega⟩ ⟨k.val * 2, by omega⟩) = (0 : EReal)
  oo : ∀ (t : Fin 8) (k : Fin 4096), x0 (ix2 ⟨t.val + 8, by omega⟩ ⟨k.val * 2 + 1, by omega⟩) = xr t k

theorem pairs13_even (r : Fin 32) (n : Fin 512) : k0_pay22 (F := Ideal) gs us (ix3 r 0 n) = gs (ix3 0 r n) := by
  pointwise [k0_pay22]

theorem pairs13_odd (r : Fin 32) (n : Fin 512) : k0_pay22 (F := Ideal) gs us (ix3 r 1 n) = us (ix3 0 r n) := by
  pointwise [k0_pay22]

theorem wgu_even (k : Fin 4096) (n : Fin 512) :
    wgu x1 (k0_pay22 (F := Ideal) gs us) ⟨k.val * 2, by omega⟩ n
      = nlo (x1 (ix3 0 k n)) * gs (ix3 0 ⟨k.val / 128, by omega⟩ n) := by
  unfold wgu dq
  have e : k.val * 2 / 2 = k.val := by omega
  have e' : k.val * 2 / 256 = k.val / 128 := by omega
  rw [if_pos (by dsimp only; omega), pairs13_even]
  simp only [e, e']

theorem wgu_odd (k : Fin 4096) (n : Fin 512) :
    wgu x1 (k0_pay22 (F := Ideal) gs us) ⟨k.val * 2 + 1, by omega⟩ n
      = nhi (x1 (ix3 0 k n)) * us (ix3 0 ⟨k.val / 128, by omega⟩ n) := by
  unfold wgu dq
  have e : (k.val * 2 + 1) / 2 = k.val := by omega
  have e' : (k.val * 2 + 1) / 256 = k.val / 128 := by omega
  rw [if_neg (by dsimp only; omega), pairs13_odd]
  simp only [e, e']

/-- Rows 0 to 7 of the product over interleaved rows are the gate projection. -/
theorem gate_eq (hx : Spread x0 xr) (t : Fin 8) (n : Fin 512) :
    ∑ X : Fin 8192, x0 (ix2 ⟨t.val, by omega⟩ X) * wgu x1 (k0_pay22 (F := Ideal) gs us) X n = gateB x1 gs xr t n := by
  refine sum_even 4096 rfl _ _ (fun k => ?_) (fun k => ?_)
  · rw [hx.ee, wgu_even]
  · rw [hx.eo, zero_mul]

/-- Rows 8 to 15 of the product over interleaved rows are the up projection. -/
theorem up_eq (hx : Spread x0 xr) (t : Fin 8) (n : Fin 512) :
    ∑ X : Fin 8192, x0 (ix2 ⟨t.val + 8, by omega⟩ X) * wgu x1 (k0_pay22 (F := Ideal) gs us) X n = upB x1 us xr t n := by
  refine sum_odd 4096 rfl _ _ (fun k => ?_) (fun k => ?_)
  · rw [hx.oe, zero_mul]
  · rw [hx.oo, wgu_odd]

end Cert.KernelIdeal.Body
-- ==== Proof.OneHot.lean ====
module

public import proofs.«01_k».proof.Proof.Up

/-! # The two one-hot matrices

The kernel spreads 128 columns over 256 by multiplying with a 0/1 matrix: column `x` goes to column `2 x`, or to
column `2 x + 1`. -/

@[expose] public section

set_option maxRecDepth 16384

noncomputable section

namespace Cert.KernelIdeal.Body

open Cert.KernelIdeal Cert.KernelIdeal.Gen Idealize.ShloMosaic Idealize.ShloMosaic.TcCoe Idealize.SL.Sem

/-- The matrix that sends column `x` to column `2 x`. -/
def oneEven (n : Fin 256) (x : Fin 128) : EReal :=
  FloatOps.sitofp (F := Ideal) FTy.f32 (BitVec.setWidth 32
    (IntOp.cmpi CmpIPredicate.eq (BitVec.ofNat 32 n.val) (IntOp.muli 2#32 (BitVec.ofNat 32 x.val))))

/-- The matrix that sends column `x` to column `2 x + 1`. -/
def oneOdd (n : Fin 256) (x : Fin 128) : EReal :=
  FloatOps.sitofp (F := Ideal) FTy.f32 (BitVec.setWidth 32
    (IntOp.cmpi CmpIPredicate.eq (BitVec.ofNat 32 n.val) (IntOp.addi (IntOp.muli 2#32 (BitVec.ofNat 32 x.val)) 1#32)))

theorem even_word : ∀ (n : Fin 256) (x : Fin 128), BitVec.setWidth 32
    (IntOp.cmpi CmpIPredicate.eq (BitVec.ofNat 32 n.val) (IntOp.muli 2#32 (BitVec.ofNat 32 x.val)))
    = if n.val = 2 * x.val then 1#32 else 0#32 := by decide +kernel

theorem odd_word : ∀ (n : Fin 256) (x : Fin 128), BitVec.setWidth 32
    (IntOp.cmpi CmpIPredicate.eq (BitVec.ofNat 32 n.val) (IntOp.addi (IntOp.muli 2#32 (BitVec.ofNat 32 x.val)) 1#32))
    = if n.val = 2 * x.val + 1 then 1#32 else 0#32 := by decide +kernel

theorem sitofp_one : FloatOps.sitofp (F := Ideal) FTy.f32 1#32 = (1 : EReal) := by
  show ((((1#32 : BitVec 32).toInt : ℤ) : ℝ) : EReal) = 1
  simp

theorem sitofp_zero : FloatOps.sitofp (F := Ideal) FTy.f32 0#32 = (0 : EReal) := by
  show ((((0#32 : BitVec 32).toInt : ℤ) : ℝ) : EReal) = 0
  simp

theorem oneEven_eq (n : Fin 256) (x : Fin 128) : oneEven n x = if n.val = 2 * x.val then 1 else 0 := by
  unfold oneEven
  rw [even_word]
  split_ifs
  · exact sitofp_one
  · exact sitofp_zero

theorem oneOdd_eq (n : Fin 256) (x : Fin 128) : oneOdd n x = if n.val = 2 * x.val + 1 then 1 else 0 := by
  unfold oneOdd
  rw [odd_word]
  split_ifs
  · exact sitofp_one
  · exact sitofp_zero

theorem sum_oneEven (a : Fin 128 → EReal) (n : Fin 256) :
    ∑ x, a x * oneEven n x = if n.val % 2 = 0 then a ⟨n.val / 2, by omega⟩ else 0 := by
  split_ifs with h
  · rw [Finset.sum_eq_single (⟨n.val / 2, by omega⟩ : Fin 128)]
    · rw [oneEven_eq, if_pos (by dsimp only; omega), mul_one]
    · intro b _ hb
      rw [oneEven_eq, if_neg (fun e => hb (Fin.ext (by dsimp only; omega))), mul_zero]
    · exact fun h => absurd (Finset.mem_univ _) h
  · refine Finset.sum_eq_zero fun b _ => ?_
    rw [oneEven_eq, if_neg (by omega), mul_zero]

theorem sum_oneOdd (a : Fin 128 → EReal) (n : Fin 256) :
    ∑ x, a x * oneOdd n x = if n.val % 2 = 0 then 0 else a ⟨n.val / 2, by omega⟩ := by
  split_ifs with h
  · refine Finset.sum_eq_zero fun b _ => ?_
    rw [oneOdd_eq, if_neg (by omega), mul_zero]
  · rw [Finset.sum_eq_single (⟨n.val / 2, by omega⟩ : Fin 128)]
    · rw [oneOdd_eq, if_pos (by dsimp only; omega), mul_one]
    · intro b _ hb
      rw [oneOdd_eq, if_neg (fun e => hb (Fin.ext (by dsimp only; omega))), mul_zero]
    · exact fun h => absurd (Finset.mem_univ _) h

end Cert.KernelIdeal.Body
-- ==== Proof.Down.lean ====
module

public import proofs.«01_k».proof.Proof.Up
public import proofs.«01_k».proof.Proof.OneHot

/-! # The down projection of one block

The product of gate and up is spread over 1024 interleaved rows, one-hot matrix by one-hot matrix, and multiplied
with the interleaved down weights in four column blocks of 512. -/

@[expose] public section

set_option maxRecDepth 16384

noncomputable section

namespace Cert.KernelIdeal.Body

open Cert.KernelIdeal Cert.KernelIdeal.Gen Idealize.ShloMosaic Idealize.ShloMosaic.TcCoe Idealize.SL.Sem

/-- The spread product of gate and up at a row and an interleaved column. -/
def spreadV (hr : Fin 8 → Fin 512 → EReal) (r : Fin 16) (X : Fin 1024) : EReal :=
  if h : r.val < 8 then (if X.val % 2 = 0 then hr ⟨r.val, h⟩ ⟨X.val / 2, by omega⟩ else 0)
  else (if X.val % 2 = 0 then 0 else hr ⟨r.val - 8, by omega⟩ ⟨X.val / 2, by omega⟩)

/-- Gate times its logistic times up, from the accumulator that holds the gate above the up projection. -/
def hid (G : FVec Ideal S16x512 .f32) (t : Fin 8) (n : Fin 512) : EReal :=
  G (ix2 ⟨t.val, by omega⟩ n) * Ideal.logistic (G (ix2 ⟨t.val, by omega⟩ n)) * G (ix2 ⟨8 + t.val, by omega⟩ n)

variable (G : FVec Ideal S16x512 .f32)

/-- The spread product for one group of 128 columns. -/
theorem spread_piece (hr : Fin 8 → Fin 512 → EReal) (p : ℕ) (hp : p < 4) (r : Fin 16) (n : Fin 256)
    (a : r.val < 8 → Fin 128 → EReal) (b : ¬ r.val < 8 → Fin 128 → EReal) (E O : Fin 128 → EReal)
    (hE : ∀ x, E x = oneEven n x) (hO : ∀ x, O x = oneOdd n x) (X : Fin 1024) (hX : X.val = 256 * p + n.val)
    (ha : ∀ (h : r.val < 8) (x : Fin 128), a h x = hr ⟨r.val, h⟩ ⟨128 * p + x.val, by omega⟩)
    (hb : ∀ (h : ¬ r.val < 8) (x : Fin 128), b h x = hr ⟨r.val - 8, by omega⟩ ⟨128 * p + x.val, by omega⟩) :
    (if h : r.val < 8 then ∑ x, a h x * E x else ∑ x, b h x * O x) = spreadV hr r X := by
  obtain rfl : E = oneEven n := funext hE
  obtain rfl : O = oneOdd n := funext hO
  have e : X.val % 2 = n.val % 2 := by omega
  have e' : X.val / 2 = 128 * p + n.val / 2 := by omega
  unfold spreadV
  by_cases h : r.val < 8
  · rw [dif_pos h, dif_pos h, sum_oneEven, ha h]
    simp only [e, e']
  · rw [dif_neg h, dif_neg h, sum_oneOdd, hb h]
    simp only [e, e']

theorem pay30_apply (r : Fin 16) (n : Fin 256) : k0_pay30 (F := Ideal) (k0_pay25 G) (k0_pay26 G) (ix2 r n)
    = spreadV (hid G) r ⟨256 * 0 + n.val, by omega⟩ := by
  pointwise [k0_pay30, k0_pay25, k0_pay26, k0_pay27, k0_pay28, k0_pay29]
  refine spread_piece (hid G) 0 (by omega) r n _ _ _ _ (fun _ => rfl) (fun _ => rfl) _ (by dsimp only; omega) (fun h x => ?_) (fun h x => ?_)
  · unfold hid
    simp only [Nat.mul_zero, Nat.zero_add]
  · unfold hid
    simp only [Nat.mul_zero, Nat.zero_add]

theorem pay31_apply (r : Fin 16) (n : Fin 256) : k0_pay31 (F := Ideal) (k0_pay25 G) (k0_pay26 G) (ix2 r n)
    = spreadV (hid G) r ⟨256 * 1 + n.val, by omega⟩ := by
  pointwise [k0_pay31, k0_pay25, k0_pay26, k0_pay27, k0_pay28, k0_pay29]
  refine spread_piece (hid G) 1 (by omega) r n _ _ _ _ (fun _ => rfl) (fun _ => rfl) _ rfl (fun h x => ?_) (fun h x => ?_)
  · unfold hid
    blk_ext []
  · unfold hid
    blk_ext []

theorem pay32_apply (r : Fin 16) (n : Fin 256) : k0_pay32 (F := Ideal) (k0_pay25 G) (k0_pay26 G) (ix2 r n)
    = spreadV (hid G) r ⟨256 * 2 + n.val, by omega⟩ := by
  pointwise [k0_pay32, k0_pay25, k0_pay26, k0_pay27, k0_pay28, k0_pay29]
  refine spread_piece (hid G) 2 (by omega) r n _ _ _ _ (fun _ => rfl) (fun _ => rfl) _ rfl (fun h x => ?_) (fun h x => ?_)
  · unfold hid
    blk_ext []
  · unfold hid
    blk_ext []

theorem pay33_apply (r : Fin 16) (n : Fin 256) : k0_pay33 (F := Ideal) (k0_pay27 (k0_pay25 G) (k0_pay26 G)) k0_pay28 k0_pay29 (ix2 r n)
    = spreadV (hid G) r ⟨256 * 3 + n.val, by omega⟩ := by
  pointwise [k0_pay33, k0_pay25, k0_pay26, k0_pay27, k0_pay28, k0_pay29]
  refine spread_piece (hid G) 3 (by omega) r n _ _ _ _ (fun _ => rfl) (fun _ => rfl) _ rfl (fun h x => ?_) (fun h x => ?_)
  · unfold hid
    blk_ext []
  · unfold hid
    blk_ext []

/-- Rows 0 to 7 of the spread product, against a table of interleaved weights. -/
theorem sum_spread_low (hr : Fin 8 → Fin 512 → EReal) (W : Fin 1024 → EReal) (w : Fin 512 → EReal)
    (hw : ∀ q : Fin 512, W ⟨q.val * 2, by omega⟩ = w q) (t : Fin 8) (r : Fin 16) (hr' : r.val = t.val) :
    ∑ X : Fin 1024, spreadV hr r X * W X = ∑ q : Fin 512, hr t q * w q := by
  have hlt : r.val < 8 := by omega
  have et : (⟨r.val, hlt⟩ : Fin 8) = t := Fin.ext hr'
  refine sum_even 512 rfl _ _ (fun k => ?_) (fun k => ?_)
  · have e : k.val * 2 / 2 = k.val := by omega
    unfold spreadV
    rw [dif_pos hlt, if_pos (by dsimp only; omega), hw, et]
    simp only [e]
  · unfold spreadV
    rw [dif_pos hlt, if_neg (by dsimp only; omega), zero_mul]

/-- Rows 8 to 15 of the spread product, against a table of interleaved weights. -/
theorem sum_spread_high (hr : Fin 8 → Fin 512 → EReal) (W : Fin 1024 → EReal) (w : Fin 512 → EReal)
    (hw : ∀ q : Fin 512, W ⟨q.val * 2 + 1, by omega⟩ = w q) (t : Fin 8) (r : Fin 16) (hr' : r.val = 8 + t.val) :
    ∑ X : Fin 1024, spreadV hr r X * W X = ∑ q : Fin 512, hr t q * w q := by
  have hlt : ¬ r.val < 8 := by omega
  have et : (⟨r.val - 8, by omega⟩ : Fin 8) = t := Fin.ext (by dsimp only; omega)
  refine sum_odd 512 rfl _ _ (fun k => ?_) (fun k => ?_)
  · unfold spreadV
    rw [dif_neg hlt, if_pos (by dsimp only; omega), zero_mul]
  · have e : (k.val * 2 + 1) / 2 = k.val := by omega
    unfold spreadV
    rw [dif_neg hlt, if_neg (by dsimp only; omega), hw, et]
    simp only [e]

variable (x4 : Vec Ideal S1x512x2048 .i8) (s10 : Vec Ideal S112x2x2048 .bf16)

/-- The dequantised down weight in interleaved row `X` and column `n`, with the scale rows from row `b` on. -/
def wd (b : ℕ) (hb : b + 4 ≤ 112) (X : Fin 1024) (n : Fin 2048) : EReal :=
  dq X.val (x4 (ix3 0 ⟨X.val / 2, by omega⟩ n)) (s10 (ix3 ⟨b + X.val / 256, by omega⟩ 0 n))
    (s10 (ix3 ⟨b + X.val / 256, by omega⟩ 1 n))

/-- One block of 256 rows and 512 columns of the down weights. -/
theorem down_block (o1 o2 : Fin 3 → ℕ) (b j cn : ℕ) (hb : b + 4 ≤ 112) (hj : j < 4) (hc : cn + 512 ≤ 2048)
    (h1 : ∀ a, o1 a + (![1, 128, 512] : Fin 3 → ℕ) a ≤ S1x512x2048.size a)
    (h2 : ∀ a, o2 a + (![1, 2, 512] : Fin 3 → ℕ) a ≤ S112x2x2048.size a)
    (e1 : o1 = ![0, 128 * j, cn]) (e2 : o2 = ![b + j, 0, cn]) (r : Fin 256) (n : Fin 512) (X : Fin 1024)
    (hX : X.val = 256 * j + r.val) :
    k0_pay4 (F := Ideal) (View.ld x4 (Rect.unit (s := S1x512x2048) o1 ![1, 128, 512] h1))
        (View.ld s10 (Rect.unit (s := S112x2x2048) o2 ![1, 2, 512] h2)) (ix2 r n)
      = wd x4 s10 b hb X ⟨cn + n.val, by omega⟩ := by
  subst e1 e2
  rw [block_apply]
  unfold wd
  refine dq_congr (by omega) ?_ ?_ ?_
  · pointwise []
    blk_ext []
  · pointwise []
    blk_ext []
  · pointwise []
    blk_ext []

/-- Four stacked blocks of one table, against the spread product. -/
theorem down4_apply (W : Fin 1024 → EReal) (w0 w1 w2 w3 : FVec Ideal S256x512 .bf16) (h : FVec Ideal S16x1024 .bf16)
    (hr : Fin 8 → Fin 512 → EReal) (hh : ∀ r X, h (ix2 r X) = spreadV hr r X) (r : Fin 16) (n : Fin 512)
    (h0 : ∀ (q : Fin 256) (X : Fin 1024), X.val = 256 * 0 + q.val → w0 (ix2 q n) = W X)
    (h1 : ∀ (q : Fin 256) (X : Fin 1024), X.val = 256 * 1 + q.val → w1 (ix2 q n) = W X)
    (h2 : ∀ (q : Fin 256) (X : Fin 1024), X.val = 256 * 2 + q.val → w2 (ix2 q n) = W X)
    (h3 : ∀ (q : Fin 256) (X : Fin 1024), X.val = 256 * 3 + q.val → w3 (ix2 q n) = W X) :
    down4 w0 w1 w2 w3 h (ix2 r n) = ∑ X : Fin 1024, spreadV hr r X * W X := by
  pointwise [down4]
  refine Finset.sum_congr rfl fun x _ => ?_
  refine Ideal.mul_congr (hh _ _) ?_
  by_cases c0 : x.val < 256
  · rw [dif_pos c0]; exact h0 _ _ (by dsimp only; omega)
  rw [dif_neg c0]
  by_cases c1 : x.val - 256 < 256
  · rw [dif_pos c1]; exact h1 _ _ (by dsimp only; omega)
  rw [dif_neg c1]
  by_cases c2 : x.val - 256 - 256 < 256
  · rw [dif_pos c2]; exact h2 _ _ (by dsimp only; omega)
  rw [dif_neg c2]
  exact h3 _ _ (by dsimp only; omega)

theorem addLow_apply (d : FVec Ideal S16x512 .f32) (o : FVec Ideal S1x8x512 .f32) (t : Fin 8) (n : Fin 512) :
    addLow d o (ix3 0 t n) = o (ix3 0 t n) + d (ix2 ⟨t.val, by omega⟩ n) := by
  pointwise [addLow]

theorem addHigh_apply (d : FVec Ideal S16x512 .f32) (o : FVec Ideal S1x8x512 .f32) (t : Fin 8) (n : Fin 512) :
    addHigh d o (ix3 0 t n) = o (ix3 0 t n) + d (ix2 ⟨8 + t.val, by omega⟩ n) := by
  pointwise [addHigh]

variable (sd : Vec Ideal S1x112x4096 .bf16)

/-- The down scales as the kernel pairs them: low columns in row 0, high columns in row 1. -/
theorem pairs2_even (a b : Vec Ideal S1x112x2048 .bf16) (r : Fin 112) (n : Fin 2048) :
    k0_pay23 (F := Ideal) a b (ix3 r 0 n) = a (ix3 0 r n) := by
  pointwise [k0_pay23]

theorem pairs2_odd (a b : Vec Ideal S1x112x2048 .bf16) (r : Fin 112) (n : Fin 2048) :
    k0_pay23 (F := Ideal) a b (ix3 r 1 n) = b (ix3 0 r n) := by
  pointwise [k0_pay23]

/-- The dequantised down weight in row `q` of a block and in column `C` of the result; `b` is the first of the
    block's four scale rows. -/
def wdown (b : ℕ) (hb : b + 4 ≤ 112) (q : Fin 512) (C : Fin 4096) : EReal :=
  (if h : C.val < 2048 then nlo (x4 (ix3 0 q ⟨C.val, h⟩)) else nhi (x4 (ix3 0 q ⟨C.val - 2048, by omega⟩)))
    * sd (ix3 0 ⟨b + q.val / 128, by omega⟩ C)

theorem wd_low (b : ℕ) (hb : b + 4 ≤ 112)
    (hs : ∀ r n, s10 (ix3 r 0 n) = sd (ix3 0 r ⟨n.val, by omega⟩)) (q : Fin 512) (n : Fin 2048) (C : Fin 4096) (hC : C.val = n.val) :
    wd x4 s10 b hb ⟨q.val * 2, by omega⟩ n = wdown x4 sd b hb q C := by
  have e : q.val * 2 / 2 = q.val := by omega
  have e' : q.val * 2 / 256 = q.val / 128 := by omega
  have hlt : C.val < 2048 := by omega
  unfold wd wdown dq
  rw [if_pos (by dsimp only; omega), dif_pos hlt, hs]
  obtain rfl : n = ⟨C.val, hlt⟩ := Fin.ext hC.symm
  simp only [e, e']

theorem wd_high (b : ℕ) (hb : b + 4 ≤ 112)
    (hs : ∀ r n, s10 (ix3 r 1 n) = sd (ix3 0 r ⟨2048 + n.val, by omega⟩)) (q : Fin 512) (n : Fin 2048) (C : Fin 4096)
    (hC : C.val = 2048 + n.val) :
    wd x4 s10 b hb ⟨q.val * 2 + 1, by omega⟩ n = wdown x4 sd b hb q C := by
  have e : (q.val * 2 + 1) / 2 = q.val := by omega
  have e' : (q.val * 2 + 1) / 256 = q.val / 128 := by omega
  have e'' : 2048 + n.val - 2048 = n.val := by omega
  unfold wd wdown dq
  rw [if_neg (by dsimp only; omega), dif_neg (by omega), hs]
  refine Ideal.mul_congr (congrArg nhi ?_) ?_
  · blk_ext []
  · blk_ext []

end Cert.KernelIdeal.Body
-- ==== Proof.Point.lean ====
module

public import proofs.«01_k».proof.Proof.Down

/-! # One grid point

What one grid point adds to the block of results: the product of gate and up of 512 columns of the hidden layer,
times the 512 matching rows of the down weights. -/

@[expose] public section

set_option maxRecDepth 16384

noncomputable section

namespace Cert.KernelIdeal.Body

open Cert.KernelIdeal Cert.KernelIdeal.Gen Idealize.ShloMosaic Idealize.ShloMosaic.TcCoe Idealize.SL.Sem

/-- Four blocks of the down weights at once, at a row `t` of the low half. -/
theorem low_at (x4 : Vec Ideal S1x512x2048 .i8) (s10 : Vec Ideal S112x2x2048 .bf16) (sd : Vec Ideal S1x112x4096 .bf16)
    (b : ℕ) (hb : b + 4 ≤ 112) (cn : ℕ) (hc : cn + 512 ≤ 2048)
    (hs : ∀ r n, s10 (ix3 r 0 n) = sd (ix3 0 r ⟨n.val, by omega⟩))
    (w0 w1 w2 w3 : FVec Ideal S256x512 .bf16) (h : FVec Ideal S16x1024 .bf16) (o : FVec Ideal S1x8x512 .f32)
    (hr : Fin 8 → Fin 512 → EReal) (hh : ∀ r X, h (ix2 r X) = spreadV hr r X)
    (h0 : ∀ (q : Fin 256) (n : Fin 512) (X : Fin 1024), X.val = 256 * 0 + q.val → w0 (ix2 q n) = wd x4 s10 b hb X ⟨cn + n.val, by omega⟩)
    (h1 : ∀ (q : Fin 256) (n : Fin 512) (X : Fin 1024), X.val = 256 * 1 + q.val → w1 (ix2 q n) = wd x4 s10 b hb X ⟨cn + n.val, by omega⟩)
    (h2 : ∀ (q : Fin 256) (n : Fin 512) (X : Fin 1024), X.val = 256 * 2 + q.val → w2 (ix2 q n) = wd x4 s10 b hb X ⟨cn + n.val, by omega⟩)
    (h3 : ∀ (q : Fin 256) (n : Fin 512) (X : Fin 1024), X.val = 256 * 3 + q.val → w3 (ix2 q n) = wd x4 s10 b hb X ⟨cn + n.val, by omega⟩)
    (t : Fin 8) (n : Fin 512) (C : Fin 4096) (hC : C.val = cn + n.val) :
    addLow (down4 w0 w1 w2 w3 h) o (ix3 0 t n) = o (ix3 0 t n) + ∑ q : Fin 512, hr t q * wdown x4 sd b hb q C := by
  rw [addLow_apply, down4_apply (fun X => wd x4 s10 b hb X ⟨cn + n.val, by omega⟩) w0 w1 w2 w3 h hr hh _ n
    (fun q X => h0 q n X) (fun q X => h1 q n X) (fun q X => h2 q n X) (fun q X => h3 q n X)]
  refine congrArg _ (sum_spread_low hr _ _ (fun q => ?_) t _ rfl)
  exact wd_low x4 s10 sd b hb hs q _ C hC

/-- Four blocks of the down weights at once, at a row `8 + t` of the high half. -/
theorem high_at (x4 : Vec Ideal S1x512x2048 .i8) (s10 : Vec Ideal S112x2x2048 .bf16) (sd : Vec Ideal S1x112x4096 .bf16)
    (b : ℕ) (hb : b + 4 ≤ 112) (cn : ℕ) (hc : cn + 512 ≤ 2048)
    (hs : ∀ r n, s10 (ix3 r 1 n) = sd (ix3 0 r ⟨2048 + n.val, by omega⟩))
    (w0 w1 w2 w3 : FVec Ideal S256x512 .bf16) (h : FVec Ideal S16x1024 .bf16) (o : FVec Ideal S1x8x512 .f32)
    (hr : Fin 8 → Fin 512 → EReal) (hh : ∀ r X, h (ix2 r X) = spreadV hr r X)
    (h0 : ∀ (q : Fin 256) (n : Fin 512) (X : Fin 1024), X.val = 256 * 0 + q.val → w0 (ix2 q n) = wd x4 s10 b hb X ⟨cn + n.val, by omega⟩)
    (h1 : ∀ (q : Fin 256) (n : Fin 512) (X : Fin 1024), X.val = 256 * 1 + q.val → w1 (ix2 q n) = wd x4 s10 b hb X ⟨cn + n.val, by omega⟩)
    (h2 : ∀ (q : Fin 256) (n : Fin 512) (X : Fin 1024), X.val = 256 * 2 + q.val → w2 (ix2 q n) = wd x4 s10 b hb X ⟨cn + n.val, by omega⟩)
    (h3 : ∀ (q : Fin 256) (n : Fin 512) (X : Fin 1024), X.val = 256 * 3 + q.val → w3 (ix2 q n) = wd x4 s10 b hb X ⟨cn + n.val, by omega⟩)
    (t : Fin 8) (n : Fin 512) (C : Fin 4096) (hC : C.val = 2048 + (cn + n.val)) :
    addHigh (down4 w0 w1 w2 w3 h) o (ix3 0 t n) = o (ix3 0 t n) + ∑ q : Fin 512, hr t q * wdown x4 sd b hb q C := by
  rw [addHigh_apply, down4_apply (fun X => wd x4 s10 b hb X ⟨cn + n.val, by omega⟩) w0 w1 w2 w3 h hr hh _ n
    (fun q X => h0 q n X) (fun q X => h1 q n X) (fun q X => h2 q n X) (fun q X => h3 q n X)]
  refine congrArg _ (sum_spread_high hr _ _ (fun q => ?_) t _ rfl)
  exact wd_high x4 s10 sd b hb hs q _ C hC

/-- The hidden layer's value for one token and one column of a block. -/
def hblk (x1 : Vec Ideal S1x4096x512 .i8) (gs us : Vec Ideal S1x32x512 .bf16) (xr : Fin 8 → Fin 4096 → EReal)
    (t : Fin 8) (n : Fin 512) : EReal :=
  gateB x1 gs xr t n * Ideal.logistic (gateB x1 gs xr t n) * upB x1 us xr t n

theorem hid_eq (x0 : Vec Ideal S16x8192 .bf16) (x1 : Vec Ideal S1x4096x512 .i8) (gs us : Vec Ideal S1x32x512 .bf16)
    (xr : Fin 8 → Fin 4096 → EReal) (hx : Spread x0 xr) (G : FVec Ideal S16x512 .f32)
    (hG : ∀ r n, G (ix2 r n) = ∑ X : Fin 8192, x0 (ix2 r X) * wgu x1 (k0_pay22 (F := Ideal) gs us) X n) (t : Fin 8) (n : Fin 512) :
    hid G t n = hblk x1 gs us xr t n := by
  have e : (⟨8 + t.val, by omega⟩ : Fin 16) = ⟨t.val + 8, by omega⟩ := Fin.ext (Nat.add_comm _ _)
  unfold hid hblk
  rw [e, hG, hG, gate_eq x0 x1 gs us xr hx, up_eq x0 x1 gs us xr hx]

/-- What one grid point adds to an element of the block of results. -/
def partB (x1 : Vec Ideal S1x4096x512 .i8) (gs us : Vec Ideal S1x32x512 .bf16) (xr : Fin 8 → Fin 4096 → EReal)
    (x4 : Vec Ideal S1x512x2048 .i8) (sd : Vec Ideal S1x112x4096 .bf16) (b : ℕ) (hb : b + 4 ≤ 112) (t : Fin 8)
    (C : Fin 4096) : EReal :=
  ∑ q : Fin 512, hblk x1 gs us xr t q * wdown x4 sd b hb q C

theorem off4' : ∀ (t : Fin cfg0.N) (j : Fin 4), k0_off4 (grid0.coords t) (BitVec.ofNat 32 j.val)
    = ![4 * (t.val % 28) + j.val, 0, 0] :=
  (by decide +kernel : ∀ (t : Fin grid0.N) (j : Fin 4), _)

theorem off4 (t : Fin cfg0.N) (j : ℕ) (hj : j < 4) : k0_off4 (grid0.coords t) (BitVec.ofNat 32 j)
    = ![4 * (t.val % 28) + j, 0, 0] := off4' t ⟨j, hj⟩

theorem off5' : ∀ (t : Fin cfg0.N) (j : Fin 4), k0_off5 (grid0.coords t) (BitVec.ofNat 32 j.val)
    = ![4 * (t.val % 28) + j.val, 0, 512] :=
  (by decide +kernel : ∀ (t : Fin grid0.N) (j : Fin 4), _)

theorem off5 (t : Fin cfg0.N) (j : ℕ) (hj : j < 4) : k0_off5 (grid0.coords t) (BitVec.ofNat 32 j)
    = ![4 * (t.val % 28) + j, 0, 512] := off5' t ⟨j, hj⟩

theorem off6' : ∀ (t : Fin cfg0.N) (j : Fin 4), k0_off6 (grid0.coords t) (BitVec.ofNat 32 j.val)
    = ![4 * (t.val % 28) + j.val, 0, 1024] :=
  (by decide +kernel : ∀ (t : Fin grid0.N) (j : Fin 4), _)

theorem off6 (t : Fin cfg0.N) (j : ℕ) (hj : j < 4) : k0_off6 (grid0.coords t) (BitVec.ofNat 32 j)
    = ![4 * (t.val % 28) + j, 0, 1024] := off6' t ⟨j, hj⟩

theorem off7' : ∀ (t : Fin cfg0.N) (j : Fin 4), k0_off7 (grid0.coords t) (BitVec.ofNat 32 j.val)
    = ![4 * (t.val % 28) + j.val, 0, 1536] :=
  (by decide +kernel : ∀ (t : Fin grid0.N) (j : Fin 4), _)

theorem off7 (t : Fin cfg0.N) (j : ℕ) (hj : j < 4) : k0_off7 (grid0.coords t) (BitVec.ofNat 32 j)
    = ![4 * (t.val % 28) + j, 0, 1536] := off7' t ⟨j, hj⟩

/-- Stores read back at an element that one of them other than the first covers. -/
theorem canon_dropLast {S : Shape} {e : EltTy} :
    ∀ (L : List (View.Piece (Elt Ideal) S e)) (y : S.Idx), (∃ p ∈ L.dropLast, y ∈ p.1.set) →
      View.canon L y = View.canon L.dropLast y
  | [], _, _ => rfl
  | [p], _, hc => by obtain ⟨q, hq, _⟩ := hc; exact absurd hq List.not_mem_nil
  | p :: q :: L, y, hc => by
    rw [List.dropLast_cons₂] at hc ⊢
    by_cases hm : y ∈ p.1.set
    · obtain ⟨x, rfl⟩ := p.1.exists_idx_of_mem hm
      exact (View.canon_cons_emb p.1 p.2 _ x).trans (View.canon_cons_emb p.1 p.2 _ x).symm
    · rw [View.canon_cons_of_not_mem _ _ hm, View.canon_cons_of_not_mem _ _ hm]
      refine canon_dropLast (q :: L) y ?_
      obtain ⟨r, hr, hyr⟩ := hc
      rcases List.mem_cons.mp hr with rfl | hr'
      · exact absurd hyr hm
      · exact ⟨r, hr', hyr⟩

/-- The stored spread product, read back whole. -/
theorem spread_read (G : FVec Ideal S16x512 .f32) (r : Fin 16) (X : Fin 1024) :
    View.readCov (Val := Elt Ideal) (View.whole cc0_scratch2)
      [⟨Rect.unit (s := S16x1024) ![0, 768] ![16, 256] inb_S16x1024_S16x256_0_768,
          k0_pay33 (F := Ideal) (k0_pay27 (k0_pay25 G) (k0_pay26 G)) k0_pay28 k0_pay29⟩,
        ⟨Rect.unit (s := S16x1024) ![0, 512] ![16, 256] inb_S16x1024_S16x256_0_512, k0_pay32 (F := Ideal) (k0_pay25 G) (k0_pay26 G)⟩,
        ⟨Rect.unit (s := S16x1024) ![0, 256] ![16, 256] inb_S16x1024_S16x256_0_256, k0_pay31 (F := Ideal) (k0_pay25 G) (k0_pay26 G)⟩,
        ⟨Rect.unit (s := S16x1024) ![0, 0] ![16, 256] inb_S16x1024_S16x256_0_0, k0_pay30 (F := Ideal) (k0_pay25 G) (k0_pay26 G)⟩]
      (Rect.unit (s := S16x1024) ![0, 0] ![16, 1024] inb_S16x1024_S16x1024_0_0).toLoadRect (ix2 r X)
      = spreadV (hid G) r X := by
  have i0 : ((Rect.unit (s := S16x1024) ![0, 0] ![16, 1024] inb_S16x1024_S16x1024_0_0).idx (ix2 r X) 0 : ℕ) = r.val :=
    (Rect.idx_unit_val _ _ _ _ _).trans (Nat.zero_add _)
  have i1 : ((Rect.unit (s := S16x1024) ![0, 0] ![16, 1024] inb_S16x1024_S16x1024_0_0).idx (ix2 r X) 1 : ℕ) = X.val :=
    (Rect.idx_unit_val _ _ _ _ _).trans (Nat.zero_add _)
  rw [View.readCov_eq_canon']
  canon_tiles z hz
  all_goals
    have e0 := i0.symm.trans hz0
    have e1 := i1.symm.trans hz1
    idx_vars z
  · exact (pay33_apply G _ _).trans (congrArg₂ (spreadV (hid G)) (Fin.ext e0.symm) (Fin.ext e1.symm))
  · exact (pay32_apply G _ _).trans (congrArg₂ (spreadV (hid G)) (Fin.ext e0.symm) (Fin.ext e1.symm))
  · exact (pay31_apply G _ _).trans (congrArg₂ (spreadV (hid G)) (Fin.ext e0.symm) (Fin.ext e1.symm))
  · exact (pay30_apply G _ _).trans
      (congrArg₂ (spreadV (hid G)) (Fin.ext e0.symm) (Fin.ext ((Nat.zero_add _).trans e1.symm)))

/-- The paired scales, stored and read back. -/
theorem table_read (gs us : Vec Ideal S1x32x512 .bf16) :
    View.read (Elt Ideal) (View.whole cc0_scratch0) ((View.whole cc0_scratch0).writes (Elt Ideal) (View.whole cc0_scratch0).junk
      [⟨Rect.unit (s := S32x2x512) ![0, 0, 0] ![32, 2, 512] inb_S32x2x512_S32x2x512_0_0_0, k0_pay22 (F := Ideal) gs us⟩])
      = k0_pay22 (F := Ideal) gs us :=
  (View.read_writes_junk_eq_canon (Val := Elt Ideal) _ _).trans
    (View.canon_unit_zero (funext fun a => by fin_cases a <;> rfl) _ _)

/-- What the loop leaves, from its activations, its weights and the stored pairs of scales. -/
theorem acc_apply (c : Dev nD) (t : Fin cfg0.N) (x0 : Vec Ideal S16x8192 .bf16) (x1 : Vec Ideal S1x4096x512 .i8)
    (gs us : Vec Ideal S1x32x512 .bf16) (r : Fin 16) (n : Fin 512) :
    st_k0_t1 (F := Ideal) Variants.none c none (grid0.coords t)
      (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) scM0_0 (Memref.isWhole_whole _) scM0_1 (Memref.isWhole_whole _) scM0_2
      (Memref.isWhole_whole _)
      ((hs0_0 t).unread x0) ((hs0_1 t).unread x1)
      ((View.whole cc0_scratch0).writes (Elt Ideal) (View.whole cc0_scratch0).junk
        [⟨Rect.unit (s := S32x2x512) ![0, 0, 0] ![32, 2, 512] inb_S32x2x512_S32x2x512_0_0_0, k0_pay22 (F := Ideal) gs us⟩])
      k0_pay24 (Scf.trips 0#32 (Scalar.addi 0#32 4#32) 1#32) (ix2 r n)
      = ∑ X : Fin 8192, x0 (ix2 r X) * wgu x1 (k0_pay22 (F := Ideal) gs us) X n := by
  refine loop_apply x0 x1 (k0_pay22 (F := Ideal) gs us) _ _ _ _ _ _ _ _ _ _ _ _ _ _ _ _ _ _ _ _ _ _ _ _ _ ?_ r n _ ?_
  · exact table_read gs us
  · rfl

/-- The stored spread product holds the hidden layer's block. -/
theorem spread_hblk (x0 : Vec Ideal S16x8192 .bf16) (x1 : Vec Ideal S1x4096x512 .i8) (gs us : Vec Ideal S1x32x512 .bf16)
    (xr : Fin 8 → Fin 4096 → EReal) (hx : Spread x0 xr) (G : FVec Ideal S16x512 .f32)
    (hG : ∀ r n, G (ix2 r n) = ∑ X : Fin 8192, x0 (ix2 r X) * wgu x1 (k0_pay22 (F := Ideal) gs us) X n)
    (h : Vec Ideal S16x1024 .bf16) (hh : ∀ r X, h (ix2 r X) = spreadV (hid G) r X) (r : Fin 16) (X : Fin 1024) :
    h (ix2 r X) = spreadV (hblk x1 gs us xr) r X := by
  have e : hid G = hblk x1 gs us xr := funext fun a => funext fun n => hid_eq x0 x1 gs us xr hx G hG a n
  rw [hh, e]

/-- The pairs of down scales, read in the even rows. -/
theorem pairs2_low (sd : Vec Ideal S1x112x4096 .bf16) (r : Fin 112) (n : Fin 2048) :
    k0_pay23 (F := Ideal)
        (View.ld sd (Rect.unit (s := S1x112x4096) ![0, 0, 0] ![1, 112, 2048] inb_S1x112x4096_S1x112x2048_0_0_0))
        (View.ld sd (Rect.unit (s := S1x112x4096) ![0, 0, 2048] ![1, 112, 2048] inb_S1x112x4096_S1x112x2048_0_0_2048)) (ix3 r 0 n)
      = sd (ix3 0 r ⟨n.val, by omega⟩) := by
  rw [pairs2_even]
  pointwise []
  blk_ext []

/-- The pairs of down scales, read in the odd rows. -/
theorem pairs2_high (sd : Vec Ideal S1x112x4096 .bf16) (r : Fin 112) (n : Fin 2048) :
    k0_pay23 (F := Ideal)
        (View.ld sd (Rect.unit (s := S1x112x4096) ![0, 0, 0] ![1, 112, 2048] inb_S1x112x4096_S1x112x2048_0_0_0))
        (View.ld sd (Rect.unit (s := S1x112x4096) ![0, 0, 2048] ![1, 112, 2048] inb_S1x112x4096_S1x112x2048_0_0_2048)) (ix3 r 1 n)
      = sd (ix3 0 r ⟨2048 + n.val, by omega⟩) := by
  rw [pairs2_odd]
  pointwise []
  blk_ext []

section Columns

variable (x4 : Vec Ideal S1x512x2048 .i8) (s10 : Vec Ideal S112x2x2048 .bf16) (sd : Vec Ideal S1x112x4096 .bf16)
  (b : ℕ) (hb : b + 4 ≤ 112) (cn : ℕ) (hc : cn + 512 ≤ 2048) (off : BitVec 32 → Fin 3 → ℕ)
  (hoff : ∀ j, j < 4 → off (BitVec.ofNat 32 j) = ![b + j, 0, cn])
  (h : Vec Ideal S16x1024 .bf16) (hr : Fin 8 → Fin 512 → EReal) (hh : ∀ r X, h (ix2 r X) = spreadV hr r X)
  (i0 : ∀ a, (![0, 0, cn] : Fin 3 → ℕ) a + (![1, 128, 512] : Fin 3 → ℕ) a ≤ S1x512x2048.size a)
  (i1 : ∀ a, (![0, 128, cn] : Fin 3 → ℕ) a + (![1, 128, 512] : Fin 3 → ℕ) a ≤ S1x512x2048.size a)
  (i2 : ∀ a, (![0, 256, cn] : Fin 3 → ℕ) a + (![1, 128, 512] : Fin 3 → ℕ) a ≤ S1x512x2048.size a)
  (i3 : ∀ a, (![0, 384, cn] : Fin 3 → ℕ) a + (![1, 128, 512] : Fin 3 → ℕ) a ≤ S1x512x2048.size a)
  (j0 : ∀ a, off 0#32 a + (![1, 2, 512] : Fin 3 → ℕ) a ≤ S112x2x2048.size a)
  (j1 : ∀ a, off 1#32 a + (![1, 2, 512] : Fin 3 → ℕ) a ≤ S112x2x2048.size a)
  (j2 : ∀ a, off 2#32 a + (![1, 2, 512] : Fin 3 → ℕ) a ≤ S112x2x2048.size a)
  (j3 : ∀ a, off 3#32 a + (![1, 2, 512] : Fin 3 → ℕ) a ≤ S112x2x2048.size a)
  (o : Vec Ideal S1x8x512 .f32) (t : Fin 8) (n : Fin 512) (C : Fin 4096)

include hb hc hoff hh

/-- One block of 512 columns of the result's low half. -/
theorem low_col (hs : ∀ r n, s10 (ix3 r 0 n) = sd (ix3 0 r ⟨n.val, by omega⟩))
    (hC : C.val = cn + n.val) :
    addLow (down4
          (k0_pay4 (View.ld x4 (Rect.unit (s := S1x512x2048) ![0, 0, cn] ![1, 128, 512] i0))
            (View.ld s10 (Rect.unit (s := S112x2x2048) (off 0#32) ![1, 2, 512] j0)))
          (k0_pay4 (View.ld x4 (Rect.unit (s := S1x512x2048) ![0, 128, cn] ![1, 128, 512] i1))
            (View.ld s10 (Rect.unit (s := S112x2x2048) (off 1#32) ![1, 2, 512] j1)))
          (k0_pay4 (View.ld x4 (Rect.unit (s := S1x512x2048) ![0, 256, cn] ![1, 128, 512] i2))
            (View.ld s10 (Rect.unit (s := S112x2x2048) (off 2#32) ![1, 2, 512] j2)))
          (k0_pay4 (View.ld x4 (Rect.unit (s := S1x512x2048) ![0, 384, cn] ![1, 128, 512] i3))
            (View.ld s10 (Rect.unit (s := S112x2x2048) (off 3#32) ![1, 2, 512] j3))) h) o (ix3 0 t n)
      = o (ix3 0 t n) + ∑ q : Fin 512, hr t q * wdown x4 sd b hb q C :=
  low_at x4 s10 sd b hb cn hc hs _ _ _ _ h o hr hh
    (fun q n X e => down_block x4 s10 _ _ b 0 cn hb (by omega) hc _ _ rfl (hoff 0 (by omega)) q n X e)
    (fun q n X e => down_block x4 s10 _ _ b 1 cn hb (by omega) hc _ _ rfl (hoff 1 (by omega)) q n X e)
    (fun q n X e => down_block x4 s10 _ _ b 2 cn hb (by omega) hc _ _ rfl (hoff 2 (by omega)) q n X e)
    (fun q n X e => down_block x4 s10 _ _ b 3 cn hb (by omega) hc _ _ rfl (hoff 3 (by omega)) q n X e)
    t n C hC

/-- One block of 512 columns of the result's high half. -/
theorem high_col (hs : ∀ r n, s10 (ix3 r 1 n) = sd (ix3 0 r ⟨2048 + n.val, by omega⟩))
    (hC : C.val = 2048 + (cn + n.val)) :
    addHigh (down4
          (k0_pay4 (View.ld x4 (Rect.unit (s := S1x512x2048) ![0, 0, cn] ![1, 128, 512] i0))
            (View.ld s10 (Rect.unit (s := S112x2x2048) (off 0#32) ![1, 2, 512] j0)))
          (k0_pay4 (View.ld x4 (Rect.unit (s := S1x512x2048) ![0, 128, cn] ![1, 128, 512] i1))
            (View.ld s10 (Rect.unit (s := S112x2x2048) (off 1#32) ![1, 2, 512] j1)))
          (k0_pay4 (View.ld x4 (Rect.unit (s := S1x512x2048) ![0, 256, cn] ![1, 128, 512] i2))
            (View.ld s10 (Rect.unit (s := S112x2x2048) (off 2#32) ![1, 2, 512] j2)))
          (k0_pay4 (View.ld x4 (Rect.unit (s := S1x512x2048) ![0, 384, cn] ![1, 128, 512] i3))
            (View.ld s10 (Rect.unit (s := S112x2x2048) (off 3#32) ![1, 2, 512] j3))) h) o (ix3 0 t n)
      = o (ix3 0 t n) + ∑ q : Fin 512, hr t q * wdown x4 sd b hb q C :=
  high_at x4 s10 sd b hb cn hc hs _ _ _ _ h o hr hh
    (fun q n X e => down_block x4 s10 _ _ b 0 cn hb (by omega) hc _ _ rfl (hoff 0 (by omega)) q n X e)
    (fun q n X e => down_block x4 s10 _ _ b 1 cn hb (by omega) hc _ _ rfl (hoff 1 (by omega)) q n X e)
    (fun q n X e => down_block x4 s10 _ _ b 2 cn hb (by omega) hc _ _ rfl (hoff 2 (by omega)) q n X e)
    (fun q n X e => down_block x4 s10 _ _ b 3 cn hb (by omega) hc _ _ rfl (hoff 3 (by omega)) q n X e)
    t n C hC

end Columns

set_option maxHeartbeats 2000000 in
/-- A later point of a run adds its part to what the point before left. -/
theorem out_B (xr : Fin 8 → Fin 4096 → EReal) (c : Dev nD) (t : Fin cfg0.N) (hB : ¬ cond0_0 (grid0.coords t))
    (x0 : Vec Ideal S16x8192 .bf16) (x1 : Vec Ideal S1x4096x512 .i8) (gs us : Vec Ideal S1x32x512 .bf16)
    (x4 : Vec Ideal S1x512x2048 .i8) (sd : Vec Ideal S1x112x4096 .bf16)
    (O : Vec Ideal S1x8x4096 .f32) (hx : Spread x0 xr) (hb : 4 * (t.val % 28) + 4 ≤ 112) (Y : S1x8x4096.Idx) :
    out0_B_6 c (grid0.coords t)
      (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) scM0_0 (Memref.isWhole_whole _) scM0_1 (Memref.isWhole_whole _) scM0_2
      (Memref.isWhole_whole _)
      hB x0 x1 gs us x4 sd O Y
      = (O Y : EReal) + partB x1 gs us xr x4 sd (4 * (t.val % 28)) hb (Y 1) (Y 2) := by
  frame_out
  generalize hG : st_k0_t1 (F := Ideal) _ _ _ _ _ _ _ _ _ _ _ _ _ _ _ _ _ _ _ _ _ _ _ _ _ _ _ _ _ = G
  generalize hH : View.readCov (Val := Elt Ideal) (s := S16x1024) _ _ _ = H
  generalize hS : k0_pay23 (F := Ideal) _ _ = S2
  have fH : ∀ r X, H (ix2 r X) = spreadV (hblk x1 gs us xr) r X :=
    spread_hblk x0 x1 gs us xr hx G (fun r n => by rw [← hG]; exact acc_apply c t x0 x1 gs us r n) H
      (fun r X => by rw [← hH]; exact spread_read G r X)
  have fe := fun r n => (congrFun hS (ix3 r 0 n)).symm.trans (pairs2_low sd r n)
  have fo := fun r n => (congrFun hS (ix3 r 1 n)).symm.trans (pairs2_high sd r n)
  clear hG hH hS
  canon_tiles y hy
  all_goals
    have e1 : Y 1 = y 1 := Fin.ext hy1
    rw [e1]
    idx_vars y
    obtain rfl : y0 = 0 := Subsingleton.elim _ _
  · rw [pay3_eq]
    refine (high_col x4 S2 sd _ hb 1536 (by omega) (k0_off7 (grid0.coords t)) (off7 t) H _ fH _ _ _ _ _ _ _ _ _ y1 y2 (Y 2)
      fo (hy2.trans (by omega))).trans (congrArg₂ (· + ·) ?_ rfl)
    pointwise []; blk_ext []
  · rw [pay2_eq]
    refine (low_col x4 S2 sd _ hb 1536 (by omega) (k0_off7 (grid0.coords t)) (off7 t) H _ fH _ _ _ _ _ _ _ _ _ y1 y2 (Y 2)
      fe (hy2.trans (by omega))).trans (congrArg₂ (· + ·) ?_ rfl)
    pointwise []; blk_ext []
  · rw [pay68_eq]
    refine (high_col x4 S2 sd _ hb 1024 (by omega) (k0_off6 (grid0.coords t)) (off6 t) H _ fH _ _ _ _ _ _ _ _ _ y1 y2 (Y 2)
      fo (hy2.trans (by omega))).trans (congrArg₂ (· + ·) ?_ rfl)
    pointwise []; blk_ext []
  · rw [pay67_eq]
    refine (low_col x4 S2 sd _ hb 1024 (by omega) (k0_off6 (grid0.coords t)) (off6 t) H _ fH _ _ _ _ _ _ _ _ _ y1 y2 (Y 2)
      fe (hy2.trans (by omega))).trans (congrArg₂ (· + ·) ?_ rfl)
    pointwise []; blk_ext []
  · rw [pay54_eq]
    refine (high_col x4 S2 sd _ hb 512 (by omega) (k0_off5 (grid0.coords t)) (off5 t) H _ fH _ _ _ _ _ _ _ _ _ y1 y2 (Y 2)
      fo (hy2.trans (by omega))).trans (congrArg₂ (· + ·) ?_ rfl)
    pointwise []; blk_ext []
  · rw [pay53_eq]
    refine (low_col x4 S2 sd _ hb 512 (by omega) (k0_off5 (grid0.coords t)) (off5 t) H _ fH _ _ _ _ _ _ _ _ _ y1 y2 (Y 2)
      fe (hy2.trans (by omega))).trans (congrArg₂ (· + ·) ?_ rfl)
    pointwise []; blk_ext []
  · rw [pay43_eq]
    refine (high_col x4 S2 sd _ hb 0 (by omega) (k0_off4 (grid0.coords t)) (off4 t) H _ fH _ _ _ _ _ _ _ _ _ y1 y2 (Y 2)
      fo (hy2.trans (by omega))).trans (congrArg₂ (· + ·) ?_ rfl)
    pointwise []; blk_ext []
  · rw [pay41_eq]
    refine (low_col x4 S2 sd _ hb 0 (by omega) (k0_off4 (grid0.coords t)) (off4 t) H _ fH _ _ _ _ _ _ _ _ _ y1 y2 (Y 2)
      fe (hy2.trans (by omega))).trans (congrArg₂ (· + ·) ?_ rfl)
    pointwise []; blk_ext []

set_option maxHeartbeats 4000000 in
/-- The first point of a run adds its part to zero. -/
theorem out_A (xr : Fin 8 → Fin 4096 → EReal) (c : Dev nD) (t : Fin cfg0.N) (hA : cond0_0 (grid0.coords t))
    (x0 : Vec Ideal S16x8192 .bf16) (x1 : Vec Ideal S1x4096x512 .i8) (gs us : Vec Ideal S1x32x512 .bf16)
    (x4 : Vec Ideal S1x512x2048 .i8) (sd : Vec Ideal S1x112x4096 .bf16)
    (hx : Spread x0 xr) (hb : 4 * (t.val % 28) + 4 ≤ 112) (Y : S1x8x4096.Idx) :
    out0_A_6 c (grid0.coords t)
      (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) scM0_0 (Memref.isWhole_whole _) scM0_1 (Memref.isWhole_whole _) scM0_2
      (Memref.isWhole_whole _)
      hA x0 x1 gs us x4 sd Y
      = (0 : EReal) + partB x1 gs us xr x4 sd (4 * (t.val % 28)) hb (Y 1) (Y 2) := by
  frame_out
  generalize hG : st_k0_t1 (F := Ideal) _ _ _ _ _ _ _ _ _ _ _ _ _ _ _ _ _ _ _ _ _ _ _ _ _ _ _ _ _ = G
  generalize hH : View.readCov (Val := Elt Ideal) (s := S16x1024) _ _ _ = H
  generalize hS : k0_pay23 (F := Ideal) _ _ = S2
  have fH : ∀ r X, H (ix2 r X) = spreadV (hblk x1 gs us xr) r X :=
    spread_hblk x0 x1 gs us xr hx G (fun r n => by rw [← hG]; exact acc_apply c t x0 x1 gs us r n) H
      (fun r X => by rw [← hH]; exact spread_read G r X)
  have fe := fun r n => (congrFun hS (ix3 r 0 n)).symm.trans (pairs2_low sd r n)
  have fo := fun r n => (congrFun hS (ix3 r 1 n)).symm.trans (pairs2_high sd r n)
  clear hG hH hS
  simp (disch := decide) only [↓ View.readCov_skip, ↓ View.readCov_fill]
  refine (canon_dropLast _ _ ?_).trans ?_
  · exact View.cover_of_tiled_head _ _ _ (by rfl) Y
  simp only [List.dropLast]
  canon_tiles y hy
  all_goals
    have e1 : Y 1 = y 1 := Fin.ext hy1
    rw [e1]
    idx_vars y
    obtain rfl : y0 = 0 := Subsingleton.elim _ _
  · rw [pay3_eq]
    refine (high_col x4 S2 sd _ hb 1536 (by omega) (k0_off7 (grid0.coords t)) (off7 t) H _ fH _ _ _ _ _ _ _ _ _ y1 y2 (Y 2)
      fo (hy2.trans (by omega))).trans (congrArg₂ (· + ·) ?_ rfl)
    pointwise [k0_pay34]
  · rw [pay2_eq]
    refine (low_col x4 S2 sd _ hb 1536 (by omega) (k0_off7 (grid0.coords t)) (off7 t) H _ fH _ _ _ _ _ _ _ _ _ y1 y2 (Y 2)
      fe (hy2.trans (by omega))).trans (congrArg₂ (· + ·) ?_ rfl)
    pointwise [k0_pay34]
  · rw [pay68_eq]
    refine (high_col x4 S2 sd _ hb 1024 (by omega) (k0_off6 (grid0.coords t)) (off6 t) H _ fH _ _ _ _ _ _ _ _ _ y1 y2 (Y 2)
      fo (hy2.trans (by omega))).trans (congrArg₂ (· + ·) ?_ rfl)
    pointwise [k0_pay34]
  · rw [pay67_eq]
    refine (low_col x4 S2 sd _ hb 1024 (by omega) (k0_off6 (grid0.coords t)) (off6 t) H _ fH _ _ _ _ _ _ _ _ _ y1 y2 (Y 2)
      fe (hy2.trans (by omega))).trans (congrArg₂ (· + ·) ?_ rfl)
    pointwise [k0_pay34]
  · rw [pay54_eq]
    refine (high_col x4 S2 sd _ hb 512 (by omega) (k0_off5 (grid0.coords t)) (off5 t) H _ fH _ _ _ _ _ _ _ _ _ y1 y2 (Y 2)
      fo (hy2.trans (by omega))).trans (congrArg₂ (· + ·) ?_ rfl)
    pointwise [k0_pay34]
  · rw [pay53_eq]
    refine (low_col x4 S2 sd _ hb 512 (by omega) (k0_off5 (grid0.coords t)) (off5 t) H _ fH _ _ _ _ _ _ _ _ _ y1 y2 (Y 2)
      fe (hy2.trans (by omega))).trans (congrArg₂ (· + ·) ?_ rfl)
    pointwise [k0_pay34]
  · rw [pay43_eq]
    refine (high_col x4 S2 sd _ hb 0 (by omega) (k0_off4 (grid0.coords t)) (off4 t) H _ fH _ _ _ _ _ _ _ _ _ y1 y2 (Y 2)
      fo (hy2.trans (by omega))).trans (congrArg₂ (· + ·) ?_ rfl)
    pointwise [k0_pay34]
  · rw [pay41_eq]
    refine (low_col x4 S2 sd _ hb 0 (by omega) (k0_off4 (grid0.coords t)) (off4 t) H _ fH _ _ _ _ _ _ _ _ _ y1 y2 (Y 2)
      fe (hy2.trans (by omega))).trans (congrArg₂ (· + ·) ?_ rfl)
    pointwise [k0_pay34]

end Cert.KernelIdeal.Body
-- ==== Proof.Spec.lean ====
module

public import proofs.«01_k».proof.Proof.Point

/-! # What the array of results holds

The layer written over the whole argument arrays, and the kernel's grid points summed up to it. -/

@[expose] public section

set_option maxRecDepth 16384

noncomputable section

namespace Cert.KernelIdeal.Body

open Cert.KernelIdeal Cert.KernelIdeal.Gen Idealize.ShloMosaic Idealize.ShloMosaic.TcCoe Idealize.SL.Sem

section Layer

variable (x : Vec Ideal S7x1x4096 .bf16) (w13 : Vec Ideal S6x4096x14336 .i8) (gs us : Vec Ideal S6x32x14336 .bf16)
  (w2 : Vec Ideal S6x14336x2048 .i8) (sd : Vec Ideal S6x112x4096 .bf16)

/-- The tokens, with one row of zeros below. -/
def xrow (t : Fin 8) (k : Fin 4096) : EReal := if h : t.val < 7 then x (ix3 ⟨t.val, h⟩ 0 k) else 0

/-- The gate projection of a token by one expert. -/
def gateA (e : Fin 6) (t : Fin 8) (f : Fin 14336) : EReal :=
  ∑ k : Fin 4096, xrow x t k * (nlo (w13 (ix3 e k f)) * gs (ix3 e ⟨k.val / 128, by omega⟩ f))

/-- The up projection of a token by one expert. -/
def upA (e : Fin 6) (t : Fin 8) (f : Fin 14336) : EReal :=
  ∑ k : Fin 4096, xrow x t k * (nhi (w13 (ix3 e k f)) * us (ix3 e ⟨k.val / 128, by omega⟩ f))

/-- The hidden layer of one expert: gate times its logistic times up. -/
def hidA (e : Fin 6) (t : Fin 8) (f : Fin 14336) : EReal :=
  gateA x w13 gs e t f * Ideal.logistic (gateA x w13 gs e t f) * upA x w13 us e t f

/-- The down weight of one expert: the low codes hold the first 2048 columns, the high codes the last. -/
def downA (e : Fin 6) (f : Fin 14336) (o : Fin 4096) : EReal :=
  (if h : o.val < 2048 then nlo (w2 (ix3 e f ⟨o.val, h⟩)) else nhi (w2 (ix3 e f ⟨o.val - 2048, by omega⟩)))
    * sd (ix3 e ⟨f.val / 128, by omega⟩ o)

/-- The expert's output for a token. -/
def layer (e : Fin 6) (t : Fin 8) (o : Fin 4096) : EReal :=
  ∑ f : Fin 14336, hidA x w13 gs us e t f * downA w2 sd e f o

end Layer

section Blocks

variable (m : (ℓ : Loc nD τ sig) → Buf (Elt Ideal) ℓ)

theorem idx : ∀ t : Fin cfg0.N, win0_0.index t = ![0, 0] ∧ win0_1.index t = ![t.val / 28, 0, t.val % 28]
    ∧ win0_2.index t = ![t.val / 28, 0, t.val % 28] ∧ win0_3.index t = ![t.val / 28, 0, t.val % 28]
    ∧ win0_4.index t = ![t.val / 28, t.val % 28, 0] ∧ win0_5.index t = ![t.val / 28, 0, 0]
    ∧ win0_6.index t = ![t.val / 28, 0, 0] := (by decide +kernel : ∀ t : Fin grid0.N, _)

/-- The tokens as the host pads them. -/
def padded (x : Vec Ideal S7x1x4096 .bf16) : Vec Ideal S8x4096 .bf16 :=
  pad S8x4096 ![0, 0] ![1, 0] ![0, 0] (shapeCast _ x shapeCasts_S7x1x4096_S7x4096) (sitofp (F := Ideal) .bf16 (constantI S_ 32 0#32))
    pads_S7x4096_S8x4096_010_000 h_S_

/-- Each entry followed by the matching entry of the second array. -/
def pairUp (a b : Vec Ideal S8x4096 .bf16) : Vec Ideal S8x8192 .bf16 :=
  shapeCast _ (concatenate S8x4096x2 2 [⟨S8x4096x1, broadcastInDim S8x4096x1 ![0, 1] bcast_S8x4096_S8x4096x1_0_1 a⟩,
    ⟨S8x4096x1, broadcastInDim S8x4096x1 ![0, 1] bcast_S8x4096_S8x4096x1_0_1 b⟩]
    concatenates_S8x4096x1_S8x4096x1_S8x4096x2_d2) shapeCasts_S8x4096x2_S8x8192

/-- Zeros in the shape of the padded tokens. -/
def zeros : Vec Ideal S8x4096 .bf16 := broadcastInDim S8x4096 ![] bcast_S_S8x4096 (constant (F := Ideal) S_ .bf16 0x0000#16)

/-- The spread tokens as the host builds them. -/
def spreadHost (x : Vec Ideal S7x1x4096 .bf16) : Vec Ideal S16x8192 .bf16 :=
  concatenate S16x8192 0 [⟨S8x8192, pairUp (padded x) zeros⟩, ⟨S8x8192, pairUp zeros (padded x)⟩]
    concatenates_S8x8192_S8x8192_S16x8192_d0

theorem entry_x (c : Dev nD) : V m c main_v11 = spreadHost (m ((c : Thread nD τ).loc main_arg0)) := by
  show StableHlo.after [hostOps0, hostOps0_1, hostOps0_2].flatten _ _ = _
  simp only [List.flatten_cons, List.flatten_nil, List.append_nil, List.cons_append, List.nil_append, hostOps0, hostOps0_1, hostOps0_2]
  after_results
  rfl

theorem padded_at (x : Vec Ideal S7x1x4096 .bf16) (t : Fin 8) (k : Fin 4096) : (padded x (ix2 t k) : EReal) = xrow x t k := by
  pointwise [padded, xrow]
  by_cases h : t.val < 7
  · rw [dif_pos h, dif_pos h]
  · rw [dif_neg h, dif_neg h]
    show (((0#32 : BitVec 32).toInt : ℝ) : EReal) = 0
    simp

theorem zeros_at (t : Fin 8) (k : Fin 4096) : (zeros (ix2 t k) : EReal) = 0 := by
  pointwise [zeros]

theorem pairUp_even (a b : Vec Ideal S8x4096 .bf16) (t : Fin 8) (k : Fin 4096) :
    pairUp a b (ix2 t ⟨k.val * 2, by omega⟩) = a (ix2 t k) := by
  pointwise [pairUp]
  exact dif_pos (by omega)

theorem pairUp_odd (a b : Vec Ideal S8x4096 .bf16) (t : Fin 8) (k : Fin 4096) :
    pairUp a b (ix2 t ⟨k.val * 2 + 1, by omega⟩) = b (ix2 t k) := by
  pointwise [pairUp]
  exact dif_neg (by omega)

theorem spreadHost_top (x : Vec Ideal S7x1x4096 .bf16) (t : Fin 8) (j : Fin 8192) :
    spreadHost x (ix2 ⟨t.val, by omega⟩ j) = pairUp (padded x) zeros (ix2 t j) := by
  pointwise [spreadHost]

theorem spreadHost_bottom (x : Vec Ideal S7x1x4096 .bf16) (t : Fin 8) (j : Fin 8192) :
    spreadHost x (ix2 ⟨t.val + 8, by omega⟩ j) = pairUp zeros (padded x) (ix2 t j) := by
  pointwise [spreadHost]
  rw [dif_neg (by omega)]
  rfl

theorem spread_host (x : Vec Ideal S7x1x4096 .bf16) : Spread (spreadHost x) (xrow x) := by
  constructor <;> intro t k
  · exact (spreadHost_top x t _).trans ((pairUp_even _ _ t k).trans (padded_at x t k))
  · exact (spreadHost_top x t _).trans ((pairUp_odd _ _ t k).trans (zeros_at t k))
  · exact (spreadHost_bottom x t _).trans ((pairUp_even _ _ t k).trans (zeros_at t k))
  · exact (spreadHost_bottom x t _).trans ((pairUp_odd _ _ t k).trans (padded_at x t k))

/-- The activations the kernel is handed are the tokens, spread. -/
theorem spread_x (c : Dev nD) (t : Fin cfg0.N) :
    Spread (iblk m c 0 t) (xrow (m ((c : Thread nD τ).loc main_arg0))) := by
  have h : (iblk m c 0 t : Vec Ideal S16x8192 .bf16) = spreadHost (m ((c : Thread nD τ).loc main_arg0)) := by
    rw [← entry_x]
    funext i
    blk_ext [iblk, idx t]
  have h2 := spread_host (m ((c : Thread nD τ).loc main_arg0))
  rw [← h] at h2
  exact h2

end Blocks

end Cert.KernelIdeal.Body
-- ==== Proof.Fold.lean ====
module

public import proofs.«01_k».proof.Proof.Spec

/-! # The grid summed up

Each expert's block of the result is visited at 28 grid points, one per 512 columns of the hidden layer; what the array
holds at the end is the sum of the 28 parts, which is the layer. -/

@[expose] public section

set_option maxRecDepth 16384

noncomputable section

namespace Cert.KernelIdeal.Body

open Cert.KernelIdeal Cert.KernelIdeal.Gen Idealize.ShloMosaic Idealize.ShloMosaic.TcCoe Idealize.SL.Sem

/-- One grid point's part, from blocks that are pieces of the whole arrays: the sum over the point's 512 columns. -/
theorem partB_layer (xr : Fin 8 → Fin 4096 → EReal) (x : Vec Ideal S7x1x4096 .bf16) (w13 : Vec Ideal S6x4096x14336 .i8)
    (gs us : Vec Ideal S6x32x14336 .bf16) (w2 : Vec Ideal S6x14336x2048 .i8) (sd : Vec Ideal S6x112x4096 .bf16)
    (x1 : Vec Ideal S1x4096x512 .i8) (g u : Vec Ideal S1x32x512 .bf16) (x4 : Vec Ideal S1x512x2048 .i8)
    (d : Vec Ideal S1x112x4096 .bf16) (e : Fin 6) (s : Fin 28) (b : ℕ) (hb : b + 4 ≤ 112) (hs : b = 4 * s.val)
    (h1 : ∀ (k : Fin 4096) (n : Fin 512), x1 (ix3 0 k n) = w13 (ix3 e k ⟨s.val * 512 + n.val, by omega⟩))
    (h2 : ∀ (k : Fin 32) (n : Fin 512), g (ix3 0 k n) = gs (ix3 e k ⟨s.val * 512 + n.val, by omega⟩))
    (h3 : ∀ (k : Fin 32) (n : Fin 512), u (ix3 0 k n) = us (ix3 e k ⟨s.val * 512 + n.val, by omega⟩))
    (h4 : ∀ (q : Fin 512) (o : Fin 2048), x4 (ix3 0 q o) = w2 (ix3 e ⟨s.val * 512 + q.val, by omega⟩ o))
    (h5 : ∀ (r : Fin 112) (o : Fin 4096), d (ix3 0 r o) = sd (ix3 e r o)) (t : Fin 8) (o : Fin 4096) :
    partB x1 g u (xrow x) x4 d b hb t o
      = ∑ q : Fin 512, hidA x w13 gs us e t ⟨s.val * 512 + q.val, by omega⟩ * downA w2 sd e ⟨s.val * 512 + q.val, by omega⟩ o := by
  have hg : ∀ q : Fin 512, gateB x1 g (xrow x) t q = gateA x w13 gs e t ⟨s.val * 512 + q.val, by omega⟩ := fun q => by
    unfold gateB gateA
    refine Finset.sum_congr rfl fun k _ => ?_
    rw [h1, h2]
  have hu : ∀ q : Fin 512, upB x1 u (xrow x) t q = upA x w13 us e t ⟨s.val * 512 + q.val, by omega⟩ := fun q => by
    unfold upB upA
    refine Finset.sum_congr rfl fun k _ => ?_
    rw [h1, h3]
  unfold partB
  refine Finset.sum_congr rfl fun q _ => ?_
  have hr : (⟨b + q.val / 128, by omega⟩ : Fin 112) = ⟨(s.val * 512 + q.val) / 128, by omega⟩ := Fin.ext (by dsimp only; omega)
  unfold hblk hidA wdown downA
  rw [hg, hu, h5, hr]
  by_cases h : o.val < 2048
  · rw [dif_pos h, dif_pos h, h4]
  · rw [dif_neg h, dif_neg h, h4]

variable (m : (ℓ : Loc nD τ sig) → Buf (Elt Ideal) ℓ)

/-- What one grid point adds to the block of the result. -/
def part (c : Dev nD) (t : Fin cfg0.N) (Y : S1x8x4096.Idx) : EReal :=
  partB (iblk m c 1 t) (iblk m c 2 t) (iblk m c 3 t) (xrow (m ((c : Thread nD τ).loc main_arg0))) (iblk m c 4 t)
    (iblk m c 5 t) (4 * (t.val % 28)) (by omega) (Y 1) (Y 2)

/-- The layer over the argument arrays. -/
def out (c : Dev nD) (e : Fin 6) (t : Fin 8) (o : Fin 4096) : EReal :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) e t o

/-- The first point of an expert leaves its part alone. -/
theorem first (c : Dev nD) (t : Fin cfg0.N) (h : t.val % 28 = 0) (Y : S1x8x4096.Idx) :
    outsAt0 m c t.val t.isLt Y = (0 : EReal) + part m c t Y := by
  rw [outsAt0_A m c t h]
  exact out_A (xrow (m ((c : Thread nD τ).loc main_arg0))) c t _ _ _ _ _ _ _ (spread_x m c t) (by omega) Y

/-- Every later point adds its part to what the point before left. -/
theorem later (c : Dev nD) (t : Fin cfg0.N) (h : ¬ t.val % 28 = 0) (Y : S1x8x4096.Idx) :
    outsAt0 m c t.val t.isLt Y
      = (outsAt0 m c (t.val - 1) (Nat.lt_of_le_of_lt (Nat.sub_le _ _) t.isLt) Y : EReal) + part m c t Y := by
  rw [outsAt0_B m c t h]
  exact out_B (xrow (m ((c : Thread nD τ).loc main_arg0))) c t _ _ _ _ _ _ _ _ (spread_x m c t) (by omega) Y

theorem part_eq (c : Dev nD) (t : Fin cfg0.N) (Y : S1x8x4096.Idx) (e : Fin 6) (s : Fin 28) (he : e.val = t.val / 28)
    (hs : s.val = t.val % 28) :
    part m c t Y = ∑ q : Fin 512,
      hidA (m ((c : Thread nD τ).loc main_arg0)) (m ((c : Thread nD τ).loc main_arg1)) (m ((c : Thread nD τ).loc main_arg2))
        (m ((c : Thread nD τ).loc main_arg3)) e (Y 1) ⟨s.val * 512 + q.val, by omega⟩
      * downA (m ((c : Thread nD τ).loc main_arg4)) (m ((c : Thread nD τ).loc main_arg5)) e ⟨s.val * 512 + q.val, by omega⟩ (Y 2) := by
  unfold part
  refine partB_layer (xrow (m ((c : Thread nD τ).loc main_arg0))) _ _ _ _ _ _ _ _ _ _ _ e s _ _ (by omega) ?_ ?_ ?_ ?_ ?_ _ _
  all_goals intro a b
  · blk_ext [iblk, V, idx t]
  · blk_ext [iblk, V, idx t]
  · blk_ext [iblk, V, idx t]
  · blk_ext [iblk, V, idx t]
  · blk_ext [iblk, V, idx t]

/-- The array of results at the end of the grid. -/
theorem final (c : Dev nD) : (dats m 0 c).arrAt 6 cfg0.N = fun i : S6x8x4096.Idx => out m c (i 0) (i 1) (i 2) := by
  refine (dats m 0 c).arrAt_eq_of_covers 6 _ (by decide +kernel) fun t hf y => ?_
  have hN : t.val < 168 := lt_of_lt_of_eq t.isLt (show cfg0.N = 168 from N_0)
  have key : (outsAt0 m c t.val t.isLt y : EReal) = out m c ⟨t.val / 28, by omega⟩ (y 1) (y 2) := by
    refine (Pipeline.eq_sum_fin_of_reset_step_apply_of_flush (fun n h => outsAt0 m c n h) 28 (fun _ => (0 : EReal))
      (fun t j => part m c t j) (fun t h j => first m c t h j) (fun t h j => later m c t h j) t ((flush0_6 t).mp hf) y).trans ?_
    rw [zero_add]
    unfold out layer
    refine (Finset.sum_congr rfl fun s _ => part_eq m c ⟨_, Pipeline.run_point_lt_of_flush t ((flush0_6 t).mp hf) s⟩ y
      ⟨t.val / 28, by omega⟩ s (by dsimp only; omega) (by dsimp only; omega)).trans ?_
    exact Fin.sum_mul_add_congr fun s k hl => rfl
  rw [after0_6]
  refine key.trans ?_
  show out m c _ _ _ = out m c _ _ _
  congr 1
  · refine Fin.ext ?_
    blk_simp [idx t]
  · refine Fin.ext ?_
    blk_simp [idx t]
  · refine Fin.ext ?_
    blk_simp [idx t]

end Cert.KernelIdeal.Body
-- ==== Proof.Reference.lean ====
module

public import proofs.«01_k».proof.Proof.Spec
public import proofs.«01_k».proof.Proof.Gen.ReferenceIdeal.Run

/-! # What the reference computes

The reference read entry by entry: it is the layer. -/

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Cert.KernelIdeal.Body (nlo nhi xrow gateA upA hidA downA layer)

/-- The signed word of four bits of a byte: the byte is moved up by `s` bits, then 28 down. -/
def nibWord (s : BitVec 32) (b : BitVec 8) : BitVec 32 :=
  IntOp.shrsi .host (IntOp.shli .host (BitVec.setWidth 32 b) s) 28#32

/-- Four bits of a byte, as a signed number. -/
def nib (s : BitVec 32) (b : BitVec 8) : EReal := FloatOps.sitofp (F := Ideal) .f32 (nibWord s b)

theorem nib_low (b : BitVec 8) : nib 28#32 b = nlo b := by
  have h : ∀ b : BitVec 8, (nibWord 28#32 b).toInt = (IntOp.shrsi .vector (IntOp.shli .vector b 4#8) 4#8).toInt := by decide +kernel
  show (((nibWord 28#32 b).toInt : ℝ) : EReal) = ((IntOp.shrsi .vector (IntOp.shli .vector b 4#8) 4#8).toInt : ℝ)
  rw [h]

theorem nib_high (b : BitVec 8) : nib 24#32 b = nhi b := by
  have h : ∀ b : BitVec 8, (nibWord 24#32 b).toInt = (IntOp.shrsi .vector b 4#8).toInt := by decide +kernel
  show (((nibWord 24#32 b).toInt : ℝ) : EReal) = ((IntOp.shrsi .vector b 4#8).toInt : ℝ)
  rw [h]

/-- The weights of the up or gate projection: codes moved by `s`, times their group's scale. -/
def wUp (s : BitVec 32) (codes : Vec Ideal S6x4096x14336 .i8) (scales : Vec Ideal S6x32x14336 .bf16) : Vec Ideal S6x4096x14336 .bf16 :=
  shapeCast _ (mulf (F := Ideal) (shapeCast _ (truncf (F := Ideal) .bf16 (sitofp (F := Ideal) .f32 (Host.shrsi (Host.shli (extui 32 codes natLt_8_32)
    (broadcastInDim S6x4096x14336 ![] bcast_S_S6x4096x14336 (constantI S_ 32 s)))
    (broadcastInDim S6x4096x14336 ![] bcast_S_S6x4096x14336 (constantI S_ 32 28#32)))) bitsLt_bf16_f32)
    shapeCasts_S6x4096x14336_S6x32x128x14336)
    (broadcastInDim S6x32x128x14336 ![0, 1, 2, 3] bcast_S6x32x1x14336_S6x32x128x14336_0_1_2_3
      (broadcastInDim S6x32x1x14336 ![0, 1, 3] bcast_S6x32x14336_S6x32x1x14336_0_1_3 scales)))
    shapeCasts_S6x32x128x14336_S6x4096x14336

theorem wUp_at (s : BitVec 32) (codes : Vec Ideal S6x4096x14336 .i8) (scales : Vec Ideal S6x32x14336 .bf16)
    (e : Fin 6) (k : Fin 4096) (f : Fin 14336) :
    wUp s codes scales (ix3 e k f) = nib s (codes (ix3 e k f)) * scales (ix3 e ⟨k.val / 128, by omega⟩ f) := by
  pointwise [wUp]
  rfl

/-- The tokens, padded to eight rows. -/
def xg (x : Vec Ideal S7x1x4096 .bf16) : Vec Ideal S8x4096 .bf16 :=
  pad S8x4096 ![0, 0] ![1, 0] ![0, 0] (shapeCast _ x shapeCasts_S7x1x4096_S7x4096)
    (sitofp (F := Ideal) .bf16 (constantI S_ 32 0#32)) pads_S7x4096_S8x4096_010_000 h_S_

theorem xg_at (x : Vec Ideal S7x1x4096 .bf16) (t : Fin 8) (k : Fin 4096) : xg x (ix2 t k) = xrow x t k :=
  Cert.KernelIdeal.Body.padded_at x t k

/-- A projection of the padded tokens. -/
def proj (w : Vec Ideal S6x4096x14336 .bf16) (x : Vec Ideal S8x4096 .bf16) : Vec Ideal S6x8x14336 .f32 :=
  transpose S6x8x14336 [0, 2, 1]
    (Host.dotGeneral (F := Ideal) (φ₁ := .bf16) (φ₂ := .bf16) dot_S6x4096x14336_S8x4096_S6x14336x8_1_1_02_0_n_n none w x) transposes_S6x14336x8_S6x8x14336_0_2_1

theorem proj_at (w : Vec Ideal S6x4096x14336 .bf16) (x : Vec Ideal S8x4096 .bf16) (e : Fin 6) (t : Fin 8) (f : Fin 14336) :
    (proj w x (ix3 e t f) : EReal) = ∑ k : Fin 4096, (x (ix2 t k) : EReal) * w (ix3 e k f) := by
  pointwise [proj]
  exact Finset.sum_congr rfl fun k _ => mul_comm _ _

/-- The hidden layer: silu of the gate, times up. -/
def hidden (g u : Vec Ideal S6x8x14336 .f32) : Vec Ideal S6x8x14336 .bf16 :=
  truncf (F := Ideal) .bf16 (mulf (mulf g (Host.divf (broadcastInDim S6x8x14336 ![] bcast_S_S6x8x14336 (constant (F := Ideal) S_ .f32 0x3F800000#32))
    (addf (broadcastInDim S6x8x14336 ![] bcast_S_S6x8x14336 (constant S_ .f32 0x3F800000#32)) (Host.exp (Host.negf g))))) u) bitsLt_bf16_f32

theorem hidden_at (g u : Vec Ideal S6x8x14336 .f32) (i : S6x8x14336.Idx) :
    (hidden g u i : EReal) = (g i : EReal) * Ideal.logistic (g i) * u i := by
  pointwise [hidden]
  rfl

/-- The down weights of one half of the columns. -/
def wDown (s : BitVec 32) (codes : Vec Ideal S6x14336x2048 .i8) (scales : Vec Ideal S6x112x2048 .bf16) : Vec Ideal S6x14336x2048 .bf16 :=
  shapeCast _ (mulf (F := Ideal) (shapeCast _ (truncf (F := Ideal) .bf16 (sitofp (F := Ideal) .f32 (Host.shrsi (Host.shli (extui 32 codes natLt_8_32)
    (broadcastInDim S6x14336x2048 ![] bcast_S_S6x14336x2048 (constantI S_ 32 s)))
    (broadcastInDim S6x14336x2048 ![] bcast_S_S6x14336x2048 (constantI S_ 32 28#32)))) bitsLt_bf16_f32)
    shapeCasts_S6x14336x2048_S6x112x128x2048)
    (broadcastInDim S6x112x128x2048 ![0, 1, 2, 3] bcast_S6x112x1x2048_S6x112x128x2048_0_1_2_3
      (broadcastInDim S6x112x1x2048 ![0, 1, 3] bcast_S6x112x2048_S6x112x1x2048_0_1_3 scales)))
    shapeCasts_S6x112x128x2048_S6x14336x2048

theorem wDown_at (s : BitVec 32) (codes : Vec Ideal S6x14336x2048 .i8) (scales : Vec Ideal S6x112x2048 .bf16)
    (e : Fin 6) (f : Fin 14336) (o : Fin 2048) :
    wDown s codes scales (ix3 e f o) = nib s (codes (ix3 e f o)) * scales (ix3 e ⟨f.val / 128, by omega⟩ o) := by
  pointwise [wDown]
  rfl

/-- The down projection onto one half of the columns. -/
def down (h : Vec Ideal S6x8x14336 .bf16) (w : Vec Ideal S6x14336x2048 .bf16) : Vec Ideal S6x8x2048 .f32 :=
  Host.dotGeneral (F := Ideal) (φ₁ := .bf16) (φ₂ := .bf16) dot_S6x8x14336_S6x14336x2048_S6x8x2048_2_1_1_2_0_0 none h w

theorem down_at (h : Vec Ideal S6x8x14336 .bf16) (w : Vec Ideal S6x14336x2048 .bf16) (e : Fin 6) (t : Fin 8) (o : Fin 2048) :
    (down h w (ix3 e t o) : EReal) = ∑ f : Fin 14336, (h (ix3 e t f) : EReal) * w (ix3 e f o) := by
  pointwise [down]

/-- The two halves side by side. -/
def halves (a b : Vec Ideal S6x8x2048 .f32) : Vec Ideal S6x8x4096 .f32 :=
  concatenate S6x8x4096 2 [⟨S6x8x2048, a⟩, ⟨S6x8x2048, b⟩] concatenates_S6x8x2048_S6x8x2048_S6x8x4096_d2

theorem halves_at (a b : Vec Ideal S6x8x2048 .f32) (e : Fin 6) (t : Fin 8) (o : Fin 4096) :
    halves a b (ix3 e t o) = if h : o.val < 2048 then a (ix3 e t ⟨o.val, h⟩) else b (ix3 e t ⟨o.val - 2048, by omega⟩) := by
  pointwise [halves]

section

variable (x : Vec Ideal S7x1x4096 .bf16) (w13 : Vec Ideal S6x4096x14336 .i8) (gs us : Vec Ideal S6x32x14336 .bf16)
  (w2 : Vec Ideal S6x14336x2048 .i8) (sd : Vec Ideal S6x112x4096 .bf16)

/-- The whole reference, over its arguments. -/
def ref : Vec Ideal S6x8x4096 .f32 :=
  halves
    (down (hidden (proj (wUp 28#32 w13 gs) (xg x)) (proj (wUp 24#32 w13 us) (xg x)))
      (wDown 28#32 w2 (extractStridedSlice S6x112x2048 ![0, 0, 0] sd slices_S6x112x4096_S6x112x2048_0_0_0)))
    (down (hidden (proj (wUp 28#32 w13 gs) (xg x)) (proj (wUp 24#32 w13 us) (xg x)))
      (wDown 24#32 w2 (extractStridedSlice S6x112x2048 ![0, 0, 2048] sd slices_S6x112x4096_S6x112x2048_0_0_2048)))

theorem hid_ref (e : Fin 6) (t : Fin 8) (f : Fin 14336) :
    (hidden (proj (wUp 28#32 w13 gs) (xg x)) (proj (wUp 24#32 w13 us) (xg x)) (ix3 e t f) : EReal)
      = hidA x w13 gs us e t f := by
  have hg : (proj (wUp 28#32 w13 gs) (xg x) (ix3 e t f) : EReal) = gateA x w13 gs e t f := by
    rw [proj_at]
    unfold gateA
    refine Finset.sum_congr rfl fun k _ => ?_
    rw [xg_at, wUp_at, nib_low]
  have hu : (proj (wUp 24#32 w13 us) (xg x) (ix3 e t f) : EReal) = upA x w13 us e t f := by
    rw [proj_at]
    unfold upA
    refine Finset.sum_congr rfl fun k _ => ?_
    rw [xg_at, wUp_at, nib_high]
  rw [hidden_at, hg, hu]
  rfl

theorem ref_at (e : Fin 6) (t : Fin 8) (o : Fin 4096) : (ref x w13 gs us w2 sd (ix3 e t o) : EReal) = layer x w13 gs us w2 sd e t o := by
  unfold ref layer
  rw [halves_at]
  by_cases h : o.val < 2048
  · rw [dif_pos h, down_at]
    refine Finset.sum_congr rfl fun f _ => ?_
    rw [hid_ref, wDown_at, nib_low]
    unfold downA
    rw [dif_pos h]
    congr 2
    pointwise
  · rw [dif_neg h, down_at]
    refine Finset.sum_congr rfl fun f _ => ?_
    rw [hid_ref, wDown_at, nib_high]
    unfold downA
    rw [dif_neg h]
    congr 2
    pointwise
    congr 2
    exact Fin.ext (by dsimp only; omega)

end

/-- The term that the reference's run leaves is `ref` of its arguments. -/
theorem res_eq (m : (ℓ : Loc nD τ sig) → Buf (Elt Ideal) ℓ) (c : Dev nD) :
    Cert.ReferenceIdeal.Value.res_out0 m c
      = ref (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

end Cert.ReferenceIdeal.Read
-- ==== Proof.Value.lean ====
module

public import proofs.«01_k».proof.Defs
public import proofs.«01_k».proof.Proof.Fold
public import proofs.«01_k».proof.Proof.Reference
public import proofs.«01_k».proof.Proof.Gen.KernelIdeal.Value

/-! # Kernel and reference compute the same array -/

@[expose] public section

set_option maxRecDepth 16384

noncomputable section

namespace Cert.Proof

open Idealize.ShloMosaic Idealize.ShloMosaic.TcCoe Idealize.SL.Sem

/-- The reference's array over arguments equal to the kernel's is the kernel's array. -/
theorem same (m : (ℓ : Loc Cert.KernelIdeal.nD Cert.KernelIdeal.τ Cert.KernelIdeal.sig) → Buf (Elt Ideal) ℓ) (c : Dev Cert.KernelIdeal.nD) :
    Cert.ReferenceIdeal.Read.ref (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) = (Cert.KernelIdeal.Gen.dats m 0 c).arrAt 6 Cert.KernelIdeal.cfg0.N := by
  rw [Cert.KernelIdeal.Body.final]
  funext i
  idx_vars i
  exact Cert.ReferenceIdeal.Read.ref_at _ _ _ _ _ _ _ _ _

/-- Over the extended reals, from equal arguments, the kernel and the reference leave the same array. -/
theorem algebraic : Cert.algebraic_KernelIdeal_ReferenceIdeal := by
  intro m g m' g' _ h
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r hr c => ⟨(hr c).1.trans ?_, (hr c).2⟩)
    (Cert.ReferenceIdeal.Value.run (F := Ideal) m' g')
  obtain ⟨h0, h1, h2, h3, h4, h5⟩ := h c
  refine (Cert.ReferenceIdeal.Read.res_eq m' c).trans ?_
  rw [h0, h1, h2, h3, h4, h5]
  exact same m c

end Cert.Proof

end
-- ==== Proof.CombineRun.lean ====
/- What the combining kernel's body does: run once over its skeleton, under the two facts that make its reads land
   inside the arrays. -/
module

public import proofs.«01_k».proof.Proof.Gen.CombineIdeal.Frame
public import proofs.«01_k».proof.Proof.Gen.CombineIdeal.Skeleton
public import Idealize.ShloMosaic.Lib.Exec

@[expose] public section

set_option maxRecDepth 16384

noncomputable section

namespace Cert.CombineIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A word below eight is a place of the table of slots. -/
theorem table_inb (v : BitVec 32) (h : v.toNat < 8) (a : Fin 1) : (![(Scalar.indexCast v).toNat] : Fin 1 → ℕ) a + S1.size a ≤ S8.size a := by
  fin_cases a
  show (Scalar.indexCast v).toNat + 1 ≤ 8
  have : (Scalar.indexCast v).toNat = v.toNat := rfl
  omega

/-- A slot below six, cut off at zero, is a row of blocks of the experts' outputs. -/
theorem slot_inb (v : BitVec 32) (h : v.toInt < 6) (t : ℕ) (ht : t < 8) (a : Fin 3) :
    (![(Scalar.indexCast (Scalar.maxsi v 0#32)).toNat, t, 0] : Fin 3 → ℕ) a + S1x1x4096.size a ≤ S6x8x4096.size a := by
  have e : (Scalar.indexCast (Scalar.maxsi v 0#32)).toNat < 6 := by
    show (if (0#32 : BitVec 32).slt v then v else 0#32).toNat < 6
    split
    · rename_i h0
      have h0 : (0 : ℤ) < v.toInt := by simpa [BitVec.slt] using h0
      have := v.isLt
      rw [BitVec.toInt_eq_toNat_cond] at h h0
      split at h <;> omega
    · simp
  fin_cases a
  · show _ + 1 ≤ 6; exact e
  · show t + 1 ≤ 8; omega
  · show 0 + 4096 ≤ 4096; omega

set_option maxHeartbeats 4000000 in
noncomputable def combineRun (c : Dev nD) (arg0 : Memref sig .tc .smem S14 .i32) (harg0 : arg0.IsWhole) (arg1 : Memref sig .tc .smem S8 .i32) (harg1 : arg1.IsWhole) (arg2 : Memref sig .tc .smem S14 .f32) (harg2 : arg2.IsWhole) (arg3 : Memref sig .tc .vmem S6x8x4096 .f32) (harg3 : arg3.IsWhole) (arg4 : Memref sig .tc .vmem S8x4096 .f32) (harg4 : arg4.IsWhole) (arg5 : Memref sig .tc .vmem S7x4096 .f32) (harg5 : arg5.IsWhole) (arg6 : Memref sig .tc .vmem S7x128 .f32) (harg6 : arg6.IsWhole) (arg7 : Memref sig .tc .vmem S14x4096 .f32) (harg7 : arg7.IsWhole)
    (x0 : Vec F S14 .i32) (x1 : Vec F S8 .i32) (x2 : Vec F S14 .f32) (x3 : Vec F S6x8x4096 .f32) (x4 : Vec F S8x4096 .f32)
    (hi : ∀ j, BitVec.toNat (x0 j) < 8) (hs : ∀ j, BitVec.toInt (x1 j) < 6) :
    Σ' (L5 : List (View.Piece (Elt F) S7x4096 .f32)), Σ' (L6 : List (View.Piece (Elt F) S7x128 .f32)), { L7 : List (View.Piece (Elt F) S14x4096 .f32) //
      ∀ (E : Set ℕ) (K : PUnit → sProp (MT nD τ sig Unit (Elt F) ℕ (UR sig nD τ) ℕ)),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0_combine arg0 harg0 arg1 harg1 arg2 harg2 arg3 harg3 arg4 harg4 arg5 harg5 arg6 harg6 arg7 harg7) K } := by
  have ha : ∀ (r : LoadRect S14) j, BitVec.toNat (arg0.view.readAt (Elt F) r (harg0.unread x0) j) < 8 := fun r j => by
    rw [View.readAt_apply, harg0.read_unread]; exact hi _
  have hb : ∀ (r : LoadRect S8) j, BitVec.toInt (arg1.view.readAt (Elt F) r (harg1.unread x1) j) < 6 := fun r j => by
    rw [View.readAt_apply, harg1.read_unread]; exact hs _
  refine ⟨?_, ?_, ?_, fun E K => ?run⟩
  case run =>
    simp only [cc0_combine_eq_skeleton]; unfold cc0_combine_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg0.eq_unread hf0; obtain rfl := harg1.eq_unread hf1; obtain rfl := harg2.eq_unread hf2; obtain rfl := harg3.eq_unread hf3; obtain rfl := harg4.eq_unread hf4
    sl_exec (disch := first
      | ((first | guard_target = k0_chk1 _ | guard_target = k0_chk3 _ | guard_target = k0_chk5 _ | guard_target = k0_chk7 _ | guard_target = k0_chk9 _ | guard_target = k0_chk11 _ | guard_target = k0_chk13 _ | guard_target = k0_chk15 _ | guard_target = k0_chk17 _ | guard_target = k0_chk19 _ | guard_target = k0_chk21 _ | guard_target = k0_chk23 _ | guard_target = k0_chk25 _ | guard_target = k0_chk27 _); exact fun a => table_inb _ (ha _ _) a)
      | ((first | guard_target = k0_chk2 _ | guard_target = k0_chk4 _ | guard_target = k0_chk6 _ | guard_target = k0_chk8 _ | guard_target = k0_chk10 _ | guard_target = k0_chk12 _ | guard_target = k0_chk14 _ | guard_target = k0_chk16 _ | guard_target = k0_chk18 _ | guard_target = k0_chk20 _ | guard_target = k0_chk22 _ | guard_target = k0_chk24 _ | guard_target = k0_chk26 _ | guard_target = k0_chk28 _); exact fun a => slot_inb _ (hb _ _) _ (by decide) a))
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.CombineIdeal.Gen

end
-- ==== Proof.CombineFrame.lean ====
/- The combining kernel's launch: what its one call of the body leaves in the three results, the body's obligation, and the
   run of the whole program, for arguments whose ids and slots are in range. -/
module

public import proofs.«01_k».proof.Proof.CombineRun
public import Idealize.ShloMosaic.Lib.Claim

@[expose] public section

set_option maxRecDepth 16384

noncomputable section

namespace Cert.CombineIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Each window's memref at the point, and that it is whole. -/
abbrev ms0 (t : Fin cfg0.N) : Memref sig .tc .smem S14 .i32 := win0_0.stage (cfg0.slots t 0)
abbrev ms1 (t : Fin cfg0.N) : Memref sig .tc .smem S8 .i32 := win0_1.stage (cfg0.slots t 1)
abbrev ms2 (t : Fin cfg0.N) : Memref sig .tc .smem S14 .f32 := win0_2.stage (cfg0.slots t 2)
abbrev ms3 (t : Fin cfg0.N) : Memref sig .tc .vmem S6x8x4096 .f32 := win0_3.stage (cfg0.slots t 3)
abbrev ms4 (t : Fin cfg0.N) : Memref sig .tc .vmem S8x4096 .f32 := win0_4.stage (cfg0.slots t 4)
abbrev ms5 (t : Fin cfg0.N) : Memref sig .tc .vmem S7x4096 .f32 := win0_5.stage (cfg0.slots t 5)
abbrev ms6 (t : Fin cfg0.N) : Memref sig .tc .vmem S7x128 .f32 := win0_6.stage (cfg0.slots t 6)
abbrev ms7 (t : Fin cfg0.N) : Memref sig .tc .vmem S14x4096 .f32 := win0_7.stage (cfg0.slots t 7)

/-- One staging buffer of each result, through which its contents are stated. -/
abbrev VO5 : View sig .tc .vmem S7x4096 .f32 := (Memref.whole cc0_stg5_0 : Memref sig .tc .vmem S7x4096 .f32).view
abbrev VO6 : View sig .tc .vmem S7x128 .f32 := (Memref.whole cc0_stg6_0 : Memref sig .tc .vmem S7x128 .f32).view
abbrev VO7 : View sig .tc .vmem S14x4096 .f32 := (Memref.whole cc0_stg7_0 : Memref sig .tc .vmem S14x4096 .f32).view

/-- The ids and the slots the body reads are in range. -/
def InRange : Prop := ∀ (c : Dev nD) (t : Fin cfg0.N),
  (∀ j : S14.Idx, BitVec.toNat (iblk m c 0 t j : BitVec 32) < 8) ∧ (∀ j : S8.Idx, BitVec.toInt (iblk m c 1 t j : BitVec 32) < 6)

/-- The body's run at a point, on that point's memrefs and blocks. -/
abbrev runAt (hg : InRange m) (c : Dev nD) (t : Fin cfg0.N) :=
  combineRun c (ms0 t) (hstage0_0 0) (ms1 t) (hstage0_1 0) (ms2 t) (hstage0_2 0) (ms3 t) (hstage0_3 0) (ms4 t) (hstage0_4 0) (ms5 t) (hstage0_5 0) (ms6 t) (hstage0_6 0) (ms7 t) (hstage0_7 0)
    (iblk m c 0 t) (iblk m c 1 t) (iblk m c 2 t) (iblk m c 3 t) (iblk m c 4 t) (hg c t).1 (hg c t).2

/-- The stores of the tokens' rows cover the whole result, -/
theorem cover5 (hg : InRange m) (c : Dev nD) (t : Fin cfg0.N) (y : S7x4096.Idx) : ∃ pc ∈ (runAt m hg c t).1, y ∈ pc.1.set :=
  View.cover_of_tiledL (runAt m hg c t).1 S1x4096.size (by sl_kernel_rfl) y
/-- those of the missing weights' rows theirs, -/
theorem cover6 (hg : InRange m) (c : Dev nD) (t : Fin cfg0.N) (y : S7x128.Idx) : ∃ pc ∈ (runAt m hg c t).2.1, y ∈ pc.1.set :=
  View.cover_of_tiledL (runAt m hg c t).2.1 S1x128.size (by sl_kernel_rfl) y
/-- and those of the experts' rows theirs. -/
theorem cover7 (hg : InRange m) (c : Dev nD) (t : Fin cfg0.N) (y : S14x4096.Idx) : ∃ pc ∈ (runAt m hg c t).2.2.1, y ∈ pc.1.set :=
  View.cover_of_tiledL (runAt m hg c t).2.2.1 S1x4096.size (by sl_kernel_rfl) y

/-- What the body leaves in each result's staging buffer. -/
def out5 (hg : InRange m) (c : Dev nD) (t : Fin cfg0.N) : Vec F S7x4096 .f32 := VO5.read (Elt F) (VO5.writes (Elt F) VO5.junk (runAt m hg c t).1)
def out6 (hg : InRange m) (c : Dev nD) (t : Fin cfg0.N) : Vec F S7x128 .f32 := VO6.read (Elt F) (VO6.writes (Elt F) VO6.junk (runAt m hg c t).2.1)
def out7 (hg : InRange m) (c : Dev nD) (t : Fin cfg0.N) : Vec F S14x4096 .f32 := VO7.read (Elt F) (VO7.writes (Elt F) VO7.junk (runAt m hg c t).2.2.1)

/-- The proof data of the one pipeline: the inputs' buffers keep their blocks, the results' hold what the body leaves. -/
def dats (hg : InRange m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m hg c t
    | ⟨6, _⟩ => out6 m hg c t
    | ⟨7, _⟩ => out7 m hg c t
  Φ _ := Pipeline.ΦA spec0 c
  q _ := fullShare
  owed _ := 0

variable (hg : InRange m)

theorem A_eq (c : Dev nD) (w : Fin cfg0.W) : (dats m hg 0 c).A w = V m c (Pipeline.arrRef spec0 w) := by
  dsimp only [dats]

theorem after0_0 (c : Dev nD) (t : Fin cfg0.N) : (dats m hg 0 c).after 0 t = iblk m c 0 t := by dsimp only [dats]
theorem after0_1 (c : Dev nD) (t : Fin cfg0.N) : (dats m hg 0 c).after 1 t = iblk m c 1 t := by dsimp only [dats]
theorem after0_2 (c : Dev nD) (t : Fin cfg0.N) : (dats m hg 0 c).after 2 t = iblk m c 2 t := by dsimp only [dats]
theorem after0_3 (c : Dev nD) (t : Fin cfg0.N) : (dats m hg 0 c).after 3 t = iblk m c 3 t := by dsimp only [dats]
theorem after0_4 (c : Dev nD) (t : Fin cfg0.N) : (dats m hg 0 c).after 4 t = iblk m c 4 t := by dsimp only [dats]
theorem after0_5 (c : Dev nD) (t : Fin cfg0.N) : (dats m hg 0 c).after 5 t = out5 m hg c t := by dsimp only [dats]
theorem after0_6 (c : Dev nD) (t : Fin cfg0.N) : (dats m hg 0 c).after 6 t = out6 m hg c t := by dsimp only [dats]
theorem after0_7 (c : Dev nD) (t : Fin cfg0.N) : (dats m hg 0 c).after 7 t = out7 m hg c t := by dsimp only [dats]

theorem before0_0 (c : Dev nD) (t : Fin cfg0.N) (d) : (dats m hg 0 c).before 0 t d = iblk m c 0 t :=
  before0_0_of m (dats m hg 0 c) (A_eq m hg c 0) (after0_0 m hg c) t d
theorem before0_1 (c : Dev nD) (t : Fin cfg0.N) (d) : (dats m hg 0 c).before 1 t d = iblk m c 1 t :=
  before0_1_of m (dats m hg 0 c) (A_eq m hg c 1) (after0_1 m hg c) t d
theorem before0_2 (c : Dev nD) (t : Fin cfg0.N) (d) : (dats m hg 0 c).before 2 t d = iblk m c 2 t :=
  before0_2_of m (dats m hg 0 c) (A_eq m hg c 2) (after0_2 m hg c) t d
theorem before0_3 (c : Dev nD) (t : Fin cfg0.N) (d) : (dats m hg 0 c).before 3 t d = iblk m c 3 t :=
  before0_3_of m (dats m hg 0 c) (A_eq m hg c 3) (after0_3 m hg c) t d
theorem before0_4 (c : Dev nD) (t : Fin cfg0.N) (d) : (dats m hg 0 c).before 4 t d = iblk m c 4 t :=
  before0_4_of m (dats m hg 0 c) (A_eq m hg c 4) (after0_4 m hg c) t d

/-- What the body is called with at a point, -/
def bodyPre (c : Dev nD) (t : Fin cfg0.N) : sProp (MT nD τ sig Unit (Elt F) ℕ (UR sig nD τ) ℕ) :=
  iprop((dats m hg 0 c).Φ t.castSucc ∗ (dats m hg 0 c).owesAt () t.castSucc
    ∗ (∃ d, owns (c : Thread nD τ) (ms0 t) fullShare ((dats m hg 0 c).before 0 t d))
    ∗ (∃ d, owns (c : Thread nD τ) (ms1 t) fullShare ((dats m hg 0 c).before 1 t d))
    ∗ (∃ d, owns (c : Thread nD τ) (ms2 t) fullShare ((dats m hg 0 c).before 2 t d))
    ∗ (∃ d, owns (c : Thread nD τ) (ms3 t) fullShare ((dats m hg 0 c).before 3 t d))
    ∗ (∃ d, owns (c : Thread nD τ) (ms4 t) fullShare ((dats m hg 0 c).before 4 t d))
    ∗ (∃ d, owns (c : Thread nD τ) (ms5 t) fullShare ((dats m hg 0 c).before 5 t d))
    ∗ (∃ d, owns (c : Thread nD τ) (ms6 t) fullShare ((dats m hg 0 c).before 6 t d))
    ∗ (∃ d, owns (c : Thread nD τ) (ms7 t) fullShare ((dats m hg 0 c).before 7 t d)))

/-- and what it returns. -/
def bodyPost (c : Dev nD) (t : Fin cfg0.N) : sProp (MT nD τ sig Unit (Elt F) ℕ (UR sig nD τ) ℕ) :=
  iprop((dats m hg 0 c).Φ t.succ ∗ (dats m hg 0 c).owesAt () t.succ
    ∗ owns (c : Thread nD τ) (ms0 t) fullShare ((dats m hg 0 c).after 0 t)
    ∗ owns (c : Thread nD τ) (ms1 t) fullShare ((dats m hg 0 c).after 1 t)
    ∗ owns (c : Thread nD τ) (ms2 t) fullShare ((dats m hg 0 c).after 2 t)
    ∗ owns (c : Thread nD τ) (ms3 t) fullShare ((dats m hg 0 c).after 3 t)
    ∗ owns (c : Thread nD τ) (ms4 t) fullShare ((dats m hg 0 c).after 4 t)
    ∗ owns (c : Thread nD τ) (ms5 t) fullShare ((dats m hg 0 c).after 5 t)
    ∗ owns (c : Thread nD τ) (ms6 t) fullShare ((dats m hg 0 c).after 6 t)
    ∗ owns (c : Thread nD τ) (ms7 t) fullShare ((dats m hg 0 c).after 7 t))

set_option maxHeartbeats 1600000 in
/-- The body at the point: the run applies, and what its stores leave is what they leave over any contents. -/
theorem sound_body (c : Dev nD) (t : Fin cfg0.N) :
    bodyPre m hg c t ⊢ wp frame (wpE (defs₀ (F := F)) Variants.none c none) Set.univ (bodyAt0 t) (fun _ => bodyPost m hg c t) := by
  unfold bodyPre bodyPost bodyAt0
  simp only [before0_0, before0_1, before0_2, before0_3, before0_4]
  rw [show (dats m hg 0 c).Φ t.succ = (dats m hg 0 c).Φ t.castSucc from rfl,
    show (dats m hg 0 c).owesAt () t.succ = (dats m hg 0 c).owesAt () t.castSucc from rfl,
    after0_0, after0_1, after0_2, after0_3, after0_4, after0_5, after0_6, after0_7]
  unfold out5 out6 out7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt m hg c t).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5 m hg c t)
  isplitl [H6]
  · unfold owns; iexists _; isplitr
    swap; · iexact H6
    ipureintro; exact View.read_writes_of_cover _ _ _ _ _ (cover6 m hg c t)
  unfold owns; iexists _; isplitr
  swap; · iexact H7
  ipureintro; exact View.read_writes_of_cover _ _ _ _ _ (cover7 m hg c t)

/-- The body table's row at the point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m hg 0 c) (defs₀ (F := F)) Variants.none () Set.univ := fun t => by
  rw [bigSep_W0, bigSep_W0, defs₀_row]
  exact triple_restated (sound_body m hg c t) rfl .rfl fun _ => .rfl

set_option backward.isDefEq.respectTransparency.types false in
/-- The launch: the program runs, its arrays end at what the proof data say and the rest at what the later lines make of
    them, and every semaphore counter reads zero. -/
theorem run_main : θ_run defs (onTc (τ := τ) (main (F := F))) (s₀ m ρ)
    (fun r => Pipeline.FramePost cfgs (dats m hg) 0 (Pipeline.afterTail₀ cfgs (dats m hg) 0 (V0 m) [hostOps1]) r ∧ r.2.sem = fun _ => 0) :=
  Pipeline.θ_run_frame_around (Q' := _) cfgs (dats m hg) (0 : Fin 1) launch0 defs₀ Variants.none m ρ main
    (hbody := fun c => (body_obligation m hg c).loose) (hshare := fun c => (dats m hg 0 c).share_full fun _ => rfl)
    (howed := fun _ _ => rfl) (V₀ := V0 m) (opss := [hostOps1]) (hsub := sfx_sub) (hfresh := sfx_fresh) (hkeep := sfx_keeps)
    (hmain := hmain m Variants.none) (hA := A_eq m hg) (hΦ := fun _ _ => rfl)

include hg in
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m hg) (A_eq m hg) ((θ_run defs _ _).mono (fun _ h => h.1) (run_main m ρ hg))

include hg in
/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hg) ((θ_run defs _ _).mono (fun _ h => h.2) (run_main m ρ hg))

end Cert.CombineIdeal.Gen

end
-- ==== Proof.CombineBlocks.lean ====
/- The combining kernel's blocks are its argument arrays, reshaped. -/
module

public import proofs.«01_k».proof.Proof.CombineFrame
public import Idealize.ShloMosaic.Lib.Pipeline.ValueKit

@[expose] public section

set_option maxRecDepth 16384

noncomputable section

namespace Cert.CombineIdeal.Gen

open Idealize.ShloMosaic Idealize.ShloMosaic.TcCoe

variable {F : FTy → Type} [FloatOps F]
variable (m : (ℓ : Loc nD τ sig) → Buf (Elt F) ℓ) (c : Dev nD)

theorem V_v0 : V m c main_v0 = shapeCast S14 (m ((c : Thread nD τ).loc main_arg0) : S7x1x2.Idx → BitVec 32) shapeCasts_S7x1x2_S14 := by rfl
theorem V_v1 : V m c main_v1 = shapeCast S14 (m ((c : Thread nD τ).loc main_arg1) : S7x1x2.Idx → F .f32) shapeCasts_S7x1x2_S14 := by rfl
theorem V_v2 : V m c main_v2 = shapeCast S8x4096 (m ((c : Thread nD τ).loc main_arg4) : S1x8x4096.Idx → F .f32) shapeCasts_S1x8x4096_S8x4096 := by rfl

/-- Every window's one block is at the origin. -/
theorem index0 : ∀ (w : Fin 8) (a : Fin (cfg0.win w).shape.rank), (cfg0.win w).index t0_0 a = 0 := by decide

variable (t : Fin cfg0.N)

/-- The ids. -/
theorem blk0 (j : S14.Idx) : (iblk m c 0 t j : BitVec 32) = shapeCast S14 (m ((c : Thread nD τ).loc main_arg0) : S7x1x2.Idx → BitVec 32) shapeCasts_S7x1x2_S14 j := by
  rw [fin_N0 t, ← V_v0 m c]
  blk_ext [iblk, show ∀ a, win0_0.index t0_0 a = 0 from index0 0]

/-- The table of slots. -/
theorem blk1 (j : S8.Idx) : (iblk m c 1 t j : BitVec 32) = (m ((c : Thread nD τ).loc main_arg2) : S8.Idx → BitVec 32) j := by
  rw [fin_N0 t, ← V_main_arg2 m c]
  blk_ext [iblk, show ∀ a, win0_1.index t0_0 a = 0 from index0 1]

/-- The gate values. -/
theorem blk2 (j : S14.Idx) : (iblk m c 2 t j : F .f32) = shapeCast S14 (m ((c : Thread nD τ).loc main_arg1) : S7x1x2.Idx → F .f32) shapeCasts_S7x1x2_S14 j := by
  rw [fin_N0 t, ← V_v1 m c]
  blk_ext [iblk, show ∀ a, win0_2.index t0_0 a = 0 from index0 2]

/-- The experts' outputs. -/
theorem blk3 (j : S6x8x4096.Idx) : (iblk m c 3 t j : F .f32) = (m ((c : Thread nD τ).loc main_arg3) : S6x8x4096.Idx → F .f32) j := by
  rw [fin_N0 t, ← V_main_arg3 m c]
  blk_ext [iblk, show ∀ a, win0_3.index t0_0 a = 0 from index0 3]

/-- The shared expert's outputs. -/
theorem blk4 (j : S8x4096.Idx) : (iblk m c 4 t j : F .f32) = shapeCast S8x4096 (m ((c : Thread nD τ).loc main_arg4) : S1x8x4096.Idx → F .f32) shapeCasts_S1x8x4096_S8x4096 j := by
  rw [fin_N0 t, ← V_v2 m c]
  blk_ext [iblk, show ∀ a, win0_4.index t0_0 a = 0 from index0 4]

/-- With the ids and the slots in range, so are those the body reads. -/
theorem inRange (h0 : ∀ c : Dev nD, ∀ j, BitVec.toNat ((m ((c : Thread nD τ).loc main_arg0) : S7x1x2.Idx → BitVec 32) j) < 8)
    (h2 : ∀ c : Dev nD, ∀ j, BitVec.toInt ((m ((c : Thread nD τ).loc main_arg2) : S8.Idx → BitVec 32) j) < 6) : InRange m := fun c t =>
  ⟨fun j => by rw [blk0]; exact h0 c _, fun j => by rw [blk1]; exact h2 c _⟩

end Cert.CombineIdeal.Gen

end
-- ==== Proof.CombineRunBits.lean ====
/- What the combining kernel's body does: run once over its skeleton, under the two facts that make its reads land
   inside the arrays. -/
module

public import proofs.«01_k».proof.Proof.Gen.Combine.Frame
public import proofs.«01_k».proof.Proof.Gen.Combine.Skeleton
public import Idealize.ShloMosaic.Lib.Exec

@[expose] public section

set_option maxRecDepth 16384

noncomputable section

namespace Cert.Combine.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A word below eight is a place of the table of slots. -/
theorem table_inb (v : BitVec 32) (h : v.toNat < 8) (a : Fin 1) : (![(Scalar.indexCast v).toNat] : Fin 1 → ℕ) a + S1.size a ≤ S8.size a := by
  fin_cases a
  show (Scalar.indexCast v).toNat + 1 ≤ 8
  have : (Scalar.indexCast v).toNat = v.toNat := rfl
  omega

/-- A slot below six, cut off at zero, is a row of blocks of the experts' outputs. -/
theorem slot_inb (v : BitVec 32) (h : v.toInt < 6) (t : ℕ) (ht : t < 8) (a : Fin 3) :
    (![(Scalar.indexCast (Scalar.maxsi v 0#32)).toNat, t, 0] : Fin 3 → ℕ) a + S1x1x4096.size a ≤ S6x8x4096.size a := by
  have e : (Scalar.indexCast (Scalar.maxsi v 0#32)).toNat < 6 := by
    show (if (0#32 : BitVec 32).slt v then v else 0#32).toNat < 6
    split
    · rename_i h0
      have h0 : (0 : ℤ) < v.toInt := by simpa [BitVec.slt] using h0
      have := v.isLt
      rw [BitVec.toInt_eq_toNat_cond] at h h0
      split at h <;> omega
    · simp
  fin_cases a
  · show _ + 1 ≤ 6; exact e
  · show t + 1 ≤ 8; omega
  · show 0 + 4096 ≤ 4096; omega

set_option maxHeartbeats 4000000 in
noncomputable def combineRun (c : Dev nD) (arg0 : Memref sig .tc .smem S14 .i32) (harg0 : arg0.IsWhole) (arg1 : Memref sig .tc .smem S8 .i32) (harg1 : arg1.IsWhole) (arg2 : Memref sig .tc .smem S14 .f32) (harg2 : arg2.IsWhole) (arg3 : Memref sig .tc .vmem S6x8x4096 .f32) (harg3 : arg3.IsWhole) (arg4 : Memref sig .tc .vmem S8x4096 .f32) (harg4 : arg4.IsWhole) (arg5 : Memref sig .tc .vmem S7x4096 .f32) (harg5 : arg5.IsWhole) (arg6 : Memref sig .tc .vmem S7x128 .f32) (harg6 : arg6.IsWhole) (arg7 : Memref sig .tc .vmem S14x4096 .f32) (harg7 : arg7.IsWhole)
    (x0 : Vec F S14 .i32) (x1 : Vec F S8 .i32) (x2 : Vec F S14 .f32) (x3 : Vec F S6x8x4096 .f32) (x4 : Vec F S8x4096 .f32)
    (hi : ∀ j, BitVec.toNat (x0 j) < 8) (hs : ∀ j, BitVec.toInt (x1 j) < 6) :
    Σ' (L5 : List (View.Piece (Elt F) S7x4096 .f32)), Σ' (L6 : List (View.Piece (Elt F) S7x128 .f32)), { L7 : List (View.Piece (Elt F) S14x4096 .f32) //
      ∀ (E : Set ℕ) (K : PUnit → sProp (MT nD τ sig Unit (Elt F) ℕ (UR sig nD τ) ℕ)),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0_combine arg0 harg0 arg1 harg1 arg2 harg2 arg3 harg3 arg4 harg4 arg5 harg5 arg6 harg6 arg7 harg7) K } := by
  have ha : ∀ (r : LoadRect S14) j, BitVec.toNat (arg0.view.readAt (Elt F) r (harg0.unread x0) j) < 8 := fun r j => by
    rw [View.readAt_apply, harg0.read_unread]; exact hi _
  have hb : ∀ (r : LoadRect S8) j, BitVec.toInt (arg1.view.readAt (Elt F) r (harg1.unread x1) j) < 6 := fun r j => by
    rw [View.readAt_apply, harg1.read_unread]; exact hs _
  refine ⟨?_, ?_, ?_, fun E K => ?run⟩
  case run =>
    simp only [cc0_combine_eq_skeleton]; unfold cc0_combine_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg0.eq_unread hf0; obtain rfl := harg1.eq_unread hf1; obtain rfl := harg2.eq_unread hf2; obtain rfl := harg3.eq_unread hf3; obtain rfl := harg4.eq_unread hf4
    sl_exec (disch := first
      | ((first | guard_target = k0_chk1 _ | guard_target = k0_chk3 _ | guard_target = k0_chk5 _ | guard_target = k0_chk7 _ | guard_target = k0_chk9 _ | guard_target = k0_chk11 _ | guard_target = k0_chk13 _ | guard_target = k0_chk15 _ | guard_target = k0_chk17 _ | guard_target = k0_chk19 _ | guard_target = k0_chk21 _ | guard_target = k0_chk23 _ | guard_target = k0_chk25 _ | guard_target = k0_chk27 _); exact fun a => table_inb _ (ha _ _) a)
      | ((first | guard_target = k0_chk2 _ | guard_target = k0_chk4 _ | guard_target = k0_chk6 _ | guard_target = k0_chk8 _ | guard_target = k0_chk10 _ | guard_target = k0_chk12 _ | guard_target = k0_chk14 _ | guard_target = k0_chk16 _ | guard_target = k0_chk18 _ | guard_target = k0_chk20 _ | guard_target = k0_chk22 _ | guard_target = k0_chk24 _ | guard_target = k0_chk26 _ | guard_target = k0_chk28 _); exact fun a => slot_inb _ (hb _ _) _ (by decide) a))
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.Combine.Gen

end
-- ==== Proof.CombineFrameBits.lean ====
/- The combining kernel's launch: what its one call of the body leaves in the three results, the body's obligation, and the
   run of the whole program, for arguments whose ids and slots are in range. -/
module

public import proofs.«01_k».proof.Proof.CombineRunBits
public import Idealize.ShloMosaic.Lib.Claim

@[expose] public section

set_option maxRecDepth 16384

noncomputable section

namespace Cert.Combine.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Each window's memref at the point, and that it is whole. -/
abbrev ms0 (t : Fin cfg0.N) : Memref sig .tc .smem S14 .i32 := win0_0.stage (cfg0.slots t 0)
abbrev ms1 (t : Fin cfg0.N) : Memref sig .tc .smem S8 .i32 := win0_1.stage (cfg0.slots t 1)
abbrev ms2 (t : Fin cfg0.N) : Memref sig .tc .smem S14 .f32 := win0_2.stage (cfg0.slots t 2)
abbrev ms3 (t : Fin cfg0.N) : Memref sig .tc .vmem S6x8x4096 .f32 := win0_3.stage (cfg0.slots t 3)
abbrev ms4 (t : Fin cfg0.N) : Memref sig .tc .vmem S8x4096 .f32 := win0_4.stage (cfg0.slots t 4)
abbrev ms5 (t : Fin cfg0.N) : Memref sig .tc .vmem S7x4096 .f32 := win0_5.stage (cfg0.slots t 5)
abbrev ms6 (t : Fin cfg0.N) : Memref sig .tc .vmem S7x128 .f32 := win0_6.stage (cfg0.slots t 6)
abbrev ms7 (t : Fin cfg0.N) : Memref sig .tc .vmem S14x4096 .f32 := win0_7.stage (cfg0.slots t 7)

/-- One staging buffer of each result, through which its contents are stated. -/
abbrev VO5 : View sig .tc .vmem S7x4096 .f32 := (Memref.whole cc0_stg5_0 : Memref sig .tc .vmem S7x4096 .f32).view
abbrev VO6 : View sig .tc .vmem S7x128 .f32 := (Memref.whole cc0_stg6_0 : Memref sig .tc .vmem S7x128 .f32).view
abbrev VO7 : View sig .tc .vmem S14x4096 .f32 := (Memref.whole cc0_stg7_0 : Memref sig .tc .vmem S14x4096 .f32).view

/-- The ids and the slots the body reads are in range. -/
def InRange : Prop := ∀ (c : Dev nD) (t : Fin cfg0.N),
  (∀ j : S14.Idx, BitVec.toNat (iblk m c 0 t j : BitVec 32) < 8) ∧ (∀ j : S8.Idx, BitVec.toInt (iblk m c 1 t j : BitVec 32) < 6)

/-- The body's run at a point, on that point's memrefs and blocks. -/
abbrev runAt (hg : InRange m) (c : Dev nD) (t : Fin cfg0.N) :=
  combineRun c (ms0 t) (hstage0_0 0) (ms1 t) (hstage0_1 0) (ms2 t) (hstage0_2 0) (ms3 t) (hstage0_3 0) (ms4 t) (hstage0_4 0) (ms5 t) (hstage0_5 0) (ms6 t) (hstage0_6 0) (ms7 t) (hstage0_7 0)
    (iblk m c 0 t) (iblk m c 1 t) (iblk m c 2 t) (iblk m c 3 t) (iblk m c 4 t) (hg c t).1 (hg c t).2

/-- The stores of the tokens' rows cover the whole result, -/
theorem cover5 (hg : InRange m) (c : Dev nD) (t : Fin cfg0.N) (y : S7x4096.Idx) : ∃ pc ∈ (runAt m hg c t).1, y ∈ pc.1.set :=
  View.cover_of_tiledL (runAt m hg c t).1 S1x4096.size (by sl_kernel_rfl) y
/-- those of the missing weights' rows theirs, -/
theorem cover6 (hg : InRange m) (c : Dev nD) (t : Fin cfg0.N) (y : S7x128.Idx) : ∃ pc ∈ (runAt m hg c t).2.1, y ∈ pc.1.set :=
  View.cover_of_tiledL (runAt m hg c t).2.1 S1x128.size (by sl_kernel_rfl) y
/-- and those of the experts' rows theirs. -/
theorem cover7 (hg : InRange m) (c : Dev nD) (t : Fin cfg0.N) (y : S14x4096.Idx) : ∃ pc ∈ (runAt m hg c t).2.2.1, y ∈ pc.1.set :=
  View.cover_of_tiledL (runAt m hg c t).2.2.1 S1x4096.size (by sl_kernel_rfl) y

/-- What the body leaves in each result's staging buffer. -/
def out5 (hg : InRange m) (c : Dev nD) (t : Fin cfg0.N) : Vec F S7x4096 .f32 := VO5.read (Elt F) (VO5.writes (Elt F) VO5.junk (runAt m hg c t).1)
def out6 (hg : InRange m) (c : Dev nD) (t : Fin cfg0.N) : Vec F S7x128 .f32 := VO6.read (Elt F) (VO6.writes (Elt F) VO6.junk (runAt m hg c t).2.1)
def out7 (hg : InRange m) (c : Dev nD) (t : Fin cfg0.N) : Vec F S14x4096 .f32 := VO7.read (Elt F) (VO7.writes (Elt F) VO7.junk (runAt m hg c t).2.2.1)

/-- The proof data of the one pipeline: the inputs' buffers keep their blocks, the results' hold what the body leaves. -/
def dats (hg : InRange m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m hg c t
    | ⟨6, _⟩ => out6 m hg c t
    | ⟨7, _⟩ => out7 m hg c t
  Φ _ := Pipeline.ΦA spec0 c
  q _ := fullShare
  owed _ := 0

variable (hg : InRange m)

theorem A_eq (c : Dev nD) (w : Fin cfg0.W) : (dats m hg 0 c).A w = V m c (Pipeline.arrRef spec0 w) := by
  dsimp only [dats]

theorem after0_0 (c : Dev nD) (t : Fin cfg0.N) : (dats m hg 0 c).after 0 t = iblk m c 0 t := by dsimp only [dats]
theorem after0_1 (c : Dev nD) (t : Fin cfg0.N) : (dats m hg 0 c).after 1 t = iblk m c 1 t := by dsimp only [dats]
theorem after0_2 (c : Dev nD) (t : Fin cfg0.N) : (dats m hg 0 c).after 2 t = iblk m c 2 t := by dsimp only [dats]
theorem after0_3 (c : Dev nD) (t : Fin cfg0.N) : (dats m hg 0 c).after 3 t = iblk m c 3 t := by dsimp only [dats]
theorem after0_4 (c : Dev nD) (t : Fin cfg0.N) : (dats m hg 0 c).after 4 t = iblk m c 4 t := by dsimp only [dats]
theorem after0_5 (c : Dev nD) (t : Fin cfg0.N) : (dats m hg 0 c).after 5 t = out5 m hg c t := by dsimp only [dats]
theorem after0_6 (c : Dev nD) (t : Fin cfg0.N) : (dats m hg 0 c).after 6 t = out6 m hg c t := by dsimp only [dats]
theorem after0_7 (c : Dev nD) (t : Fin cfg0.N) : (dats m hg 0 c).after 7 t = out7 m hg c t := by dsimp only [dats]

theorem before0_0 (c : Dev nD) (t : Fin cfg0.N) (d) : (dats m hg 0 c).before 0 t d = iblk m c 0 t :=
  before0_0_of m (dats m hg 0 c) (A_eq m hg c 0) (after0_0 m hg c) t d
theorem before0_1 (c : Dev nD) (t : Fin cfg0.N) (d) : (dats m hg 0 c).before 1 t d = iblk m c 1 t :=
  before0_1_of m (dats m hg 0 c) (A_eq m hg c 1) (after0_1 m hg c) t d
theorem before0_2 (c : Dev nD) (t : Fin cfg0.N) (d) : (dats m hg 0 c).before 2 t d = iblk m c 2 t :=
  before0_2_of m (dats m hg 0 c) (A_eq m hg c 2) (after0_2 m hg c) t d
theorem before0_3 (c : Dev nD) (t : Fin cfg0.N) (d) : (dats m hg 0 c).before 3 t d = iblk m c 3 t :=
  before0_3_of m (dats m hg 0 c) (A_eq m hg c 3) (after0_3 m hg c) t d
theorem before0_4 (c : Dev nD) (t : Fin cfg0.N) (d) : (dats m hg 0 c).before 4 t d = iblk m c 4 t :=
  before0_4_of m (dats m hg 0 c) (A_eq m hg c 4) (after0_4 m hg c) t d

/-- What the body is called with at a point, -/
def bodyPre (c : Dev nD) (t : Fin cfg0.N) : sProp (MT nD τ sig Unit (Elt F) ℕ (UR sig nD τ) ℕ) :=
  iprop((dats m hg 0 c).Φ t.castSucc ∗ (dats m hg 0 c).owesAt () t.castSucc
    ∗ (∃ d, owns (c : Thread nD τ) (ms0 t) fullShare ((dats m hg 0 c).before 0 t d))
    ∗ (∃ d, owns (c : Thread nD τ) (ms1 t) fullShare ((dats m hg 0 c).before 1 t d))
    ∗ (∃ d, owns (c : Thread nD τ) (ms2 t) fullShare ((dats m hg 0 c).before 2 t d))
    ∗ (∃ d, owns (c : Thread nD τ) (ms3 t) fullShare ((dats m hg 0 c).before 3 t d))
    ∗ (∃ d, owns (c : Thread nD τ) (ms4 t) fullShare ((dats m hg 0 c).before 4 t d))
    ∗ (∃ d, owns (c : Thread nD τ) (ms5 t) fullShare ((dats m hg 0 c).before 5 t d))
    ∗ (∃ d, owns (c : Thread nD τ) (ms6 t) fullShare ((dats m hg 0 c).before 6 t d))
    ∗ (∃ d, owns (c : Thread nD τ) (ms7 t) fullShare ((dats m hg 0 c).before 7 t d)))

/-- and what it returns. -/
def bodyPost (c : Dev nD) (t : Fin cfg0.N) : sProp (MT nD τ sig Unit (Elt F) ℕ (UR sig nD τ) ℕ) :=
  iprop((dats m hg 0 c).Φ t.succ ∗ (dats m hg 0 c).owesAt () t.succ
    ∗ owns (c : Thread nD τ) (ms0 t) fullShare ((dats m hg 0 c).after 0 t)
    ∗ owns (c : Thread nD τ) (ms1 t) fullShare ((dats m hg 0 c).after 1 t)
    ∗ owns (c : Thread nD τ) (ms2 t) fullShare ((dats m hg 0 c).after 2 t)
    ∗ owns (c : Thread nD τ) (ms3 t) fullShare ((dats m hg 0 c).after 3 t)
    ∗ owns (c : Thread nD τ) (ms4 t) fullShare ((dats m hg 0 c).after 4 t)
    ∗ owns (c : Thread nD τ) (ms5 t) fullShare ((dats m hg 0 c).after 5 t)
    ∗ owns (c : Thread nD τ) (ms6 t) fullShare ((dats m hg 0 c).after 6 t)
    ∗ owns (c : Thread nD τ) (ms7 t) fullShare ((dats m hg 0 c).after 7 t))

set_option maxHeartbeats 1600000 in
/-- The body at the point: the run applies, and what its stores leave is what they leave over any contents. -/
theorem sound_body (c : Dev nD) (t : Fin cfg0.N) :
    bodyPre m hg c t ⊢ wp frame (wpE (defs₀ (F := F)) Variants.none c none) Set.univ (bodyAt0 t) (fun _ => bodyPost m hg c t) := by
  unfold bodyPre bodyPost bodyAt0
  simp only [before0_0, before0_1, before0_2, before0_3, before0_4]
  rw [show (dats m hg 0 c).Φ t.succ = (dats m hg 0 c).Φ t.castSucc from rfl,
    show (dats m hg 0 c).owesAt () t.succ = (dats m hg 0 c).owesAt () t.castSucc from rfl,
    after0_0, after0_1, after0_2, after0_3, after0_4, after0_5, after0_6, after0_7]
  unfold out5 out6 out7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt m hg c t).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5 m hg c t)
  isplitl [H6]
  · unfold owns; iexists _; isplitr
    swap; · iexact H6
    ipureintro; exact View.read_writes_of_cover _ _ _ _ _ (cover6 m hg c t)
  unfold owns; iexists _; isplitr
  swap; · iexact H7
  ipureintro; exact View.read_writes_of_cover _ _ _ _ _ (cover7 m hg c t)

/-- The body table's row at the point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m hg 0 c) (defs₀ (F := F)) Variants.none () Set.univ := fun t => by
  rw [bigSep_W0, bigSep_W0, defs₀_row]
  exact triple_restated (sound_body m hg c t) rfl .rfl fun _ => .rfl

set_option backward.isDefEq.respectTransparency.types false in
/-- The launch: the program runs, its arrays end at what the proof data say and the rest at what the later lines make of
    them, and every semaphore counter reads zero. -/
theorem run_main : θ_run defs (onTc (τ := τ) (main (F := F))) (s₀ m ρ)
    (fun r => Pipeline.FramePost cfgs (dats m hg) 0 (Pipeline.afterTail₀ cfgs (dats m hg) 0 (V0 m) [hostOps1]) r ∧ r.2.sem = fun _ => 0) :=
  Pipeline.θ_run_frame_around (Q' := _) cfgs (dats m hg) (0 : Fin 1) launch0 defs₀ Variants.none m ρ main
    (hbody := fun c => (body_obligation m hg c).loose) (hshare := fun c => (dats m hg 0 c).share_full fun _ => rfl)
    (howed := fun _ _ => rfl) (V₀ := V0 m) (opss := [hostOps1]) (hsub := sfx_sub) (hfresh := sfx_fresh) (hkeep := sfx_keeps)
    (hmain := hmain m Variants.none) (hA := A_eq m hg) (hΦ := fun _ _ => rfl)

include hg in
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m hg) (A_eq m hg) ((θ_run defs _ _).mono (fun _ h => h.1) (run_main m ρ hg))

include hg in
/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hg) ((θ_run defs _ _).mono (fun _ h => h.2) (run_main m ρ hg))

end Cert.Combine.Gen

end
-- ==== Proof.CombineBlocksBits.lean ====
/- The combining kernel's blocks are its argument arrays, reshaped. -/
module

public import proofs.«01_k».proof.Proof.CombineFrameBits
public import Idealize.ShloMosaic.Lib.Pipeline.ValueKit

@[expose] public section

set_option maxRecDepth 16384

noncomputable section

namespace Cert.Combine.Gen

open Idealize.ShloMosaic Idealize.ShloMosaic.TcCoe

variable {F : FTy → Type} [FloatOps F]
variable (m : (ℓ : Loc nD τ sig) → Buf (Elt F) ℓ) (c : Dev nD)

theorem V_v0 : V m c main_v0 = shapeCast S14 (m ((c : Thread nD τ).loc main_arg0) : S7x1x2.Idx → BitVec 32) shapeCasts_S7x1x2_S14 := by rfl
theorem V_v1 : V m c main_v1 = shapeCast S14 (m ((c : Thread nD τ).loc main_arg1) : S7x1x2.Idx → F .f32) shapeCasts_S7x1x2_S14 := by rfl
theorem V_v2 : V m c main_v2 = shapeCast S8x4096 (m ((c : Thread nD τ).loc main_arg4) : S1x8x4096.Idx → F .f32) shapeCasts_S1x8x4096_S8x4096 := by rfl

/-- Every window's one block is at the origin. -/
theorem index0 : ∀ (w : Fin 8) (a : Fin (cfg0.win w).shape.rank), (cfg0.win w).index t0_0 a = 0 := by decide

variable (t : Fin cfg0.N)

/-- The ids. -/
theorem blk0 (j : S14.Idx) : (iblk m c 0 t j : BitVec 32) = shapeCast S14 (m ((c : Thread nD τ).loc main_arg0) : S7x1x2.Idx → BitVec 32) shapeCasts_S7x1x2_S14 j := by
  rw [fin_N0 t, ← V_v0 m c]
  blk_ext [iblk, show ∀ a, win0_0.index t0_0 a = 0 from index0 0]

/-- The table of slots. -/
theorem blk1 (j : S8.Idx) : (iblk m c 1 t j : BitVec 32) = (m ((c : Thread nD τ).loc main_arg2) : S8.Idx → BitVec 32) j := by
  rw [fin_N0 t, ← V_main_arg2 m c]
  blk_ext [iblk, show ∀ a, win0_1.index t0_0 a = 0 from index0 1]

/-- The gate values. -/
theorem blk2 (j : S14.Idx) : (iblk m c 2 t j : F .f32) = shapeCast S14 (m ((c : Thread nD τ).loc main_arg1) : S7x1x2.Idx → F .f32) shapeCasts_S7x1x2_S14 j := by
  rw [fin_N0 t, ← V_v1 m c]
  blk_ext [iblk, show ∀ a, win0_2.index t0_0 a = 0 from index0 2]

/-- The experts' outputs. -/
theorem blk3 (j : S6x8x4096.Idx) : (iblk m c 3 t j : F .f32) = (m ((c : Thread nD τ).loc main_arg3) : S6x8x4096.Idx → F .f32) j := by
  rw [fin_N0 t, ← V_main_arg3 m c]
  blk_ext [iblk, show ∀ a, win0_3.index t0_0 a = 0 from index0 3]

/-- The shared expert's outputs. -/
theorem blk4 (j : S8x4096.Idx) : (iblk m c 4 t j : F .f32) = shapeCast S8x4096 (m ((c : Thread nD τ).loc main_arg4) : S1x8x4096.Idx → F .f32) shapeCasts_S1x8x4096_S8x4096 j := by
  rw [fin_N0 t, ← V_v2 m c]
  blk_ext [iblk, show ∀ a, win0_4.index t0_0 a = 0 from index0 4]

/-- With the ids and the slots in range, so are those the body reads. -/
theorem inRange (h0 : ∀ c : Dev nD, ∀ j, BitVec.toNat ((m ((c : Thread nD τ).loc main_arg0) : S7x1x2.Idx → BitVec 32) j) < 8)
    (h2 : ∀ c : Dev nD, ∀ j, BitVec.toInt ((m ((c : Thread nD τ).loc main_arg2) : S8.Idx → BitVec 32) j) < 6) : InRange m := fun c t =>
  ⟨fun j => by rw [blk0]; exact h0 c _, fun j => by rw [blk1]; exact h2 c _⟩

end Cert.Combine.Gen

end
-- ==== Proof.CombineBlend.lean ====
/- The combining call's reference, read entry by entry. -/
module

public import proofs.«01_k».proof.Proof.Gen.BlendIdeal.Run
public import proofs.«01_k».proof.Proof.Spec

@[expose] public section

set_option maxRecDepth 16384

noncomputable section

namespace Cert.Blend

open Idealize.ShloMosaic

/-- One if the slot is held, else zero, -/
def vld (s : BitVec 32) : EReal := Scalar.select (Scalar.cmpi .sge s 0#32) 1 0
/-- the weight of the experts not held, -/
def missing (g0 g1 : EReal) (s0 s1 : BitVec 32) : EReal := g0 * (1 - vld s0) + g1 * (1 - vld s1)
/-- the weight of those held, -/
def held (g0 g1 : EReal) (s0 s1 : BitVec 32) : EReal := g0 * vld s0 + g1 * vld s1
/-- what the held weights are divided by, -/
def den (r : EReal) : EReal := if 0 < r then r else 1
/-- an expert's output, zero if it is not held, -/
def expert (s : BitVec 32) (r : EReal) : EReal := Scalar.select (Scalar.cmpi .sge s 0#32) r 0
/-- and the weighted sum of the two outputs with the shared expert's added. -/
def total (g0 g1 : EReal) (s0 s1 : BitVec 32) (r0 r1 sh : EReal) : EReal :=
  Ideal.div (g0 * vld s0) (den (held g0 g1 s0 s1)) * expert s0 r0 + Ideal.div (g1 * vld s1) (den (held g0 g1 s0 s1)) * expert s1 r1 + sh

/-- Token `t`'s choice `k` among all tokens' choices in a row. -/
theorem flat_at {α : Type} (x : (⟨3, ![7, 1, 2]⟩ : Shape).Idx → α) (t : Fin 7) (k : Fin 2) (h) (h') :
    shapeCast ⟨1, ![14]⟩ x h (ValueIdx.ix1 ⟨2 * t.val + k.val, h'⟩) = x (ValueIdx.ix3 t 0 k) := by
  pointwise []
  congr 1
  refine congr (congr (congrArg _ (Fin.ext ?_)) rfl) (Fin.ext ?_)
  · show (2 * t.val + k.val) / 2 = t.val; omega
  · show (2 * t.val + k.val) % 2 = k.val; omega

end Cert.Blend

namespace Cert.BlendIdeal.Read

open Cert.BlendIdeal Cert.BlendIdeal.Gen Idealize.ShloMosaic Idealize.ShloMosaic.TcCoe Idealize.SL.Sem
open Cert.Blend

section
variable (ids : IVec S7x1x2 32) (g : Vec Ideal S7x1x2 .f32) (tbl : IVec S8 32) (ys : Vec Ideal S6x8x4096 .f32) (sh : Vec Ideal S1x8x4096 .f32)

/-- The ids, a negative one counted from the end. -/
def idT : IVec S7x1x2 32 :=
  select (cmpi .slt ids (broadcastInDim S7x1x2 ![] bcast_S_S7x1x2 (constantI S_ 32 0#32))) (addi ids (broadcastInDim S7x1x2 ![] bcast_S_S7x1x2 (constantI S_ 32 8#32))) ids

/-- Each place's slot. -/
def slotT : IVec S7x2 32 :=
  shapeCast _ (Host.gather gather_S8_S7x1x2x1_S7x1x2_n_0_n_n_0_3_1 tbl (broadcastInDim S7x1x2x1 ![0, 1, 2] bcast_S7x1x2_S7x1x2x1_0_1_2 (idT ids))) shapeCasts_S7x1x2_S7x2

def geT : IVec S7x2 1 := cmpi .sge (slotT ids tbl) (broadcastInDim S7x2 ![] bcast_S_S7x2 (constantI S_ 32 0#32))
def validT : Vec Ideal S7x2 .f32 := uitofp (F := Ideal) .f32 (geT ids tbl)
def gateT : Vec Ideal S7x2 .f32 := shapeCast _ g shapeCasts_S7x1x2_S7x2

/-- The missing weights, -/
def missT : Vec Ideal S7 .f32 :=
  Host.reduceAdd (F := Ideal) (mulf (gateT g) (subf (broadcastInDim S7x2 ![] bcast_S_S7x2 (constant S_ .f32 0x3F800000#32)) (validT ids tbl))) (constant S_ .f32 0x00000000#32) reducesTo_S7x2_S7_d1 h_S_
/-- the held ones, -/
def heldT : Vec Ideal S7 .f32 :=
  Host.reduceAdd (F := Ideal) (mulf (gateT g) (validT ids tbl)) (constant S_ .f32 0x00000000#32) reducesTo_S7x2_S7_d1 h_S_
/-- what they are divided by, -/
def denT : Vec Ideal S7 .f32 :=
  select (cmpf (F := Ideal) .ogt (heldT ids g tbl) (broadcastInDim S7 ![] bcast_S_S7 (constant S_ .f32 0x00000000#32))) (heldT ids g tbl) (broadcastInDim S7 ![] bcast_S_S7 (id (constant (F := Ideal) S_ .f32 0x3F800000#32)))
/-- the weights, -/
def weightT : Vec Ideal S7x2 .f32 :=
  Host.divf (F := Ideal) (φ := .f32) (mulf (F := Ideal) (φ := .f32) (gateT g) (validT ids tbl)) (broadcastInDim S7x2 ![0, 1] bcast_S7x1_S7x2_0_1 (broadcastInDim S7x1 ![0] bcast_S7_S7x1_0 (denT ids g tbl)))
/-- the slots cut off at zero, -/
def cutT : IVec S7x2 32 := maxsi (slotT ids tbl) (broadcastInDim S7x2 ![] bcast_S_S7x2 (constantI S_ 32 0#32))
def slotIx : IVec S7x2 32 :=
  select (cmpi .slt (cutT ids tbl) (broadcastInDim S7x2 ![] bcast_S_S7x2 (constantI S_ 32 0#32))) (addi (cutT ids tbl) (broadcastInDim S7x2 ![] bcast_S_S7x2 (constantI S_ 32 6#32))) (cutT ids tbl)
def tokenIx : IVec S7x1 32 :=
  select (cmpi .slt (broadcastInDim S7x1 ![0] bcast_S7_S7x1_0 (iotaInDim S7 32 0)) (broadcastInDim S7x1 ![] bcast_S_S7x1 (constantI S_ 32 0#32))) (addi (broadcastInDim S7x1 ![0] bcast_S7_S7x1_0 (iotaInDim S7 32 0)) (broadcastInDim S7x1 ![] bcast_S_S7x1 (constantI S_ 32 8#32))) (broadcastInDim S7x1 ![0] bcast_S7_S7x1_0 (iotaInDim S7 32 0))
/-- the rows' places, -/
def rowIx : IVec S7x2x2 32 :=
  concatenate S7x2x2 2 [⟨S7x2x1, (broadcastInDim S7x2x1 ![0, 1] bcast_S7x2_S7x2x1_0_1 (slotIx ids tbl))⟩, ⟨S7x2x1, (broadcastInDim S7x2x1 ![0, 1] bcast_S7x2_S7x2x1_0_1 (broadcastInDim S7x2 ![0, 1] bcast_S7x1_S7x2_0_1 tokenIx))⟩] concatenates_S7x2x1_S7x2x1_S7x2x2_d2
/-- the experts' rows, -/
def rowsT : Vec Ideal S7x2x4096 .f32 :=
  select (broadcastInDim S7x2x4096 ![0, 1, 2] bcast_S7x2x1_S7x2x4096_0_1_2 (broadcastInDim S7x2x1 ![0, 1] bcast_S7x2_S7x2x1_0_1 (geT ids tbl)))
    (Host.gather gather_S6x8x4096_S7x2x2_S7x2x4096_2_01_n_n_01_2_114096 ys (rowIx ids tbl)) (broadcastInDim S7x2x4096 ![] bcast_S_S7x2x4096 (id (constant (F := Ideal) S_ .f32 0x00000000#32)))
/-- and the sums. -/
def sumT : Vec Ideal S7x4096 .f32 :=
  addf (Host.dotGeneral (F := Ideal) (φ₁ := .f32) (φ₂ := .f32) dot_S7x2_S7x2x4096_S7x4096_1_1_n_2_0_0 (some .fp32) (weightT ids g tbl) (rowsT ids tbl ys))
    (shapeCast _ (extractStridedSlice S1x7x4096 ![0, 0, 0] sh slices_S1x8x4096_S1x7x4096_0_0_0) shapeCasts_S1x7x4096_S7x4096)
end

set_option maxHeartbeats 1600000 in
/-- The reference's run, its results by these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = truncf (F := Ideal) .bf16 (shapeCast S7x1x4096 (sumT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) shapeCasts_S7x4096_S7x1x4096) bitsLt_bf16_f32
      ∧ r.2.mem ((c.tc : Thread nD τ).loc main_v52) = shapeCast S7x1 (missT (m ((c.tc : Thread nD τ).loc main_arg0)) (m ((c.tc : Thread nD τ).loc main_arg1)) (m ((c.tc : Thread nD τ).loc main_arg2))) shapeCasts_S7_S7x1
      ∧ r.2.mem ((c.tc : Thread nD τ).loc main_v53) = shapeCast S7x1x2x4096 (rowsT (m ((c.tc : Thread nD τ).loc main_arg0)) (m ((c.tc : Thread nD τ).loc main_arg2)) (m ((c.tc : Thread nD τ).loc main_arg3))) shapeCasts_S7x2x4096_S7x1x2x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by unfold Cert.BlendIdeal.Value.res_main_v51; rfl), (h c).2.1.trans rfl, (h c).2.2.1.trans rfl, (h c).2.2.2⟩)
    (Cert.BlendIdeal.Value.run (F := Ideal) m ρ)

section
variable (ids : IVec S7x1x2 32) (g : Vec Ideal S7x1x2 .f32) (tbl : IVec S8 32) (ys : Vec Ideal S6x8x4096 .f32) (sh : Vec Ideal S1x8x4096 .f32)
  (hi : ∀ j, BitVec.toNat (ids j) < 8) (hs : ∀ j, BitVec.toInt (tbl j) < 6)

/-- The slot of a token's choice. -/
def slotOf (t : Fin 7) (k : Fin 2) : BitVec 32 := tbl (ix1 ⟨(ids (ix3 t 0 k)).toNat, hi _⟩)

/-- An expert's row at a slot cut off at zero. -/
def rowOf (t : Fin 7) (k : Fin 2) (d : Fin 4096) : EReal :=
  ys (ix3 ⟨(Scalar.maxsi (slotOf ids tbl hi t k) 0#32).toNat % 6, Nat.mod_lt _ (by decide)⟩ ⟨t.val, by omega⟩ d)

/-- The gather of the table reads it at the index. -/
theorem take_at (x : IVec S8 32) (ix : IVec S7x1x2x1 32) (y : S7x1x2.Idx) (h : (ix (ix4 (y 0) (y 1) (y 2) 0)).toNat < 8) :
    Host.gather gather_S8_S7x1x2x1_S7x1x2_n_0_n_n_0_3_1 x ix y = x (ix1 ⟨(ix (ix4 (y 0) (y 1) (y 2) 0)).toNat, h⟩) := by
  unfold Host.gather
  congr 1
  funext a
  obtain rfl : a = 0 := Subsingleton.elim _ _
  refine Fin.ext ?_
  show (gather_S8_S7x1x2x1_S7x1x2_n_0_n_n_0_3_1).start y ix 0 + (gather_S8_S7x1x2x1_S7x1x2_n_0_n_n_0_3_1).batchCoord y 0 + (gather_S8_S7x1x2x1_S7x1x2_n_0_n_n_0_3_1).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S8_S7x1x2x1_S7x1x2_n_0_n_n_0_3_1).startIndexMap from List.mem_singleton.mpr rfl)]
  have hsi : (gather_S8_S7x1x2x1_S7x1x2_n_0_n_n_0_3_1).siIdx y ⟨List.idxOf (0 : Fin 1) (gather_S8_S7x1x2x1_S7x1x2_n_0_n_n_0_3_1).startIndexMap,
      List.idxOf_lt_length_iff.2 (List.mem_singleton.mpr rfl)⟩ = ix4 (y 0) (y 1) (y 2) 0 := by
    funext b; refine Fin.ext ?_
    match b with
    | ⟨0, _⟩ => rfl
    | ⟨1, _⟩ => rfl
    | ⟨2, _⟩ => rfl
    | ⟨3, _⟩ => rfl
  rw [hsi]
  show min (ix (ix4 (y 0) (y 1) (y 2) 0)).toInt.toNat (8 - 1) = (ix (ix4 (y 0) (y 1) (y 2) 0)).toNat
  generalize ix (ix4 (y 0) (y 1) (y 2) 0) = v at h
  have : v.toInt = v.toNat := by rw [BitVec.toInt_eq_toNat_cond, if_pos (by omega)]
  omega

/-- The gather of the experts' outputs reads the row at the two indices. -/
theorem takeRow_at (x : Vec Ideal S6x8x4096 .f32) (ix : IVec S7x2x2 32) (t : Fin 7) (k : Fin 2) (d : Fin 4096)
    (h0 : (ix (ix3 t k 0)).toNat < 6) (h1 : (ix (ix3 t k 1)).toNat < 8) :
    Host.gather gather_S6x8x4096_S7x2x2_S7x2x4096_2_01_n_n_01_2_114096 x ix (ix3 t k d) = x (ix3 ⟨(ix (ix3 t k 0)).toNat, h0⟩ ⟨(ix (ix3 t k 1)).toNat, h1⟩ d) := by
  unfold Host.gather
  congr 1
  funext a
  refine Fin.ext ?_
  show (gather_S6x8x4096_S7x2x2_S7x2x4096_2_01_n_n_01_2_114096).start (ix3 t k d) ix a + (gather_S6x8x4096_S7x2x2_S7x2x4096_2_01_n_n_01_2_114096).batchCoord (ix3 t k d) a + (gather_S6x8x4096_S7x2x2_S7x2x4096_2_01_n_n_01_2_114096).offCoord (ix3 t k d) a = _
  rw [GatherDims.batchCoord_eq_zero _ _ _ List.not_mem_nil]
  have e0 : (gather_S6x8x4096_S7x2x2_S7x2x4096_2_01_n_n_01_2_114096).siIdx (ix3 t k d) (0 : Fin 2) = ix3 t k 0 := by
    funext b; refine Fin.ext ?_
    match b with
    | ⟨0, _⟩ => rfl
    | ⟨1, _⟩ => rfl
    | ⟨2, _⟩ => rfl
  have e1 : (gather_S6x8x4096_S7x2x2_S7x2x4096_2_01_n_n_01_2_114096).siIdx (ix3 t k d) (1 : Fin 2) = ix3 t k 1 := by
    funext b; refine Fin.ext ?_
    match b with
    | ⟨0, _⟩ => rfl
    | ⟨1, _⟩ => rfl
    | ⟨2, _⟩ => rfl
  unfold GatherDims.start GatherDims.offCoord
  match a with
  | ⟨0, _⟩ =>
    show min (ix ((gather_S6x8x4096_S7x2x2_S7x2x4096_2_01_n_n_01_2_114096).siIdx (ix3 t k d) (0 : Fin 2))).toInt.toNat (6 - 1) + 0 + 0 = (ix (ix3 t k 0)).toNat
    rw [e0]
    generalize ix (ix3 t k 0) = v at h0
    have : v.toInt = v.toNat := by rw [BitVec.toInt_eq_toNat_cond, if_pos (by omega)]
    omega
  | ⟨1, _⟩ =>
    show min (ix ((gather_S6x8x4096_S7x2x2_S7x2x4096_2_01_n_n_01_2_114096).siIdx (ix3 t k d) (1 : Fin 2))).toInt.toNat (8 - 1) + 0 + 0 = (ix (ix3 t k 1)).toNat
    rw [e1]
    generalize ix (ix3 t k 1) = v at h1
    have : v.toInt = v.toNat := by rw [BitVec.toInt_eq_toNat_cond, if_pos (by omega)]
    omega
  | ⟨2, _⟩ =>
    show 0 + 0 + d.val = d.val
    omega

theorem idT_at (j : S7x1x2.Idx) (hi : ∀ j, BitVec.toNat (ids j) < 8) : idT ids j = ids j := by
  show Scalar.select (BitVec.ofBool ((ids j).slt 0#32)) _ (ids j) = ids j
  have : (ids j).slt 0#32 = false := by
    have := hi j
    generalize ids j = v at this
    simp only [BitVec.slt, decide_eq_false_iff_not, BitVec.toInt_eq_toNat_cond]
    simp; omega
  rw [this]; rfl

theorem slotT_at (t : Fin 7) (k : Fin 2) : slotT ids tbl (ix2 t k) = slotOf ids tbl hi t k := by
  have e : broadcastInDim S7x1x2x1 ![0, 1, 2] bcast_S7x1x2_S7x1x2x1_0_1_2 (idT ids) (ix4 t 0 k 0) = ids (ix3 t 0 k) := by
    pointwise []
    exact idT_at ids _ hi
  have h := take_at tbl (broadcastInDim S7x1x2x1 ![0, 1, 2] bcast_S7x1x2_S7x1x2x1_0_1_2 (idT ids)) (ix3 t 0 k) (by
    show BitVec.toNat (broadcastInDim S7x1x2x1 ![0, 1, 2] bcast_S7x1x2_S7x1x2x1_0_1_2 (idT ids) (ix4 t 0 k 0)) < 8
    rw [e]; exact hi _)
  pointwise [slotT]
  refine h.trans ?_
  unfold slotOf
  congr 2
  exact Fin.ext (congrArg BitVec.toNat e)

theorem ofBit (b : BitVec 1) : (FloatOps.uitofp (F := Ideal) .f32 b : EReal) = Scalar.select b 1 0 := by
  have hb : b = 0#1 ∨ b = 1#1 := by revert b; decide
  rcases hb with rfl | rfl
  · show (((0#1 : BitVec 1).toNat : ℝ) : EReal) = 0
    simp
  · show (((1#1 : BitVec 1).toNat : ℝ) : EReal) = 1
    simp

theorem validT_at (t : Fin 7) (k : Fin 2) : (validT ids tbl (ix2 t k) : EReal) = vld (slotOf ids tbl hi t k) := by
  rw [← slotT_at ids tbl hi]
  exact ofBit _

theorem one_at : (constant (F := Ideal) S_ FTy.f32 1065353216#32 ix0 : EReal) = 1 := by pointwise []
theorem zero_at : (constant (F := Ideal) S_ FTy.f32 0#32 ix0 : EReal) = 0 := by pointwise []

theorem missT_at (t : Fin 7) : (missT ids g tbl (ix1 t) : EReal) = missing (g (ix3 t 0 0)) (g (ix3 t 0 1)) (slotOf ids tbl hi t 0) (slotOf ids tbl hi t 1) := by
  pointwise [missT, gateT]
  simp only [Fin.sum_univ_two, validT_at ids tbl hi]
  rfl

theorem weightT_at (t : Fin 7) (k : Fin 2) : (weightT ids g tbl (ix2 t k) : EReal)
    = Ideal.div (g (ix3 t 0 k) * vld (slotOf ids tbl hi t k)) (den (held (g (ix3 t 0 0)) (g (ix3 t 0 1)) (slotOf ids tbl hi t 0) (slotOf ids tbl hi t 1))) := by
  pointwise [weightT, denT, heldT, gateT]
  simp only [Fin.sum_univ_two, validT_at ids tbl hi]
  rw [show id (constant (F := Ideal) S_ FTy.f32 1065353216#32) ix0 = (1 : EReal) from one_at]
  rfl

theorem slotIx_at (t : Fin 7) (k : Fin 2) : slotIx ids tbl (ix2 t k) = Scalar.maxsi (slotOf ids tbl hi t k) 0#32 := by
  rw [← slotT_at ids tbl hi]
  show Scalar.select (BitVec.ofBool ((Scalar.maxsi (slotT ids tbl (ix2 t k)) 0#32).slt 0#32)) _ (Scalar.maxsi (slotT ids tbl (ix2 t k)) 0#32) = _
  generalize slotT ids tbl (ix2 t k) = v
  have : (Scalar.maxsi v 0#32).slt 0#32 = false := by
    show (if (0#32 : BitVec 32).slt v then v else 0#32).slt 0#32 = false
    split
    · rename_i h
      simp only [BitVec.slt, decide_eq_true_eq, decide_eq_false_iff_not] at h ⊢
      simp at h ⊢; omega
    · simp
  rw [this]; rfl

theorem cut_lt (v : BitVec 32) (h : v.toInt < 6) : (Scalar.maxsi v 0#32).toNat < 6 := by
  show (if (0#32 : BitVec 32).slt v then v else 0#32).toNat < 6
  split
  · rename_i h0
    have h0 : (0 : ℤ) < v.toInt := by simpa [BitVec.slt] using h0
    have := v.isLt
    rw [BitVec.toInt_eq_toNat_cond] at h h0
    split at h <;> omega
  · simp

theorem tokenIx_at (t : Fin 7) : (tokenIx (ix2 t 0)).toNat = t.val := by
  revert t; decide +kernel

include hs in
theorem rowsT_at (t : Fin 7) (k : Fin 2) (d : Fin 4096) : (rowsT ids tbl ys (ix3 t k d) : EReal) = expert (slotOf ids tbl hi t k) (rowOf ids tbl ys hi t k d) := by
  have e0 : rowIx ids tbl (ix3 t k 0) = Scalar.maxsi (slotOf ids tbl hi t k) 0#32 := by
    pointwise [rowIx]
    exact slotIx_at ids tbl hi t k
  have e1 : rowIx ids tbl (ix3 t k 1) = tokenIx (ix2 t 0) := by
    pointwise [rowIx]
  have h0 : (rowIx ids tbl (ix3 t k 0)).toNat < 6 := by rw [e0]; exact cut_lt _ (hs _)
  have h1 : (rowIx ids tbl (ix3 t k 1)).toNat < 8 := by rw [e1, tokenIx_at]; omega
  have h := takeRow_at ys (rowIx ids tbl) t k d h0 h1
  have h' : Host.gather gather_S6x8x4096_S7x2x2_S7x2x4096_2_01_n_n_01_2_114096 ys (rowIx ids tbl) (ix3 t k d) = rowOf ids tbl ys hi t k d := by
    rw [h]
    unfold rowOf
    congr 2
    · refine Fin.ext ?_
      show (rowIx ids tbl (ix3 t k 0)).toNat = (Scalar.maxsi (slotOf ids tbl hi t k) 0#32).toNat % 6
      rw [e0]
      exact (Nat.mod_eq_of_lt (cut_lt (slotOf ids tbl hi t k) (hs _))).symm
    · refine Fin.ext ?_
      show (rowIx ids tbl (ix3 t k 1)).toNat = t.val
      rw [e1, tokenIx_at]
  pointwise [rowsT]
  rw [h', show id (constant (F := Ideal) S_ FTy.f32 0#32) ix0 = (0 : EReal) from zero_at,
    show geT ids tbl (ix2 t k) = Scalar.cmpi .sge (slotT ids tbl (ix2 t k)) 0#32 from rfl, slotT_at ids tbl hi]
  rfl

include hs in
theorem sumT_at (t : Fin 7) (d : Fin 4096) : (sumT ids g tbl ys sh (ix2 t d) : EReal)
    = total (g (ix3 t 0 0)) (g (ix3 t 0 1)) (slotOf ids tbl hi t 0) (slotOf ids tbl hi t 1) (rowOf ids tbl ys hi t 0 d) (rowOf ids tbl ys hi t 1 d) (sh (ix3 0 ⟨t.val, by omega⟩ d)) := by
  pointwise [sumT]
  simp only [Fin.sum_univ_two, weightT_at ids g tbl hi, rowsT_at ids tbl ys hi hs]
  rfl
end

end Cert.BlendIdeal.Read

end
-- ==== Proof.CombineClaims.lean ====
module

public import proofs.«01_k».proof.Defs
public import proofs.«01_k».proof.Proof.CombineBlocks
public import proofs.«01_k».proof.Proof.CombineBlocksBits
public import proofs.«01_k».proof.Proof.CombineBlend
public import proofs.«01_k».proof.Proof.Gen.Combine
public import proofs.«01_k».proof.Proof.Gen.BlendIdeal.Run
public import proofs.«01_k».proof.Proof.Gen.Pre_slots_in_range
public import Idealize.ShloMosaic.Lib.Quiescent
public import Idealize.ShloMosaic.Lib.Pipeline.ValueKit

/-! # The combining call's frames, and what its precondition says -/

@[expose] public section

noncomputable section

namespace Cert.Proof

open Idealize.ShloMosaic Idealize.SL.Sem

/-- The reference of the combining call terminates without fault and keeps its arguments. -/
theorem frame_si : Cert.quiescent_BlendIdeal := fun m ρ _ =>
  (θ_run Cert.BlendIdeal.defs _ _).mono (fun r h => ⟨fun c => (h c).2.2.2,
      Idealize.ShloMosaic.sem_eq_zero_of_no_sems (by decide) r.2⟩)
    (Cert.BlendIdeal.Value.run (F := Ideal) m ρ)

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

section
open Cert.Pre_slots_in_range
/-- What the precondition says: every id is below eight and every expert's slot below six. -/
theorem pre_bounds {F : FTy → Type} [FloatOps F] (x0 : IVec S7x1x2 32) (x1 : FVec F S7x1x2 .f32) (x2 : IVec S8 32) (x3 : FVec F S6x8x4096 .f32)
    (x4 : FVec F S1x8x4096 .f32) (h : Cert.Pre_slots_in_range.fn x0 x1 x2 x3 x4 = fun _ => 1#1) :
    (∀ j, BitVec.toNat (x0 j) < 8) ∧ ∀ j, BitVec.toInt (x2 j) < 6 := by
  have key : ∀ v : BitVec 32, IntOp.andi (Scalar.cmpi .sge v 0#32) (Scalar.cmpi .slt v 8#32) = 1#1 → v.toNat < 8 := fun v hv => by
    have hv : IntOp.andi (BitVec.ofBool ((0#32 : BitVec 32).sle v)) (BitVec.ofBool (v.slt 8#32)) = 1#1 := hv
    simp only [andi_ofBool, ofBool_eq_one, Bool.and_eq_true, BitVec.sle, BitVec.slt, decide_eq_true_eq] at hv
    have := BitVec.toInt_eq_toNat_cond v
    simp at hv
    omega
  constructor
  · intro j
    idx_vars j
    have hl : 2 * j0.val + j2.val < 14 := by omega
    have e := congrFun h (ValueIdx.ix1 ⟨2 * j0.val + j2.val, by omega⟩)
    unfold Cert.Pre_slots_in_range.fn at e
    dsimp only at e
    rw [concatenate_pair_apply_left (s₁ := S14) (s₂ := S8) (t := S22) 0 _ _ _ _ rfl (ValueIdx.ix1 ⟨2 * j0.val + j2.val, hl⟩) (fun b => by match b with | ⟨0, _⟩ => rfl), Cert.Blend.flat_at] at e
    rw [show j1 = 0 from Subsingleton.elim _ _]
    exact key _ e
  · intro j
    idx_vars j
    have e := congrFun h (ValueIdx.ix1 ⟨14 + j0.val, by omega⟩)
    unfold Cert.Pre_slots_in_range.fn at e
    dsimp only at e
    rw [concatenate_pair_apply_right (s₁ := S14) (s₂ := S8) (t := S22) 0 _ _ _ _ rfl rfl (ValueIdx.ix1 j0) (fun b hb => absurd (Fin.ext (by have := b.isLt; show b.val = 0; change b.val < 1 at this; omega)) hb) (by show j0.val + 14 = 14 + j0.val; omega)] at e
    have e : BitVec.ofBool ((x2 (ValueIdx.ix1 j0)).slt 6#32) = 1#1 := e
    have e : (x2 (ValueIdx.ix1 j0)).toInt < 6 := by simpa [ofBool_eq_one, BitVec.slt] using e
    exact e
end

/-- The combining kernel terminates without fault and keeps its arguments, -/
theorem frame_c : Cert.quiescent_Combine := fun m ρ h =>
  Cert.Combine.Gen.frame m ρ (Cert.Combine.Gen.inRange m (fun c => (pre_bounds _ _ _ _ _ (h c)).1) (fun c => (pre_bounds _ _ _ _ _ (h c)).2))

/-- and so it does over the extended reals. -/
theorem frame_ci : Cert.quiescent_CombineIdeal := fun m ρ h =>
  Cert.CombineIdeal.Gen.frame m ρ (Cert.CombineIdeal.Gen.inRange m (fun c => (pre_bounds _ _ _ _ _ (h c)).1) (fun c => (pre_bounds _ _ _ _ _ (h c)).2))

end Cert.Proof

end
-- ==== Proof.CombineRows.lean ====
/- The combining kernel's rows: each token's stores are one function of the token, and what its reads and its stores hold,
   stated once for every token. -/
module

public import proofs.«01_k».proof.Proof.CombineFrame
public import Idealize.ShloMosaic.Lib.ValueIdxCore

@[expose] public section

set_option maxRecDepth 16384

noncomputable section

namespace Cert.CombineIdeal.Gen

open Idealize.ShloMosaic Idealize.ShloMosaic.TcCoe Idealize.ShloMosaic.Tactic

variable {F : FTy → Type} [FloatOps F]

section
variable (arg0 : Memref sig .tc .smem S14 .i32) (harg0 : arg0.IsWhole) (arg1 : Memref sig .tc .smem S8 .i32) (harg1 : arg1.IsWhole) (arg2 : Memref sig .tc .smem S14 .f32) (harg2 : arg2.IsWhole) (arg3 : Memref sig .tc .vmem S6x8x4096 .f32) (harg3 : arg3.IsWhole) (arg4 : Memref sig .tc .vmem S8x4096 .f32) (harg4 : arg4.IsWhole) (arg7 : Memref sig .tc .vmem S14x4096 .f32)
  (x0 : Vec F S14 .i32) (x1 : Vec F S8 .i32) (x2 : Vec F S14 .f32) (x3 : Vec F S6x8x4096 .f32) (x4 : Vec F S8x4096 .f32)
  (hi : ∀ j, BitVec.toNat (x0 j) < 8) (hs : ∀ j, BitVec.toInt (x1 j) < 6)

theorem one_pos : 0 < S1.numel := by simp [Shape.numel]
theorem one_inb (k : Fin 14) (a : Fin 1) : (![k.val] : Fin 1 → ℕ) a + S1.size a ≤ S14.size a := by
  fin_cases a; show k.val + 1 ≤ 14; omega
theorem row_inb (n : ℕ) (k : Fin n) (a : Fin 2) : (![k.val, 0] : Fin 2 → ℕ) a + S1x4096.size a ≤ (⟨2, ![n, 4096]⟩ : Shape).size a := by
  fin_cases a
  · show k.val + 1 ≤ n; omega
  · show 0 + 4096 ≤ 4096; omega
theorem lane_inb (k : Fin 7) (a : Fin 2) : (![k.val, 0] : Fin 2 → ℕ) a + S1x128.size a ≤ S7x128.size a := by
  fin_cases a
  · show k.val + 1 ≤ 7; omega
  · show 0 + 128 ≤ 128; omega

/-- The id read at place `k`, -/
def idW (k : Fin 14) : BitVec 32 :=
  arg0.view.readAt (Elt F) (Rect.unit (s := S14) ![k.val] S1.size (one_inb k)).toLoadRect (harg0.unread x0) (Shape.Idx.first (s := S1) one_pos)

theorem idW_eq (k : Fin 14) : idW arg0 harg0 x0 k = x0 (ValueIdx.ix1 k) := by
  unfold idW
  rw [View.readAt_apply, harg0.read_unread]
  congr 1
  funext a; fin_cases a; rfl

include hi in
theorem idW_lt (k : Fin 14) : (idW arg0 harg0 x0 k).toNat < 8 := by rw [idW_eq]; exact hi _

/-- the slot its expert is held in, -/
def slotW (k : Fin 14) : BitVec 32 :=
  arg1.view.readAt (Elt F) (Rect.unit (s := S8) ![(Scalar.indexCast (idW arg0 harg0 x0 k)).toNat] S1.size (table_inb _ (idW_lt arg0 harg0 x0 hi k))).toLoadRect (harg1.unread x1) (Shape.Idx.first (s := S1) one_pos)

theorem slotW_eq (k : Fin 14) : slotW arg0 harg0 arg1 harg1 x0 x1 hi k = x1 (ValueIdx.ix1 ⟨(x0 (ValueIdx.ix1 k)).toNat, hi _⟩) := by
  unfold slotW
  rw [View.readAt_apply, harg1.read_unread]
  congr 1
  funext a; fin_cases a
  refine Fin.ext ?_
  show (idW arg0 harg0 x0 k).toNat + 1 * 0 = _
  rw [idW_eq]; rfl

include hs in
theorem slotW_lt (k : Fin 14) : (slotW arg0 harg0 arg1 harg1 x0 x1 hi k).toInt < 6 := by rw [slotW_eq]; exact hs _

/-- the gate read there, -/
def gateW (k : Fin 14) : Elt F .f32 :=
  arg2.view.readAt (Elt F) (Rect.unit (s := S14) ![k.val] S1.size (one_inb k)).toLoadRect (harg2.unread x2) (Shape.Idx.first (s := S1) one_pos)

theorem gateW_eq (k : Fin 14) : gateW arg2 harg2 x2 k = x2 (ValueIdx.ix1 k) := by
  unfold gateW
  rw [View.readAt_apply, harg2.read_unread]
  congr 1
  funext a; fin_cases a; rfl

/-- the expert's output row of the place's token, -/
def outW (k : Fin 14) : Vec F S1x1x4096 .f32 :=
  arg3.view.readAt (Elt F) (Rect.unit (s := S6x8x4096) ![(Scalar.indexCast (Scalar.maxsi (slotW arg0 harg0 arg1 harg1 x0 x1 hi k) 0#32)).toNat, k.val / 2, 0] S1x1x4096.size (slot_inb _ (slotW_lt arg0 harg0 arg1 harg1 x0 x1 hi hs k) _ (by omega))).toLoadRect (harg3.unread x3)

/-- the row the body stores of it, -/
def rowW (k : Fin 14) : Vec F S1x4096 .f32 :=
  k0_pay2 (slotW arg0 harg0 arg1 harg1 x0 x1 hi k) (outW arg0 harg0 arg1 harg1 arg3 harg3 x0 x1 x3 hi hs k)

/-- and the store. -/
def pieceW (k : Fin 14) : View.Piece (Elt F) S14x4096 .f32 :=
  ⟨Rect.unit (s := S14x4096) ![k.val, 0] S1x4096.size (row_inb 14 k), rowW arg0 harg0 arg1 harg1 arg3 harg3 x0 x1 x3 hi hs k⟩

/-- The experts' rows stored before place `n`, the last first. -/
def piecesW : (n : ℕ) → n ≤ 14 → List (View.Piece (Elt F) S14x4096 .f32)
  | 0, _ => []
  | n + 1, h => pieceW arg0 harg0 arg1 harg1 arg3 harg3 x0 x1 x3 hi hs ⟨n, h⟩ :: piecesW n (Nat.le_of_succ_le h)

/-- A token's missing-weight row, -/
def missW (t : Fin 7) : Vec F S1x128 .f32 :=
  k0_pay11 (k0_pay3 (slotW arg0 harg0 arg1 harg1 x0 x1 hi ⟨2 * t.val, by omega⟩)) (k0_pay3 (slotW arg0 harg0 arg1 harg1 x0 x1 hi ⟨2 * t.val + 1, by omega⟩))
    k0_pay6 (k0_pay7 (gateW arg2 harg2 x2 ⟨2 * t.val, by omega⟩)) (k0_pay7 (gateW arg2 harg2 x2 ⟨2 * t.val + 1, by omega⟩))

/-- and its row of the result. -/
def sumW (t : Fin 7) : Vec F S1x4096 .f32 :=
  k0_pay12 (k0_pay3 (slotW arg0 harg0 arg1 harg1 x0 x1 hi ⟨2 * t.val, by omega⟩)) (k0_pay3 (slotW arg0 harg0 arg1 harg1 x0 x1 hi ⟨2 * t.val + 1, by omega⟩))
    k0_pay6 (k0_pay7 (gateW arg2 harg2 x2 ⟨2 * t.val, by omega⟩)) (k0_pay7 (gateW arg2 harg2 x2 ⟨2 * t.val + 1, by omega⟩))
    (arg4.view.readAt (Elt F) (Rect.unit (s := S8x4096) ![t.val, 0] S1x4096.size (row_inb 8 ⟨t.val, by omega⟩)).toLoadRect (harg4.unread x4))
    (arg7.view.readCov (piecesW arg0 harg0 arg1 harg1 arg3 harg3 x0 x1 x3 hi hs (2 * t.val + 2) (by omega)) (Rect.unit (s := S14x4096) ![2 * t.val, 0] S1x4096.size (row_inb 14 ⟨2 * t.val, by omega⟩)).toLoadRect)
    (arg7.view.readCov (piecesW arg0 harg0 arg1 harg1 arg3 harg3 x0 x1 x3 hi hs (2 * t.val + 2) (by omega)) (Rect.unit (s := S14x4096) ![2 * t.val + 1, 0] S1x4096.size (row_inb 14 ⟨2 * t.val + 1, by omega⟩)).toLoadRect)
end

variable (m : (ℓ : Loc nD τ sig) → Buf (Elt F) ℓ) (hg : InRange m) (c : Dev nD) (t : Fin cfg0.N)

/-- The stores of the experts' rows are the fourteen places', -/
theorem stores7 : (runAt m hg c t).2.2.1
    = piecesW (ms0 t) (hstage0_0 0) (ms1 t) (hstage0_1 0) (ms3 t) (hstage0_3 0) (iblk m c 0 t) (iblk m c 1 t) (iblk m c 3 t) (hg c t).1 (hg c t).2 14 (le_refl _) := by
  sl_kernel_rfl

/-- those of the missing weights the seven tokens', -/
theorem stores6 : (runAt m hg c t).2.1
    = ([6, 5, 4, 3, 2, 1, 0] : List (Fin 7)).map (fun k => (⟨Rect.unit (s := S7x128) ![k.val, 0] S1x128.size (lane_inb k),
        missW (ms0 t) (hstage0_0 0) (ms1 t) (hstage0_1 0) (ms2 t) (hstage0_2 0) (iblk m c 0 t) (iblk m c 1 t) (iblk m c 2 t) (hg c t).1 k⟩ : View.Piece (Elt F) S7x128 .f32)) := by
  sl_kernel_rfl

/-- and so are those of the result. -/
theorem stores5 : (runAt m hg c t).1
    = ([6, 5, 4, 3, 2, 1, 0] : List (Fin 7)).map (fun k => (⟨Rect.unit (s := S7x4096) ![k.val, 0] S1x4096.size (row_inb 7 k),
        sumW (ms0 t) (hstage0_0 0) (ms1 t) (hstage0_1 0) (ms2 t) (hstage0_2 0) (ms3 t) (hstage0_3 0) (ms4 t) (hstage0_4 0) (ms7 t) (iblk m c 0 t) (iblk m c 1 t) (iblk m c 2 t) (iblk m c 3 t) (iblk m c 4 t) (hg c t).1 (hg c t).2 k⟩ : View.Piece (Elt F) S7x4096 .f32)) := by
  sl_kernel_rfl

end Cert.CombineIdeal.Gen

end
-- ==== Proof.CombineValue.lean ====
/- What the combining kernel leaves in its results, entry by entry over the extended reals. -/
module

public import proofs.«01_k».proof.Proof.CombineRows
public import proofs.«01_k».proof.Proof.CombineBlend

@[expose] public section

set_option maxRecDepth 16384

noncomputable section

namespace Cert.CombineIdeal.Gen

open Idealize.ShloMosaic Idealize.ShloMosaic.TcCoe Cert.Blend

section
variable (arg0 : Memref sig .tc .smem S14 .i32) (harg0 : arg0.IsWhole) (arg1 : Memref sig .tc .smem S8 .i32) (harg1 : arg1.IsWhole) (arg2 : Memref sig .tc .smem S14 .f32) (harg2 : arg2.IsWhole) (arg3 : Memref sig .tc .vmem S6x8x4096 .f32) (harg3 : arg3.IsWhole) (arg4 : Memref sig .tc .vmem S8x4096 .f32) (harg4 : arg4.IsWhole) (arg7 : Memref sig .tc .vmem S14x4096 .f32)
  (x0 : Vec Ideal S14 .i32) (x1 : Vec Ideal S8 .i32) (x2 : Vec Ideal S14 .f32) (x3 : Vec Ideal S6x8x4096 .f32) (x4 : Vec Ideal S8x4096 .f32)
  (hi : ∀ j, BitVec.toNat (x0 j) < 8) (hs : ∀ j, BitVec.toInt (x1 j) < 6)

/-- The slot at place `k`. -/
def slotK (k : Fin 14) : BitVec 32 := x1 (ValueIdx.ix1 ⟨(x0 (ValueIdx.ix1 k)).toNat, hi _⟩)
/-- The row there at the slot cut off at zero. -/
def rowK (k : Fin 14) (d : Fin 4096) : EReal :=
  x3 (ValueIdx.ix3 ⟨(Scalar.maxsi (slotK x0 x1 hi k) 0#32).toNat % 6, Nat.mod_lt _ (by decide)⟩ ⟨k.val / 2, by omega⟩ d)

theorem outW_at (k : Fin 14) (d : Fin 4096) : (outW arg0 harg0 arg1 harg1 arg3 harg3 x0 x1 x3 hi hs k (ValueIdx.ix3 0 0 d) : EReal) = rowK x0 x1 x3 hi k d := by
  unfold outW rowK
  rw [View.readAt_apply, harg3.read_unread]
  have e : slotW arg0 harg0 arg1 harg1 x0 x1 hi k = slotK x0 x1 hi k := slotW_eq _ _ _ _ _ _ _ _
  have hlt : (Scalar.maxsi (slotK x0 x1 hi k) 0#32).toNat < 6 := Cert.BlendIdeal.Read.cut_lt _ (hs _)
  congr 1
  funext a
  refine Fin.ext ?_
  match a with
  | ⟨0, _⟩ =>
    show (Scalar.maxsi (slotW arg0 harg0 arg1 harg1 x0 x1 hi k) 0#32).toNat + 1 * 0 = (Scalar.maxsi (slotK x0 x1 hi k) 0#32).toNat % 6
    rw [e, Nat.mod_eq_of_lt hlt]; omega
  | ⟨1, _⟩ => show k.val / 2 + 1 * 0 = k.val / 2; omega
  | ⟨2, _⟩ => show 0 + 1 * d.val = d.val; omega

theorem rowW_at (k : Fin 14) (d : Fin 4096) : (rowW arg0 harg0 arg1 harg1 arg3 harg3 x0 x1 x3 hi hs k (ValueIdx.ix2 0 d) : EReal)
    = expert (slotK x0 x1 hi k) (rowK x0 x1 x3 hi k d) := by
  rw [← outW_at arg0 harg0 arg1 harg1 arg3 harg3 x0 x1 x3 hi hs k d, ← show slotW arg0 harg0 arg1 harg1 x0 x1 hi k = slotK x0 x1 hi k from slotW_eq _ _ _ _ _ _ _ _]
  unfold rowW
  generalize outW arg0 harg0 arg1 harg1 arg3 harg3 x0 x1 x3 hi hs k = r
  generalize slotW arg0 harg0 arg1 harg1 x0 x1 hi k = s
  unfold expert k0_pay2
  pointwise []
  rfl

theorem pieces_agree : ∀ (n : ℕ) (h : n ≤ 14), ∀ p ∈ piecesW arg0 harg0 arg1 harg1 arg3 harg3 x0 x1 x3 hi hs n h, ∀ x : p.1.shape.Idx,
    p.2 x = (fun y : S14x4096.Idx => rowW arg0 harg0 arg1 harg1 arg3 harg3 x0 x1 x3 hi hs (y 0) (ValueIdx.ix2 0 (y 1))) (p.1.emb x)
  | 0, _, p, hp, x => absurd hp List.not_mem_nil
  | n + 1, h, p, hp, x => by
    rcases List.mem_cons.mp hp with rfl | hp
    · show rowW arg0 harg0 arg1 harg1 arg3 harg3 x0 x1 x3 hi hs ⟨n, h⟩ x = rowW arg0 harg0 arg1 harg1 arg3 harg3 x0 x1 x3 hi hs _ _
      congr 1
      · refine Fin.ext ?_
        show n = n + 1 * (x 0).val
        have : (x 0).val < 1 := (x 0).isLt
        omega
      · funext a
        refine Fin.ext ?_
        match a with
        | ⟨0, _⟩ => show (x 0).val = 0; have : (x 0).val < 1 := (x 0).isLt; omega
        | ⟨1, _⟩ => show (x 1).val = 0 + 1 * (x 1).val; omega
    · exact pieces_agree n _ p hp x

theorem pieces_cover (d : Fin 4096) : ∀ (n : ℕ) (h : n ≤ 14) (k : Fin 14), k.val < n →
    ∃ p ∈ piecesW arg0 harg0 arg1 harg1 arg3 harg3 x0 x1 x3 hi hs n h, (ValueIdx.ix2 k d : S14x4096.Idx) ∈ p.1.set
  | 0, _, k, hk => absurd hk (Nat.not_lt_zero _)
  | n + 1, h, k, hk => by
    rcases Nat.lt_succ_iff_lt_or_eq.mp hk with hk | hk
    · obtain ⟨p, hp, hy⟩ := pieces_cover d n (Nat.le_of_succ_le h) k hk
      exact ⟨p, List.mem_cons_of_mem _ hp, hy⟩
    · refine ⟨_, List.mem_cons_self, ?_⟩
      refine (pieceW arg0 harg0 arg1 harg1 arg3 harg3 x0 x1 x3 hi hs ⟨n, h⟩).1.mem_set.mpr fun a => ?_
      match a with
      | ⟨0, _⟩ => exact ⟨0, Nat.one_pos, by show k.val = n + 1 * 0; omega⟩
      | ⟨1, _⟩ => exact ⟨d.val, d.isLt, by show d.val = 0 + 1 * d.val; omega⟩

/-- The experts' rows read back after the stores before place `n`. -/
theorem pieces_read (v : View sig .tc .vmem S14x4096 .f32) (n : ℕ) (h : n ≤ 14) (k : Fin 14) (hk : k.val < n) (d : Fin 4096) :
    (v.read (Elt Ideal) (v.writes (Elt Ideal) v.junk (piecesW arg0 harg0 arg1 harg1 arg3 harg3 x0 x1 x3 hi hs n h)) (ValueIdx.ix2 k d) : EReal)
      = expert (slotK x0 x1 hi k) (rowK x0 x1 x3 hi k d) := by
  rw [View.read_writes_apply_of_pieces v _ (fun y : S14x4096.Idx => rowW arg0 harg0 arg1 harg1 arg3 harg3 x0 x1 x3 hi hs (y 0) (ValueIdx.ix2 0 (y 1))) _
    (pieces_agree arg0 harg0 arg1 harg1 arg3 harg3 x0 x1 x3 hi hs n h) _ (pieces_cover arg0 harg0 arg1 harg1 arg3 harg3 x0 x1 x3 hi hs d n h k hk)]
  exact rowW_at arg0 harg0 arg1 harg1 arg3 harg3 x0 x1 x3 hi hs k d

theorem missW_at (t : Fin 7) : (missW arg0 harg0 arg1 harg1 arg2 harg2 x0 x1 x2 hi t (ValueIdx.ix2 0 0) : EReal)
    = missing (x2 (ValueIdx.ix1 ⟨2 * t.val, by omega⟩)) (x2 (ValueIdx.ix1 ⟨2 * t.val + 1, by omega⟩)) (slotK x0 x1 hi ⟨2 * t.val, by omega⟩) (slotK x0 x1 hi ⟨2 * t.val + 1, by omega⟩) := by
  unfold missW slotK
  rw [slotW_eq, slotW_eq, gateW_eq, gateW_eq]
  pointwise [k0_pay11, k0_pay3, k0_pay6, k0_pay7, k0_pay9, k0_pay10]
  rfl

theorem select_mul (g : EReal) (s : BitVec 32) : Scalar.select (Scalar.cmpi .sge s 0#32) g 0 = g * vld s := by
  unfold vld Scalar.select
  split <;> simp

theorem readCov_at (n : ℕ) (h : n ≤ 14) (k : Fin 14) (hk : k.val < n) (d : Fin 4096) (inb) :
    (arg7.view.readCov (piecesW arg0 harg0 arg1 harg1 arg3 harg3 x0 x1 x3 hi hs n h) (Rect.unit (s := S14x4096) ![k.val, 0] S1x4096.size inb).toLoadRect (ValueIdx.ix2 0 d) : EReal)
      = expert (slotK x0 x1 hi k) (rowK x0 x1 x3 hi k d) := by
  rw [← pieces_read arg0 harg0 arg1 harg1 arg3 harg3 x0 x1 x3 hi hs arg7.view n h k hk d]
  show arg7.view.read _ _ _ = _
  congr 1
  funext a
  refine Fin.ext ?_
  match a with
  | ⟨0, _⟩ => show k.val + 1 * 0 = k.val; omega
  | ⟨1, _⟩ => show 0 + 1 * d.val = d.val; omega

theorem shared_at (t : Fin 7) (d : Fin 4096) (inb) :
    (arg4.view.readAt (Elt Ideal) (Rect.unit (s := S8x4096) ![t.val, 0] S1x4096.size inb).toLoadRect (harg4.unread x4) (ValueIdx.ix2 0 d) : EReal)
      = x4 (ValueIdx.ix2 ⟨t.val, by omega⟩ d) := by
  rw [View.readAt_apply, harg4.read_unread]
  congr 1
  funext a
  refine Fin.ext ?_
  match a with
  | ⟨0, _⟩ => show t.val + 1 * 0 = t.val; omega
  | ⟨1, _⟩ => show 0 + 1 * d.val = d.val; omega

theorem sumW_at (t : Fin 7) (d : Fin 4096) : (sumW arg0 harg0 arg1 harg1 arg2 harg2 arg3 harg3 arg4 harg4 arg7 x0 x1 x2 x3 x4 hi hs t (ValueIdx.ix2 0 d) : EReal)
    = total (x2 (ValueIdx.ix1 ⟨2 * t.val, by omega⟩)) (x2 (ValueIdx.ix1 ⟨2 * t.val + 1, by omega⟩)) (slotK x0 x1 hi ⟨2 * t.val, by omega⟩) (slotK x0 x1 hi ⟨2 * t.val + 1, by omega⟩)
      (rowK x0 x1 x3 hi ⟨2 * t.val, by omega⟩ d) (rowK x0 x1 x3 hi ⟨2 * t.val + 1, by omega⟩ d) (x4 (ValueIdx.ix2 ⟨t.val, by omega⟩ d)) := by
  unfold sumW
  generalize hr0 : arg7.view.readCov (piecesW arg0 harg0 arg1 harg1 arg3 harg3 x0 x1 x3 hi hs (2 * t.val + 2) _) (Rect.unit (s := S14x4096) ![2 * t.val, 0] S1x4096.size _).toLoadRect = r0
  generalize hr1 : arg7.view.readCov (piecesW arg0 harg0 arg1 harg1 arg3 harg3 x0 x1 x3 hi hs (2 * t.val + 2) _) (Rect.unit (s := S14x4096) ![2 * t.val + 1, 0] S1x4096.size _).toLoadRect = r1
  generalize hr4 : arg4.view.readAt (Elt Ideal) (Rect.unit (s := S8x4096) ![t.val, 0] S1x4096.size _).toLoadRect (harg4.unread x4) = r4
  have h0 : (r0 (ValueIdx.ix2 0 d) : EReal) = _ := (congrFun hr0.symm _).trans (readCov_at arg0 harg0 arg1 harg1 arg3 harg3 arg7 x0 x1 x3 hi hs (2 * t.val + 2) (by omega) ⟨2 * t.val, by omega⟩ (by show 2 * t.val < _; omega) d _)
  have h1 : (r1 (ValueIdx.ix2 0 d) : EReal) = _ := (congrFun hr1.symm _).trans (readCov_at arg0 harg0 arg1 harg1 arg3 harg3 arg7 x0 x1 x3 hi hs (2 * t.val + 2) (by omega) ⟨2 * t.val + 1, by omega⟩ (by show 2 * t.val + 1 < _; omega) d _)
  have h4 : (r4 (ValueIdx.ix2 0 d) : EReal) = _ := (congrFun hr4.symm _).trans (shared_at arg4 harg4 x4 t d _)
  have e := fun k => show slotW arg0 harg0 arg1 harg1 x0 x1 hi k = slotK x0 x1 hi k from slotW_eq _ _ _ _ _ _ _ _
  rw [e, e, gateW_eq, gateW_eq]
  pointwise [k0_pay12, k0_pay3, k0_pay6, k0_pay7, k0_pay9, k0_pay10]
  simp only [select_mul]
  rw [h0, h1, h4]
  rfl
end

end Cert.CombineIdeal.Gen

end
-- ==== Proof.CombineFinal.lean ====
/- The combining kernel's three results, and their equality with the reference's. -/
module

public import proofs.«01_k».proof.Proof.CombineValue
public import proofs.«01_k».proof.Proof.CombineBlocks
public import proofs.«01_k».proof.Proof.CombineClaims

@[expose] public section

set_option maxRecDepth 16384

noncomputable section

namespace Cert.CombineIdeal.Gen

open Idealize.ShloMosaic Idealize.ShloMosaic.TcCoe Idealize.SL.Sem Cert.Blend Cert.BlendIdeal.Read

/-- Seven stored rows read back. -/
theorem rows_read (n : ℕ) (v : View sig .tc .vmem ⟨2, ![7, n]⟩ .f32)
    (inb : ∀ (k : Fin 7) (a : Fin 2), (![k.val, 0] : Fin 2 → ℕ) a + (⟨2, ![1, n]⟩ : Shape).size a ≤ (⟨2, ![7, n]⟩ : Shape).size a)
    (f : Fin 7 → Vec Ideal ⟨2, ![1, n]⟩ .f32) (L : List (Fin 7)) (t : Fin 7) (ht : t ∈ L) (d : Fin n) :
    (v.read (Elt Ideal) (v.writes (Elt Ideal) v.junk (L.map fun k => (⟨Rect.unit (s := ⟨2, ![7, n]⟩) ![k.val, 0] (⟨2, ![1, n]⟩ : Shape).size (inb k), f k⟩ : View.Piece (Elt Ideal) ⟨2, ![7, n]⟩ .f32))) (ValueIdx.ix2 t d) : EReal)
      = f t (ValueIdx.ix2 0 d) := by
  rw [View.read_writes_apply_of_pieces v _ (fun y : (⟨2, ![7, n]⟩ : Shape).Idx => f (y 0) (ValueIdx.ix2 0 (y 1))) _ ?_ (ValueIdx.ix2 t d) ?_]
  · rfl
  · intro p hp x
    obtain ⟨k, -, rfl⟩ := List.mem_map.mp hp
    show f k x = f _ _
    congr 1
    · refine Fin.ext ?_
      show k.val = k.val + 1 * (x 0).val
      have : (x 0).val < 1 := (x 0).isLt
      omega
    · funext a
      refine Fin.ext ?_
      match a with
      | ⟨0, _⟩ => show (x 0).val = 0; have : (x 0).val < 1 := (x 0).isLt; omega
      | ⟨1, _⟩ => show (x 1).val = 0 + 1 * (x 1).val; omega
  · refine ⟨_, List.mem_map.mpr ⟨t, ht, rfl⟩, ?_⟩
    refine (Rect.unit (s := ⟨2, ![7, n]⟩) ![t.val, 0] (⟨2, ![1, n]⟩ : Shape).size (inb t)).mem_set.mpr fun a => ?_
    match a with
    | ⟨0, _⟩ => exact ⟨0, Nat.one_pos, by show t.val = t.val + 1 * 0; omega⟩
    | ⟨1, _⟩ => exact ⟨d.val, d.isLt, by show d.val = 0 + 1 * d.val; omega⟩

/-- The shared expert's rows without the leading axis. -/
theorem shared_flat_at (x : S1x8x4096.Idx → EReal) (q : Fin 8) (d : Fin 4096) :
    shapeCast S8x4096 x shapeCasts_S1x8x4096_S8x4096 (ValueIdx.ix2 q d) = x (ValueIdx.ix3 0 q d) := by
  pointwise []
  rfl

variable (m : (ℓ : Loc nD τ sig) → Buf (Elt Ideal) ℓ) (ρ : Dev nD → PrngReg)

/-- The argument arrays. -/
abbrev ids (c : Dev nD) : IVec S7x1x2 32 := m ((c : Thread nD τ).loc main_arg0)
abbrev gates (c : Dev nD) : Vec Ideal S7x1x2 .f32 := m ((c : Thread nD τ).loc main_arg1)
abbrev tbl (c : Dev nD) : IVec S8 32 := m ((c : Thread nD τ).loc main_arg2)
abbrev ys (c : Dev nD) : Vec Ideal S6x8x4096 .f32 := m ((c : Thread nD τ).loc main_arg3)
abbrev shd (c : Dev nD) : Vec Ideal S1x8x4096 .f32 := m ((c : Thread nD τ).loc main_arg4)

variable (hi : ∀ c j, BitVec.toNat (ids m c j) < 8) (hs : ∀ c j, BitVec.toInt (tbl m c j) < 6) (c : Dev nD) (t : Fin cfg0.N)

/-- The body's slot of a token's choice is the reference's, -/
theorem slot_same (hx) (q : Fin 7) (k : Fin 2) (h : 2 * q.val + k.val < 14) :
    slotK (iblk m c 0 t) (iblk m c 1 t) hx ⟨2 * q.val + k.val, h⟩ = slotOf (ids m c) (tbl m c) (hi c) q k := by
  unfold slotK slotOf
  rw [blk1]
  congr 1
  congr 1
  refine Fin.ext ?_
  show BitVec.toNat (iblk m c 0 t _ : BitVec 32) = BitVec.toNat (ids m c (ValueIdx.ix3 q 0 k))
  rw [blk0, flat_at]

/-- and so is the row, -/
theorem row_same (hx) (q : Fin 7) (k : Fin 2) (h : 2 * q.val + k.val < 14) (d : Fin 4096) :
    rowK (iblk m c 0 t) (iblk m c 1 t) (iblk m c 3 t) hx ⟨2 * q.val + k.val, h⟩ d = rowOf (ids m c) (tbl m c) (ys m c) (hi c) q k d := by
  refine (blk3 m c t _).trans ?_
  unfold rowOf
  refine congrArg (ys m c) ?_
  refine congr (congr (congrArg _ (Fin.ext ?_)) (Fin.ext ?_)) rfl
  · show (Scalar.maxsi (slotK _ _ _ _) 0#32).toNat % 6 = (Scalar.maxsi (slotOf _ _ _ _ _) 0#32).toNat % 6
    rw [slot_same m hi]
  · show (2 * q.val + k.val) / 2 = q.val
    omega

/-- and the gate value. -/
theorem gate_same (q : Fin 7) (k : Fin 2) (h : 2 * q.val + k.val < 14) :
    (iblk m c 2 t (ValueIdx.ix1 ⟨2 * q.val + k.val, h⟩) : EReal) = gates m c (ValueIdx.ix3 q 0 k) := by
  rw [blk2, flat_at]

include hi hs
theorem out7_at (hg : InRange m) (q : Fin 7) (k : Fin 2) (h : 2 * q.val + k.val < 14) (d : Fin 4096) :
    (out7 m hg c t (ValueIdx.ix2 ⟨2 * q.val + k.val, h⟩ d) : EReal) = rowsT (ids m c) (tbl m c) (ys m c) (ValueIdx.ix3 q k d) := by
  refine Eq.trans ?_ (rowsT_at (ids m c) (tbl m c) (ys m c) (hi c) (hs c) q k d).symm
  unfold out7
  rw [stores7, pieces_read (hk := h), slot_same m hi, row_same m hi]

omit hs in
theorem out6_at (hg : InRange m) (q : Fin 7) :
    (out6 m hg c t (ValueIdx.ix2 q 0) : EReal) = missT (ids m c) (gates m c) (tbl m c) (ValueIdx.ix1 q) := by
  refine Eq.trans ?_ (missT_at (ids m c) (gates m c) (tbl m c) (hi c) q).symm
  unfold out6
  rw [stores6]
  refine (rows_read 128 _ lane_inb _ _ q (by revert q; decide) 0).trans ((missW_at _ _ _ _ _ _ _ _ _ _ q).trans ?_)
  have e0 := slot_same m hi c t (hg c t).1 q 0 (by show 2 * q.val + 0 < 14; omega)
  have e1 := slot_same m hi c t (hg c t).1 q 1 (by show 2 * q.val + 1 < 14; omega)
  have g0 := gate_same m c t q 0 (by show 2 * q.val + 0 < 14; omega)
  have g1 := gate_same m c t q 1 (by show 2 * q.val + 1 < 14; omega)
  exact congr (congr (congr (congrArg missing g0) g1) e0) e1

theorem out5_at (hg : InRange m) (q : Fin 7) (d : Fin 4096) :
    (out5 m hg c t (ValueIdx.ix2 q d) : EReal) = sumT (ids m c) (gates m c) (tbl m c) (ys m c) (shd m c) (ValueIdx.ix2 q d) := by
  refine Eq.trans ?_ (sumT_at (ids m c) (gates m c) (tbl m c) (ys m c) (shd m c) (hi c) (hs c) q d).symm
  unfold out5
  rw [stores5]
  refine (rows_read 4096 _ (row_inb 7) _ _ q (by revert q; decide) d).trans ((sumW_at _ _ _ _ _ _ _ _ _ _ _ _ _ _ _ _ _ _ q d).trans ?_)
  have e0 := slot_same m hi c t (hg c t).1 q 0 (by show 2 * q.val + 0 < 14; omega)
  have e1 := slot_same m hi c t (hg c t).1 q 1 (by show 2 * q.val + 1 < 14; omega)
  have g0 := gate_same m c t q 0 (by show 2 * q.val + 0 < 14; omega)
  have g1 := gate_same m c t q 1 (by show 2 * q.val + 1 < 14; omega)
  have r0 := row_same m hi c t (hg c t).1 q 0 (by show 2 * q.val + 0 < 14; omega) d
  have r1 := row_same m hi c t (hg c t).1 q 1 (by show 2 * q.val + 1 < 14; omega) d
  have s : (iblk m c 4 t (ValueIdx.ix2 ⟨q.val, by omega⟩ d) : EReal) = shd m c (ValueIdx.ix3 0 ⟨q.val, by omega⟩ d) :=
    (blk4 m c t _).trans (shared_flat_at _ _ _)
  exact congr (congr (congr (congr (congr (congr (congrArg total g0) g1) e0) e1) r0) r1) s

omit hi hs
/-- The arrays at the end of the launch. -/
theorem final5 (hg : InRange m) : (dats m hg 0 c).arrAt 5 cfg0.N = out5 m hg c t0_0 :=
  (dats m hg 0 c).arrAt_eq_of_after_last 5 t0_0 (by decide +kernel) _ fun j => by
    rw [after0_5]
    generalize out5 m hg c t0_0 = o
    rw [cast_eq]
    exact congrArg o (funext fun a => rfl)
theorem final6 (hg : InRange m) : (dats m hg 0 c).arrAt 6 cfg0.N = out6 m hg c t0_0 :=
  (dats m hg 0 c).arrAt_eq_of_after_last 6 t0_0 (by decide +kernel) _ fun j => by
    rw [after0_6]
    generalize out6 m hg c t0_0 = o
    blk_simp
theorem final7 (hg : InRange m) : (dats m hg 0 c).arrAt 7 cfg0.N = out7 m hg c t0_0 :=
  (dats m hg 0 c).arrAt_eq_of_after_last 7 t0_0 (by decide +kernel) _ fun j => by
    rw [after0_7]
    generalize out7 m hg c t0_0 = o
    rw [cast_eq]
    exact congrArg o (funext fun a => rfl)

/-- What the lines after the launch leave in the three results. -/
theorem tail_v5 (W : Valuation τ sig (Elt Ideal)) : StableHlo.after hostOps1 W (Proc.devRef .tc main_v5)
    = truncf (F := Ideal) .bf16 (shapeCast S7x1x4096 (W (Proc.devRef .tc main_v3_0) : S7x4096.Idx → EReal) shapeCasts_S7x4096_S7x1x4096) bitsLt_bf16_f32 := by rfl
theorem tail_v8 (W : Valuation τ sig (Elt Ideal)) : StableHlo.after hostOps1 W (Proc.devRef .tc main_v8)
    = shapeCast S7x1 (shapeCast S7 (extractStridedSlice S7x1 ![0, 0] (W (Proc.devRef .tc main_v3_1) : S7x128.Idx → EReal) slices_S7x128_S7x1_0_0) shapeCasts_S7x1_S7) shapeCasts_S7_S7x1 := by rfl
theorem tail_v9 (W : Valuation τ sig (Elt Ideal)) : StableHlo.after hostOps1 W (Proc.devRef .tc main_v9)
    = shapeCast S7x1x2x4096 (W (Proc.devRef .tc main_v3_2) : S14x4096.Idx → EReal) shapeCasts_S14x4096_S7x1x2x4096 := by rfl

/-- The arrays `main_v5`, `main_v8` and `main_v9` are the reference's. -/
theorem end_v5 (hg : InRange m) : Pipeline.afterTail₀ cfgs (dats m hg) 0 (V0 m) [hostOps1] c main_v5
    = truncf (F := Ideal) .bf16 (shapeCast S7x1x4096 (out5 m hg c t0_0) shapeCasts_S7x4096_S7x1x4096) bitsLt_bf16_f32 := by
  unfold Pipeline.afterTail₀
  refine (tail_v5 _).trans ?_
  have e := (Pipeline.withArrays_arr spec0 (by decide) c (V0 m c) (fun w => (dats m hg 0 c).arrAt w cfg0.N) 5).trans (final5 m c hg)
  exact congrArg (fun x : S7x4096.Idx → EReal => truncf (F := Ideal) .bf16 (shapeCast S7x1x4096 x shapeCasts_S7x4096_S7x1x4096) bitsLt_bf16_f32) e
theorem end_v8 (hg : InRange m) : Pipeline.afterTail₀ cfgs (dats m hg) 0 (V0 m) [hostOps1] c main_v8
    = shapeCast S7x1 (shapeCast S7 (extractStridedSlice S7x1 ![0, 0] (out6 m hg c t0_0) slices_S7x128_S7x1_0_0) shapeCasts_S7x1_S7) shapeCasts_S7_S7x1 := by
  unfold Pipeline.afterTail₀
  refine (tail_v8 _).trans ?_
  have e := (Pipeline.withArrays_arr spec0 (by decide) c (V0 m c) (fun w => (dats m hg 0 c).arrAt w cfg0.N) 6).trans (final6 m c hg)
  exact congrArg (fun x : S7x128.Idx → EReal => shapeCast S7x1 (shapeCast S7 (extractStridedSlice S7x1 ![0, 0] x slices_S7x128_S7x1_0_0) shapeCasts_S7x1_S7) shapeCasts_S7_S7x1) e
theorem end_v9 (hg : InRange m) : Pipeline.afterTail₀ cfgs (dats m hg) 0 (V0 m) [hostOps1] c main_v9
    = shapeCast S7x1x2x4096 (out7 m hg c t0_0) shapeCasts_S14x4096_S7x1x2x4096 := by
  unfold Pipeline.afterTail₀
  refine (tail_v9 _).trans ?_
  have e := (Pipeline.withArrays_arr spec0 (by decide) c (V0 m c) (fun w => (dats m hg 0 c).arrAt w cfg0.N) 7).trans (final7 m c hg)
  exact congrArg (fun x : S14x4096.Idx → EReal => shapeCast S7x1x2x4096 x shapeCasts_S14x4096_S7x1x2x4096) e

include hi hs
theorem same5 (hg : InRange m) : truncf (F := Ideal) .bf16 (shapeCast S7x1x4096 (out5 m hg c t0_0) shapeCasts_S7x4096_S7x1x4096) bitsLt_bf16_f32
    = truncf (F := Ideal) .bf16 (shapeCast Cert.BlendIdeal.S7x1x4096 (sumT (ids m c) (gates m c) (tbl m c) (ys m c) (shd m c)) Cert.BlendIdeal.Gen.facts.shapeCasts_S7x4096_S7x1x4096) Cert.BlendIdeal.Gen.facts.bitsLt_bf16_f32 := by
  have e : out5 m hg c t0_0 = sumT (ids m c) (gates m c) (tbl m c) (ys m c) (shd m c) := by
    funext i
    idx_vars i
    exact out5_at m hi hs c t0_0 hg _ _
  rw [e]

omit hs in
theorem same6 (hg : InRange m) : shapeCast S7x1 (shapeCast S7 (extractStridedSlice S7x1 ![0, 0] (out6 m hg c t0_0) slices_S7x128_S7x1_0_0) shapeCasts_S7x1_S7) shapeCasts_S7_S7x1
    = shapeCast Cert.BlendIdeal.S7x1 (missT (ids m c) (gates m c) (tbl m c)) Cert.BlendIdeal.Gen.facts.shapeCasts_S7_S7x1 := by
  have e : shapeCast S7 (extractStridedSlice S7x1 ![0, 0] (out6 m hg c t0_0) slices_S7x128_S7x1_0_0) shapeCasts_S7x1_S7 = missT (ids m c) (gates m c) (tbl m c) := by
    funext i
    idx_vars i
    refine Eq.trans ?_ (out6_at m hi c t0_0 hg _)
    pointwise []
    rfl
  rw [e]

theorem same7 (hg : InRange m) : shapeCast S7x1x2x4096 (out7 m hg c t0_0) shapeCasts_S14x4096_S7x1x2x4096
    = shapeCast Cert.BlendIdeal.S7x1x2x4096 (rowsT (ids m c) (tbl m c) (ys m c)) Cert.BlendIdeal.Gen.facts.shapeCasts_S7x2x4096_S7x1x2x4096 := by
  funext i
  idx_vars i
  have e := out7_at m hi hs c t0_0 hg i0 i2 (by omega) i3
  pointwise []
  refine Eq.trans ?_ e
  refine congrArg (out7 m hg c t0_0) (congr (congrArg _ (Fin.ext ?_)) rfl)
  show i0.val * 2 + i2.val = 2 * i0.val + i2.val
  omega

end Cert.CombineIdeal.Gen

namespace Cert.Proof

open Idealize.ShloMosaic Idealize.ShloMosaic.TcCoe Idealize.SL.Sem Cert.CombineIdeal Cert.CombineIdeal.Gen

/-- Over the extended reals, from equal arguments in range, the combining kernel and its reference leave the same three results. -/
theorem algebraic_combine : Cert.algebraic_CombineIdeal_BlendIdeal := by
  intro m g m' g' hpre h
  have hi := fun c => (pre_bounds _ _ _ _ _ (hpre c)).1
  have hs := fun c => (pre_bounds _ _ _ _ _ (hpre c)).2
  have hg : InRange m := inRange m hi hs
  let V := Pipeline.afterTail₀ cfgs (dats m hg) 0 (V0 m) [hostOps1]
  refine ⟨fun c => V c main_v5, fun c => V c main_v8, fun c => V c main_v9, ?_, ?_⟩
  · refine (θ_run defs _ _).mono (fun r hr c => ?_) (θ_run_and (run_main m g hg) (frame m g hg))
    obtain ⟨⟨hr, -⟩, hf, -⟩ := hr
    exact ⟨(hr c).2 main_v5 (by decide), (hr c).2 main_v8 (by decide), (hr c).2 main_v9 (by decide), hf c⟩
  · refine (θ_run Cert.BlendIdeal.defs _ _).mono (fun r hr c => ?_) (Cert.BlendIdeal.Read.run m' g')
    obtain ⟨r5, r8, r9, hr⟩ := hr c
    obtain ⟨h0, h1, h2, h3, h4⟩ := h c
    rw [h0, h1, h2, h3, h4] at r5
    rw [h0, h1, h2] at r8
    rw [h0, h2, h3] at r9
    exact ⟨r5.trans ((end_v5 m c hg).trans (same5 m hi hs c hg)).symm, r8.trans ((end_v8 m c hg).trans (same6 m hi c hg)).symm,
      r9.trans ((end_v9 m c hg).trans (same7 m hi hs c hg)).symm, hr⟩

end Cert.Proof

end
-- ==== Proof.SharedPoint.lean ====
module

public import proofs.«01_k».proof.Proof.Fold
public import proofs.«01_k».proof.Proof.Gen.SharedIdeal.Skeleton
public import proofs.«01_k».proof.Proof.Gen.SharedIdeal.Value
public import Idealize.ShloMosaic.Lib.Pipeline.ValueKit
public import Idealize.ShloMosaic.Lib.Pipeline.ReadBack

/-! # One grid point of the shared expert's call

The shared expert's call runs the same body over one expert. Its payloads are those of the routed experts' call, so what
was shown of them is used again; only what names the call's own buffers is said here. -/

@[expose] public section

set_option maxRecDepth 16384

noncomputable section

namespace Cert.SharedIdeal.Body

open Cert.SharedIdeal Cert.SharedIdeal.Gen Idealize.ShloMosaic Idealize.ShloMosaic.TcCoe Idealize.SL.Sem
open Cert.KernelIdeal.Body hiding trip_apply st_apply loop_apply off4' off4 off5' off5 off6' off6 off7' off7 spread_read table_read acc_apply out_A out_B pay41_eq pay43_eq pay53_eq pay54_eq pay67_eq pay68_eq pay2_eq pay3_eq trip8_eq pay30_apply pay31_apply pay32_apply pay33_apply pairs2_low pairs2_high

section Payloads

variable (a0 a1 a2 a3 : Vec Ideal S1x128x512 .i8) (s0 s1 s2 s3 : Vec Ideal S1x2x512 .bf16)
  (h : Vec Ideal S16x1024 .bf16) (o : Vec Ideal S1x8x512 .f32)

theorem pay41_eq : k0_pay41 (F := Ideal) (k0_pay35 a0 s0) (k0_pay37 (k0_pay36 a1) s1) (k0_pay38 a2) (k0_pay39 s2) a3 s3 h o
    = addLow (down4 (Cert.KernelIdeal.Gen.k0_pay4 a0 s0) (Cert.KernelIdeal.Gen.k0_pay4 a1 s1) (Cert.KernelIdeal.Gen.k0_pay4 a2 s2) (Cert.KernelIdeal.Gen.k0_pay4 a3 s3) h) o := rfl

theorem pay43_eq : k0_pay43 (F := Ideal) (k0_pay40 (k0_pay35 a0 s0) (k0_pay37 (k0_pay36 a1) s1) (k0_pay38 a2) (k0_pay39 s2) a3 s3 h) (k0_pay42 o)
    = addHigh (down4 (Cert.KernelIdeal.Gen.k0_pay4 a0 s0) (Cert.KernelIdeal.Gen.k0_pay4 a1 s1) (Cert.KernelIdeal.Gen.k0_pay4 a2 s2) (Cert.KernelIdeal.Gen.k0_pay4 a3 s3) h) o := rfl

theorem pay53_eq : k0_pay53 (F := Ideal) (k0_pay44 a0 s0) (k0_pay49 (k0_pay45 a1) (k0_pay46 s1) (k0_pay47 s1) (k0_pay48 (F := Ideal) a1)) (k0_pay50 a2 s2) (k0_pay51 a3) s3 h o
    = addLow (down4 (Cert.KernelIdeal.Gen.k0_pay4 a0 s0) (Cert.KernelIdeal.Gen.k0_pay4 a1 s1) (Cert.KernelIdeal.Gen.k0_pay4 a2 s2) (Cert.KernelIdeal.Gen.k0_pay4 a3 s3) h) o := rfl

theorem pay54_eq : k0_pay54 (F := Ideal) (k0_pay44 a0 s0) (k0_pay49 (k0_pay45 a1) (k0_pay46 s1) (k0_pay47 s1) (k0_pay48 (F := Ideal) a1)) (k0_pay50 a2 s2) (k0_pay51 a3) s3 h o
    = addHigh (down4 (Cert.KernelIdeal.Gen.k0_pay4 a0 s0) (Cert.KernelIdeal.Gen.k0_pay4 a1 s1) (Cert.KernelIdeal.Gen.k0_pay4 a2 s2) (Cert.KernelIdeal.Gen.k0_pay4 a3 s3) h) o := rfl

theorem pay67_eq : k0_pay67 (F := Ideal) (k0_pay55 a0 s0) (k0_pay59 (k0_pay56 s1) (k0_pay57 s1) (k0_pay58 (F := Ideal) a1)) (k0_pay60 a2 s2) (k0_pay61 a3) (k0_pay62 s3) (k0_pay63 s3) (k0_pay64 (F := Ideal) a3) (k0_pay65) h o
    = addLow (down4 (Cert.KernelIdeal.Gen.k0_pay4 a0 s0) (Cert.KernelIdeal.Gen.k0_pay4 a1 s1) (Cert.KernelIdeal.Gen.k0_pay4 a2 s2) (Cert.KernelIdeal.Gen.k0_pay4 a3 s3) h) o := rfl

theorem pay68_eq : k0_pay68 (F := Ideal) (k0_pay55 a0 s0) (k0_pay59 (k0_pay56 s1) (k0_pay57 s1) (k0_pay58 (F := Ideal) a1)) (k0_pay60 a2 s2) (k0_pay61 a3) (k0_pay62 s3) (k0_pay63 s3) (k0_pay64 (F := Ideal) a3) (k0_pay65) h o
    = addHigh (down4 (Cert.KernelIdeal.Gen.k0_pay4 a0 s0) (Cert.KernelIdeal.Gen.k0_pay4 a1 s1) (Cert.KernelIdeal.Gen.k0_pay4 a2 s2) (Cert.KernelIdeal.Gen.k0_pay4 a3 s3) h) o := rfl

theorem pay2_eq : k0_pay2 (F := Ideal) (k0_pay70 (k0_pay69 a0) s0) (k0_pay71 a1 s1) (k0_pay72 a2 s2) (k0_pay73 a3) (k0_pay74 s3) h o
    = addLow (down4 (Cert.KernelIdeal.Gen.k0_pay4 a0 s0) (Cert.KernelIdeal.Gen.k0_pay4 a1 s1) (Cert.KernelIdeal.Gen.k0_pay4 a2 s2) (Cert.KernelIdeal.Gen.k0_pay4 a3 s3) h) o := rfl

theorem pay3_eq : k0_pay3 (F := Ideal) (k0_pay70 (k0_pay69 a0) s0) (k0_pay71 a1 s1) (k0_pay72 a2 s2) (k0_pay73 a3) (k0_pay74 s3) h o
    = addHigh (down4 (Cert.KernelIdeal.Gen.k0_pay4 a0 s0) (Cert.KernelIdeal.Gen.k0_pay4 a1 s1) (Cert.KernelIdeal.Gen.k0_pay4 a2 s2) (Cert.KernelIdeal.Gen.k0_pay4 a3 s3) h) o := rfl

end Payloads

section Loop

variable (x0 : Vec Ideal S16x8192 .bf16) (x1 : Vec Ideal S1x4096x512 .i8) (s9 : Vec Ideal S32x2x512 .bf16)

theorem trip8_eq (acc : FVec Ideal S16x512 .f32) (a0 a1 a2 a3 a4 a5 a6 a7 : Vec Ideal S1x128x512 .i8)
    (s0 s1 s2 s3 s4 s5 s6 s7 : Vec Ideal S1x2x512 .bf16) (x : Vec Ideal S16x2048 .bf16) :
    k0_pay21 (F := Ideal) acc (k0_pay4 a0 s0) (k0_pay9 (k0_pay5 a1) (k0_pay6 s1) (k0_pay7 s1) (k0_pay8 (F := Ideal) a1) 4#8)
        (k0_pay10 a2 s2) (k0_pay12 (k0_pay11 a3) s3) (k0_pay15 (k0_pay13 a4) (k0_pay14 s4)) (k0_pay16 a5 s5)
        (k0_pay17 a6) (k0_pay18 s6) (k0_pay19 s6) (k0_pay20 (F := Ideal) a6) 4#8 a7 s7 x
      = trip8 acc (Cert.KernelIdeal.Gen.k0_pay4 a0 s0) (Cert.KernelIdeal.Gen.k0_pay4 a1 s1) (Cert.KernelIdeal.Gen.k0_pay4 a2 s2) (Cert.KernelIdeal.Gen.k0_pay4 a3 s3) (Cert.KernelIdeal.Gen.k0_pay4 a4 s4) (Cert.KernelIdeal.Gen.k0_pay4 a5 s5)
          (Cert.KernelIdeal.Gen.k0_pay4 a6 s6) (Cert.KernelIdeal.Gen.k0_pay4 a7 s7) x := rfl

set_option maxHeartbeats 2000000 in
/-- One trip of the loop adds its product to the accumulator. -/
theorem trip_apply
  (𝒱 : Variants) (c : Dev nD) (bd : Option 𝒱.V) (i : grid0.Coords) (arg2 : Memref sig .tc .vmem S16x8192 .bf16) (harg2 :
    arg2.IsWhole) (arg3 : Memref sig .tc .vmem S1x4096x512 .i8) (harg3 : arg3.IsWhole) (arg4 : Memref sig .tc .vmem
    S1x32x512 .bf16) (harg4 : arg4.IsWhole) (arg5 : Memref sig .tc .vmem S1x32x512 .bf16) (harg5 : arg5.IsWhole) (arg6 :
    Memref sig .tc .vmem S1x512x2048 .i8) (harg6 : arg6.IsWhole) (arg7 : Memref sig .tc .vmem S1x112x4096 .bf16) (harg7
    : arg7.IsWhole) (arg8 : Memref sig .tc .vmem S1x8x4096 .f32) (harg8 : arg8.IsWhole) (arg9 : Memref sig .tc .vmem
    S32x2x512 .bf16) (harg9 : arg9.IsWhole) (arg10 : Memref sig .tc .vmem S112x2x2048 .bf16) (harg10 : arg10.IsWhole)
    (arg11 : Memref sig .tc .vmem S16x1024 .bf16) (harg11 : arg11.IsWhole)
    (X9 : BufTy.Contents (Elt Ideal) arg9.view.ty) (h9 : arg9.view.read (Elt Ideal) X9 = s9)
    (k : Fin k0_t1_loop.trips) (acc : FVec Ideal S16x512 .f32) (r : Fin 16) (n : Fin 512) :
    tripR_k0_t1 (F := Ideal)
      𝒱 c bd i arg2 harg2 arg3 harg3 arg4 harg4 arg5 harg5 arg6 harg6 arg7 harg7 arg8 harg8 arg9 harg9 arg10 harg10 arg11
      harg11
      (harg2.unread x0) (harg3.unread x1) X9 k acc (ix2 r n)
      = acc (ix2 r n) + tripTerm x0 x1 s9 r n ⟨k.val, k.isLt.trans_eq trips_eq⟩ := by
  have hk : k.val < 4 := k.isLt.trans_eq trips_eq
  have c0 := code_off k 0 (by omega)
  have c1 := code_off k 1 (by omega)
  have c2 := code_off k 2 (by omega)
  have c3 := code_off k 3 (by omega)
  have c4 := code_off k 4 (by omega)
  have c5 := code_off k 5 (by omega)
  have c6 := code_off k 6 (by omega)
  have c7 := code_off k 7 (by omega)
  have d0 := scale_off k 0 (by omega)
  have d1 := scale_off k 1 (by omega)
  have d2 := scale_off k 2 (by omega)
  have d3 := scale_off k 3 (by omega)
  have d4 := scale_off k 4 (by omega)
  have d5 := scale_off k 5 (by omega)
  have d6 := scale_off k 6 (by omega)
  have d7 := scale_off k 7 (by omega)
  have ao := act_off k
  unfold tripR_k0_t1 trip_k0_t1
  dsimp only
  sl_unfold_words
  simp only [View.readAt_eq_ld, harg2.read_unread, harg3.read_unread, h9]
  rw [trip8_eq, trip8_apply (wgu x1 s9) ⟨k.val, hk⟩]
  · unfold tripTerm
    refine congrArg _ (Finset.sum_congr rfl fun x _ => Ideal.mul_congr ?_ rfl)
    pointwise []
    blk_ext []
  · exact fun q X h => block_at x1 s9 _ _ (8 * k.val + 0) _ _ c0 d0 q n X h
  · exact fun q X h => block_at x1 s9 _ _ (8 * k.val + 1) _ _ c1 d1 q n X h
  · exact fun q X h => block_at x1 s9 _ _ (8 * k.val + 2) _ _ c2 d2 q n X h
  · exact fun q X h => block_at x1 s9 _ _ (8 * k.val + 3) _ _ c3 d3 q n X h
  · exact fun q X h => block_at x1 s9 _ _ (8 * k.val + 4) _ _ c4 d4 q n X h
  · exact fun q X h => block_at x1 s9 _ _ (8 * k.val + 5) _ _ c5 d5 q n X h
  · exact fun q X h => block_at x1 s9 _ _ (8 * k.val + 6) _ _ c6 d6 q n X h
  · exact fun q X h => block_at x1 s9 _ _ (8 * k.val + 7) _ _ c7 d7 q n X h

/-- The accumulator after `q` trips. -/
theorem st_apply
  (𝒱 : Variants) (c : Dev nD) (bd : Option 𝒱.V) (i : grid0.Coords) (arg2 : Memref sig .tc .vmem S16x8192 .bf16) (harg2 :
    arg2.IsWhole) (arg3 : Memref sig .tc .vmem S1x4096x512 .i8) (harg3 : arg3.IsWhole) (arg4 : Memref sig .tc .vmem
    S1x32x512 .bf16) (harg4 : arg4.IsWhole) (arg5 : Memref sig .tc .vmem S1x32x512 .bf16) (harg5 : arg5.IsWhole) (arg6 :
    Memref sig .tc .vmem S1x512x2048 .i8) (harg6 : arg6.IsWhole) (arg7 : Memref sig .tc .vmem S1x112x4096 .bf16) (harg7
    : arg7.IsWhole) (arg8 : Memref sig .tc .vmem S1x8x4096 .f32) (harg8 : arg8.IsWhole) (arg9 : Memref sig .tc .vmem
    S32x2x512 .bf16) (harg9 : arg9.IsWhole) (arg10 : Memref sig .tc .vmem S112x2x2048 .bf16) (harg10 : arg10.IsWhole)
    (arg11 : Memref sig .tc .vmem S16x1024 .bf16) (harg11 : arg11.IsWhole)
    (X9 : BufTy.Contents (Elt Ideal) arg9.view.ty) (h9 : arg9.view.read (Elt Ideal) X9 = s9)
    (r : Fin 16) (n : Fin 512) (q : ℕ) (hq : q ≤ 4) :
    st_k0_t1 (F := Ideal)
      𝒱 c bd i arg2 harg2 arg3 harg3 arg4 harg4 arg5 harg5 arg6 harg6 arg7 harg7 arg8 harg8 arg9 harg9 arg10 harg10 arg11
      harg11
      (harg2.unread x0) (harg3.unread x1) X9 k0_pay24 q (ix2 r n)
      = ∑ j : Fin q, tripTerm x0 x1 s9 r n ⟨j.val, by omega⟩ := by
  induction q with
  | zero => rw [st_k0_t1_zero, Fin.sum_univ_zero]; pointwise [k0_pay24]
  | succ q ih =>
    have hlt : q < k0_t1_loop.trips := by rw [trips_eq]; omega
    refine Eq.trans (congrFun (st_k0_t1_succ (F := Ideal)
      𝒱 c bd i arg2 harg2 arg3 harg3 arg4 harg4 arg5 harg5 arg6 harg6 arg7 harg7 arg8 harg8 arg9 harg9 arg10 harg10 arg11
      harg11
      (harg2.unread x0) (harg3.unread x1) X9 k0_pay24 ⟨q, hlt⟩) (ix2 r n)) ?_
    rw [trip_apply (h9 := h9), ih (by omega), Fin.sum_univ_castSucc]
    rfl

/-- The accumulator after the loop: one product over all 8192 interleaved rows. -/
theorem loop_apply
  (𝒱 : Variants) (c : Dev nD) (bd : Option 𝒱.V) (i : grid0.Coords) (arg2 : Memref sig .tc .vmem S16x8192 .bf16) (harg2 :
    arg2.IsWhole) (arg3 : Memref sig .tc .vmem S1x4096x512 .i8) (harg3 : arg3.IsWhole) (arg4 : Memref sig .tc .vmem
    S1x32x512 .bf16) (harg4 : arg4.IsWhole) (arg5 : Memref sig .tc .vmem S1x32x512 .bf16) (harg5 : arg5.IsWhole) (arg6 :
    Memref sig .tc .vmem S1x512x2048 .i8) (harg6 : arg6.IsWhole) (arg7 : Memref sig .tc .vmem S1x112x4096 .bf16) (harg7
    : arg7.IsWhole) (arg8 : Memref sig .tc .vmem S1x8x4096 .f32) (harg8 : arg8.IsWhole) (arg9 : Memref sig .tc .vmem
    S32x2x512 .bf16) (harg9 : arg9.IsWhole) (arg10 : Memref sig .tc .vmem S112x2x2048 .bf16) (harg10 : arg10.IsWhole)
    (arg11 : Memref sig .tc .vmem S16x1024 .bf16) (harg11 : arg11.IsWhole)
    (X9 : BufTy.Contents (Elt Ideal) arg9.view.ty) (h9 : arg9.view.read (Elt Ideal) X9 = s9)
    (r : Fin 16) (n : Fin 512) (q : ℕ) (hq : q = 4) :
    st_k0_t1 (F := Ideal)
      𝒱 c bd i arg2 harg2 arg3 harg3 arg4 harg4 arg5 harg5 arg6 harg6 arg7 harg7 arg8 harg8 arg9 harg9 arg10 harg10 arg11
      harg11
      (harg2.unread x0) (harg3.unread x1) X9 k0_pay24 q (ix2 r n)
      = ∑ X : Fin 8192, x0 (ix2 r X) * wgu x1 s9 X n := by
  subst hq
  rw [st_apply (h9 := h9) (hq := le_rfl)]
  exact (Fin.sum_univ_tiles 4 2048 rfl (fun X : Fin 8192 => x0 (ix2 r X) * wgu x1 s9 X n)).symm

end Loop

theorem off4' : ∀ (t : Fin cfg0.N) (j : Fin 4), k0_off4 (grid0.coords t) (BitVec.ofNat 32 j.val)
    = ![4 * (t.val % 28) + j.val, 0, 0] :=
  (by decide +kernel : ∀ (t : Fin grid0.N) (j : Fin 4), _)

theorem off4 (t : Fin cfg0.N) (j : ℕ) (hj : j < 4) : k0_off4 (grid0.coords t) (BitVec.ofNat 32 j)
    = ![4 * (t.val % 28) + j, 0, 0] := off4' t ⟨j, hj⟩

theorem off5' : ∀ (t : Fin cfg0.N) (j : Fin 4), k0_off5 (grid0.coords t) (BitVec.ofNat 32 j.val)
    = ![4 * (t.val % 28) + j.val, 0, 512] :=
  (by decide +kernel : ∀ (t : Fin grid0.N) (j : Fin 4), _)

theorem off5 (t : Fin cfg0.N) (j : ℕ) (hj : j < 4) : k0_off5 (grid0.coords t) (BitVec.ofNat 32 j)
    = ![4 * (t.val % 28) + j, 0, 512] := off5' t ⟨j, hj⟩

theorem off6' : ∀ (t : Fin cfg0.N) (j : Fin 4), k0_off6 (grid0.coords t) (BitVec.ofNat 32 j.val)
    = ![4 * (t.val % 28) + j.val, 0, 1024] :=
  (by decide +kernel : ∀ (t : Fin grid0.N) (j : Fin 4), _)

theorem off6 (t : Fin cfg0.N) (j : ℕ) (hj : j < 4) : k0_off6 (grid0.coords t) (BitVec.ofNat 32 j)
    = ![4 * (t.val % 28) + j, 0, 1024] := off6' t ⟨j, hj⟩

theorem off7' : ∀ (t : Fin cfg0.N) (j : Fin 4), k0_off7 (grid0.coords t) (BitVec.ofNat 32 j.val)
    = ![4 * (t.val % 28) + j.val, 0, 1536] :=
  (by decide +kernel : ∀ (t : Fin grid0.N) (j : Fin 4), _)

theorem off7 (t : Fin cfg0.N) (j : ℕ) (hj : j < 4) : k0_off7 (grid0.coords t) (BitVec.ofNat 32 j)
    = ![4 * (t.val % 28) + j, 0, 1536] := off7' t ⟨j, hj⟩

/-- The stored spread product, read back whole. -/
theorem spread_read (G : FVec Ideal S16x512 .f32) (r : Fin 16) (X : Fin 1024) :
    View.readCov (Val := Elt Ideal) (View.whole cc0_scratch2)
      [⟨Rect.unit (s := S16x1024) ![0, 768] ![16, 256] inb_S16x1024_S16x256_0_768,
          k0_pay33 (F := Ideal) (k0_pay27 (k0_pay25 G) (k0_pay26 G)) k0_pay28 k0_pay29⟩,
        ⟨Rect.unit (s := S16x1024) ![0, 512] ![16, 256] inb_S16x1024_S16x256_0_512, k0_pay32 (F := Ideal) (k0_pay25 G) (k0_pay26 G)⟩,
        ⟨Rect.unit (s := S16x1024) ![0, 256] ![16, 256] inb_S16x1024_S16x256_0_256, k0_pay31 (F := Ideal) (k0_pay25 G) (k0_pay26 G)⟩,
        ⟨Rect.unit (s := S16x1024) ![0, 0] ![16, 256] inb_S16x1024_S16x256_0_0, k0_pay30 (F := Ideal) (k0_pay25 G) (k0_pay26 G)⟩]
      (Rect.unit (s := S16x1024) ![0, 0] ![16, 1024] inb_S16x1024_S16x1024_0_0).toLoadRect (ix2 r X)
      = spreadV (hid G) r X := by
  have i0 : ((Rect.unit (s := S16x1024) ![0, 0] ![16, 1024] inb_S16x1024_S16x1024_0_0).idx (ix2 r X) 0 : ℕ) = r.val :=
    (Rect.idx_unit_val _ _ _ _ _).trans (Nat.zero_add _)
  have i1 : ((Rect.unit (s := S16x1024) ![0, 0] ![16, 1024] inb_S16x1024_S16x1024_0_0).idx (ix2 r X) 1 : ℕ) = X.val :=
    (Rect.idx_unit_val _ _ _ _ _).trans (Nat.zero_add _)
  rw [View.readCov_eq_canon']
  canon_tiles z hz
  all_goals
    have e0 := i0.symm.trans hz0
    have e1 := i1.symm.trans hz1
    idx_vars z
  · exact (Cert.KernelIdeal.Body.pay33_apply G _ _).trans (congrArg₂ (spreadV (hid G)) (Fin.ext e0.symm) (Fin.ext e1.symm))
  · exact (Cert.KernelIdeal.Body.pay32_apply G _ _).trans (congrArg₂ (spreadV (hid G)) (Fin.ext e0.symm) (Fin.ext e1.symm))
  · exact (Cert.KernelIdeal.Body.pay31_apply G _ _).trans (congrArg₂ (spreadV (hid G)) (Fin.ext e0.symm) (Fin.ext e1.symm))
  · exact (Cert.KernelIdeal.Body.pay30_apply G _ _).trans
      (congrArg₂ (spreadV (hid G)) (Fin.ext e0.symm) (Fin.ext ((Nat.zero_add _).trans e1.symm)))

/-- The paired scales, stored and read back. -/
theorem table_read (gs us : Vec Ideal S1x32x512 .bf16) :
    View.read (Elt Ideal) (View.whole cc0_scratch0) ((View.whole cc0_scratch0).writes (Elt Ideal) (View.whole cc0_scratch0).junk
      [⟨Rect.unit (s := S32x2x512) ![0, 0, 0] ![32, 2, 512] inb_S32x2x512_S32x2x512_0_0_0, k0_pay22 (F := Ideal) gs us⟩])
      = k0_pay22 (F := Ideal) gs us :=
  (View.read_writes_junk_eq_canon (Val := Elt Ideal) _ _).trans
    (View.canon_unit_zero (funext fun a => by fin_cases a <;> rfl) _ _)

/-- What the loop leaves, from its activations, its weights and the stored pairs of scales. -/
theorem acc_apply (c : Dev nD) (t : Fin cfg0.N) (x0 : Vec Ideal S16x8192 .bf16) (x1 : Vec Ideal S1x4096x512 .i8)
    (gs us : Vec Ideal S1x32x512 .bf16) (r : Fin 16) (n : Fin 512) :
    st_k0_t1 (F := Ideal) Variants.none c none (grid0.coords t)
      (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) scM0_0 (Memref.isWhole_whole _) scM0_1 (Memref.isWhole_whole _) scM0_2
      (Memref.isWhole_whole _)
      ((hs0_0 t).unread x0) ((hs0_1 t).unread x1)
      ((View.whole cc0_scratch0).writes (Elt Ideal) (View.whole cc0_scratch0).junk
        [⟨Rect.unit (s := S32x2x512) ![0, 0, 0] ![32, 2, 512] inb_S32x2x512_S32x2x512_0_0_0, k0_pay22 (F := Ideal) gs us⟩])
      k0_pay24 (Scf.trips 0#32 (Scalar.addi 0#32 4#32) 1#32) (ix2 r n)
      = ∑ X : Fin 8192, x0 (ix2 r X) * wgu x1 (Cert.KernelIdeal.Gen.k0_pay22 (F := Ideal) gs us) X n := by
  refine loop_apply x0 x1 (Cert.KernelIdeal.Gen.k0_pay22 (F := Ideal) gs us) _ _ _ _ _ _ _ _ _ _ _ _ _ _ _ _ _ _ _ _ _ _ _ _ _ ?_ r n _ ?_
  · exact table_read gs us
  · rfl

/-- The pairs of down scales, read in the even rows. -/
theorem pairs2_low (sd : Vec Ideal S1x112x4096 .bf16) (r : Fin 112) (n : Fin 2048) :
    k0_pay23 (F := Ideal)
        (View.ld sd (Rect.unit (s := S1x112x4096) ![0, 0, 0] ![1, 112, 2048] inb_S1x112x4096_S1x112x2048_0_0_0))
        (View.ld sd (Rect.unit (s := S1x112x4096) ![0, 0, 2048] ![1, 112, 2048] inb_S1x112x4096_S1x112x2048_0_0_2048)) (ix3 r 0 n)
      = sd (ix3 0 r ⟨n.val, by omega⟩) := Cert.KernelIdeal.Body.pairs2_low sd r n

/-- The pairs of down scales, read in the odd rows. -/
theorem pairs2_high (sd : Vec Ideal S1x112x4096 .bf16) (r : Fin 112) (n : Fin 2048) :
    k0_pay23 (F := Ideal)
        (View.ld sd (Rect.unit (s := S1x112x4096) ![0, 0, 0] ![1, 112, 2048] inb_S1x112x4096_S1x112x2048_0_0_0))
        (View.ld sd (Rect.unit (s := S1x112x4096) ![0, 0, 2048] ![1, 112, 2048] inb_S1x112x4096_S1x112x2048_0_0_2048)) (ix3 r 1 n)
      = sd (ix3 0 r ⟨2048 + n.val, by omega⟩) := Cert.KernelIdeal.Body.pairs2_high sd r n

set_option maxHeartbeats 2000000 in
/-- A later point of a run adds its part to what the point before left. -/
theorem out_B (xr : Fin 8 → Fin 4096 → EReal) (c : Dev nD) (t : Fin cfg0.N) (hB : ¬ cond0_0 (grid0.coords t))
    (x0 : Vec Ideal S16x8192 .bf16) (x1 : Vec Ideal S1x4096x512 .i8) (gs us : Vec Ideal S1x32x512 .bf16)
    (x4 : Vec Ideal S1x512x2048 .i8) (sd : Vec Ideal S1x112x4096 .bf16)
    (O : Vec Ideal S1x8x4096 .f32) (hx : Spread x0 xr) (hb : 4 * (t.val % 28) + 4 ≤ 112) (Y : S1x8x4096.Idx) :
    out0_B_6 c (grid0.coords t)
      (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) scM0_0 (Memref.isWhole_whole _) scM0_1 (Memref.isWhole_whole _) scM0_2
      (Memref.isWhole_whole _)
      hB x0 x1 gs us x4 sd O Y
      = (O Y : EReal) + partB x1 gs us xr x4 sd (4 * (t.val % 28)) hb (Y 1) (Y 2) := by
  frame_out
  generalize hG : st_k0_t1 (F := Ideal) _ _ _ _ _ _ _ _ _ _ _ _ _ _ _ _ _ _ _ _ _ _ _ _ _ _ _ _ _ = G
  generalize hH : View.readCov (Val := Elt Ideal) (s := S16x1024) _ _ _ = H
  generalize hS : k0_pay23 (F := Ideal) _ _ = S2
  have fH : ∀ r X, H (ix2 r X) = spreadV (hblk x1 gs us xr) r X :=
    spread_hblk x0 x1 gs us xr hx G (fun r n => by rw [← hG]; exact acc_apply c t x0 x1 gs us r n) H
      (fun r X => by rw [← hH]; exact spread_read G r X)
  have fe := fun r n => (congrFun hS (ix3 r 0 n)).symm.trans (pairs2_low sd r n)
  have fo := fun r n => (congrFun hS (ix3 r 1 n)).symm.trans (pairs2_high sd r n)
  clear hG hH hS
  canon_tiles y hy
  all_goals
    have e1 : Y 1 = y 1 := Fin.ext hy1
    rw [e1]
    idx_vars y
    obtain rfl : y0 = 0 := Subsingleton.elim _ _
  · rw [pay3_eq]
    refine (high_col x4 S2 sd _ hb 1536 (by omega) (k0_off7 (grid0.coords t)) (off7 t) H _ fH _ _ _ _ _ _ _ _ _ y1 y2 (Y 2)
      fo (hy2.trans (by omega))).trans (congrArg₂ (· + ·) ?_ rfl)
    pointwise []; blk_ext []
  · rw [pay2_eq]
    refine (low_col x4 S2 sd _ hb 1536 (by omega) (k0_off7 (grid0.coords t)) (off7 t) H _ fH _ _ _ _ _ _ _ _ _ y1 y2 (Y 2)
      fe (hy2.trans (by omega))).trans (congrArg₂ (· + ·) ?_ rfl)
    pointwise []; blk_ext []
  · rw [pay68_eq]
    refine (high_col x4 S2 sd _ hb 1024 (by omega) (k0_off6 (grid0.coords t)) (off6 t) H _ fH _ _ _ _ _ _ _ _ _ y1 y2 (Y 2)
      fo (hy2.trans (by omega))).trans (congrArg₂ (· + ·) ?_ rfl)
    pointwise []; blk_ext []
  · rw [pay67_eq]
    refine (low_col x4 S2 sd _ hb 1024 (by omega) (k0_off6 (grid0.coords t)) (off6 t) H _ fH _ _ _ _ _ _ _ _ _ y1 y2 (Y 2)
      fe (hy2.trans (by omega))).trans (congrArg₂ (· + ·) ?_ rfl)
    pointwise []; blk_ext []
  · rw [pay54_eq]
    refine (high_col x4 S2 sd _ hb 512 (by omega) (k0_off5 (grid0.coords t)) (off5 t) H _ fH _ _ _ _ _ _ _ _ _ y1 y2 (Y 2)
      fo (hy2.trans (by omega))).trans (congrArg₂ (· + ·) ?_ rfl)
    pointwise []; blk_ext []
  · rw [pay53_eq]
    refine (low_col x4 S2 sd _ hb 512 (by omega) (k0_off5 (grid0.coords t)) (off5 t) H _ fH _ _ _ _ _ _ _ _ _ y1 y2 (Y 2)
      fe (hy2.trans (by omega))).trans (congrArg₂ (· + ·) ?_ rfl)
    pointwise []; blk_ext []
  · rw [pay43_eq]
    refine (high_col x4 S2 sd _ hb 0 (by omega) (k0_off4 (grid0.coords t)) (off4 t) H _ fH _ _ _ _ _ _ _ _ _ y1 y2 (Y 2)
      fo (hy2.trans (by omega))).trans (congrArg₂ (· + ·) ?_ rfl)
    pointwise []; blk_ext []
  · rw [pay41_eq]
    refine (low_col x4 S2 sd _ hb 0 (by omega) (k0_off4 (grid0.coords t)) (off4 t) H _ fH _ _ _ _ _ _ _ _ _ y1 y2 (Y 2)
      fe (hy2.trans (by omega))).trans (congrArg₂ (· + ·) ?_ rfl)
    pointwise []; blk_ext []

set_option maxHeartbeats 4000000 in
/-- The first point of a run adds its part to zero. -/
theorem out_A (xr : Fin 8 → Fin 4096 → EReal) (c : Dev nD) (t : Fin cfg0.N) (hA : cond0_0 (grid0.coords t))
    (x0 : Vec Ideal S16x8192 .bf16) (x1 : Vec Ideal S1x4096x512 .i8) (gs us : Vec Ideal S1x32x512 .bf16)
    (x4 : Vec Ideal S1x512x2048 .i8) (sd : Vec Ideal S1x112x4096 .bf16)
    (hx : Spread x0 xr) (hb : 4 * (t.val % 28) + 4 ≤ 112) (Y : S1x8x4096.Idx) :
    out0_A_6 c (grid0.coords t)
      (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) scM0_0 (Memref.isWhole_whole _) scM0_1 (Memref.isWhole_whole _) scM0_2
      (Memref.isWhole_whole _)
      hA x0 x1 gs us x4 sd Y
      = (0 : EReal) + partB x1 gs us xr x4 sd (4 * (t.val % 28)) hb (Y 1) (Y 2) := by
  frame_out
  generalize hG : st_k0_t1 (F := Ideal) _ _ _ _ _ _ _ _ _ _ _ _ _ _ _ _ _ _ _ _ _ _ _ _ _ _ _ _ _ = G
  generalize hH : View.readCov (Val := Elt Ideal) (s := S16x1024) _ _ _ = H
  generalize hS : k0_pay23 (F := Ideal) _ _ = S2
  have fH : ∀ r X, H (ix2 r X) = spreadV (hblk x1 gs us xr) r X :=
    spread_hblk x0 x1 gs us xr hx G (fun r n => by rw [← hG]; exact acc_apply c t x0 x1 gs us r n) H
      (fun r X => by rw [← hH]; exact spread_read G r X)
  have fe := fun r n => (congrFun hS (ix3 r 0 n)).symm.trans (pairs2_low sd r n)
  have fo := fun r n => (congrFun hS (ix3 r 1 n)).symm.trans (pairs2_high sd r n)
  clear hG hH hS
  simp (disch := decide) only [↓ View.readCov_skip, ↓ View.readCov_fill]
  refine (canon_dropLast _ _ ?_).trans ?_
  · exact View.cover_of_tiled_head _ _ _ (by rfl) Y
  simp only [List.dropLast]
  canon_tiles y hy
  all_goals
    have e1 : Y 1 = y 1 := Fin.ext hy1
    rw [e1]
    idx_vars y
    obtain rfl : y0 = 0 := Subsingleton.elim _ _
  · rw [pay3_eq]
    refine (high_col x4 S2 sd _ hb 1536 (by omega) (k0_off7 (grid0.coords t)) (off7 t) H _ fH _ _ _ _ _ _ _ _ _ y1 y2 (Y 2)
      fo (hy2.trans (by omega))).trans (congrArg₂ (· + ·) ?_ rfl)
    pointwise [k0_pay34]
  · rw [pay2_eq]
    refine (low_col x4 S2 sd _ hb 1536 (by omega) (k0_off7 (grid0.coords t)) (off7 t) H _ fH _ _ _ _ _ _ _ _ _ y1 y2 (Y 2)
      fe (hy2.trans (by omega))).trans (congrArg₂ (· + ·) ?_ rfl)
    pointwise [k0_pay34]
  · rw [pay68_eq]
    refine (high_col x4 S2 sd _ hb 1024 (by omega) (k0_off6 (grid0.coords t)) (off6 t) H _ fH _ _ _ _ _ _ _ _ _ y1 y2 (Y 2)
      fo (hy2.trans (by omega))).trans (congrArg₂ (· + ·) ?_ rfl)
    pointwise [k0_pay34]
  · rw [pay67_eq]
    refine (low_col x4 S2 sd _ hb 1024 (by omega) (k0_off6 (grid0.coords t)) (off6 t) H _ fH _ _ _ _ _ _ _ _ _ y1 y2 (Y 2)
      fe (hy2.trans (by omega))).trans (congrArg₂ (· + ·) ?_ rfl)
    pointwise [k0_pay34]
  · rw [pay54_eq]
    refine (high_col x4 S2 sd _ hb 512 (by omega) (k0_off5 (grid0.coords t)) (off5 t) H _ fH _ _ _ _ _ _ _ _ _ y1 y2 (Y 2)
      fo (hy2.trans (by omega))).trans (congrArg₂ (· + ·) ?_ rfl)
    pointwise [k0_pay34]
  · rw [pay53_eq]
    refine (low_col x4 S2 sd _ hb 512 (by omega) (k0_off5 (grid0.coords t)) (off5 t) H _ fH _ _ _ _ _ _ _ _ _ y1 y2 (Y 2)
      fe (hy2.trans (by omega))).trans (congrArg₂ (· + ·) ?_ rfl)
    pointwise [k0_pay34]
  · rw [pay43_eq]
    refine (high_col x4 S2 sd _ hb 0 (by omega) (k0_off4 (grid0.coords t)) (off4 t) H _ fH _ _ _ _ _ _ _ _ _ y1 y2 (Y 2)
      fo (hy2.trans (by omega))).trans (congrArg₂ (· + ·) ?_ rfl)
    pointwise [k0_pay34]
  · rw [pay41_eq]
    refine (low_col x4 S2 sd _ hb 0 (by omega) (k0_off4 (grid0.coords t)) (off4 t) H _ fH _ _ _ _ _ _ _ _ _ y1 y2 (Y 2)
      fe (hy2.trans (by omega))).trans (congrArg₂ (· + ·) ?_ rfl)
    pointwise [k0_pay34]

end Cert.SharedIdeal.Body
-- ==== Proof.SharedFold.lean ====
module

public import proofs.«01_k».proof.Proof.SharedPoint

/-! # What the array of results holds, in the shared expert's call

The layer of the routed experts at one expert: the shared expert's arrays take the place of every expert's. -/

@[expose] public section

set_option maxRecDepth 16384

noncomputable section

namespace Cert.SharedIdeal.Body

open Cert.SharedIdeal Cert.SharedIdeal.Gen Idealize.ShloMosaic Idealize.ShloMosaic.TcCoe Idealize.SL.Sem
open Cert.KernelIdeal.Body (nlo nhi Spread xrow gateA upA hidA downA layer partB partB_layer spreadHost spread_host)

variable (m : (ℓ : Loc nD τ sig) → Buf (Elt Ideal) ℓ)

/-- One array handed to each of six experts. -/
def six {a b : ℕ} {e : EltTy} (w : Vec Ideal ⟨2, ![a, b]⟩ e) : Vec Ideal ⟨3, ![6, a, b]⟩ e := fun i => w (ix2 (i 1) (i 2))

theorem idx : ∀ t : Fin cfg0.N, win0_0.index t = ![0, 0] ∧ win0_1.index t = ![0, 0, t.val % 28]
    ∧ win0_2.index t = ![0, 0, t.val % 28] ∧ win0_3.index t = ![0, 0, t.val % 28]
    ∧ win0_4.index t = ![0, t.val % 28, 0] ∧ win0_5.index t = ![0, 0, 0]
    ∧ win0_6.index t = ![0, 0, 0] := (by decide +kernel : ∀ t : Fin grid0.N, _)

theorem entry_x (c : Dev nD) : V m c main_v16 = spreadHost (m ((c : Thread nD τ).loc main_arg0)) := by
  show StableHlo.after [hostOps0, hostOps0_1, hostOps0_2].flatten _ _ = _
  simp only [List.flatten_cons, List.flatten_nil, List.append_nil, List.cons_append, List.nil_append, hostOps0, hostOps0_1, hostOps0_2]
  after_results
  rfl

theorem entry_1 (c : Dev nD) : V m c main_v0
    = broadcastInDim S1x4096x14336 ![1, 2] bcast_S4096x14336_S1x4096x14336_1_2 (m ((c : Thread nD τ).loc main_arg1) : Vec Ideal S4096x14336 .i8) := by
  show StableHlo.after [hostOps0, hostOps0_1, hostOps0_2].flatten _ _ = _
  simp only [List.flatten_cons, List.flatten_nil, List.append_nil, List.cons_append, List.nil_append, hostOps0, hostOps0_1, hostOps0_2]
  after_results

theorem entry_2 (c : Dev nD) : V m c main_v1
    = broadcastInDim S1x32x14336 ![1, 2] bcast_S32x14336_S1x32x14336_1_2 (m ((c : Thread nD τ).loc main_arg2) : Vec Ideal S32x14336 .bf16) := by
  show StableHlo.after [hostOps0, hostOps0_1, hostOps0_2].flatten _ _ = _
  simp only [List.flatten_cons, List.flatten_nil, List.append_nil, List.cons_append, List.nil_append, hostOps0, hostOps0_1, hostOps0_2]
  after_results

theorem entry_3 (c : Dev nD) : V m c main_v2
    = broadcastInDim S1x32x14336 ![1, 2] bcast_S32x14336_S1x32x14336_1_2 (m ((c : Thread nD τ).loc main_arg3) : Vec Ideal S32x14336 .bf16) := by
  show StableHlo.after [hostOps0, hostOps0_1, hostOps0_2].flatten _ _ = _
  simp only [List.flatten_cons, List.flatten_nil, List.append_nil, List.cons_append, List.nil_append, hostOps0, hostOps0_1, hostOps0_2]
  after_results

theorem entry_4 (c : Dev nD) : V m c main_v3
    = broadcastInDim S1x14336x2048 ![1, 2] bcast_S14336x2048_S1x14336x2048_1_2 (m ((c : Thread nD τ).loc main_arg4) : Vec Ideal S14336x2048 .i8) := by
  show StableHlo.after [hostOps0, hostOps0_1, hostOps0_2].flatten _ _ = _
  simp only [List.flatten_cons, List.flatten_nil, List.append_nil, List.cons_append, List.nil_append, hostOps0, hostOps0_1, hostOps0_2]
  after_results

theorem entry_5 (c : Dev nD) : V m c main_v4
    = broadcastInDim S1x112x4096 ![1, 2] bcast_S112x4096_S1x112x4096_1_2 (m ((c : Thread nD τ).loc main_arg5) : Vec Ideal S112x4096 .bf16) := by
  show StableHlo.after [hostOps0, hostOps0_1, hostOps0_2].flatten _ _ = _
  simp only [List.flatten_cons, List.flatten_nil, List.append_nil, List.cons_append, List.nil_append, hostOps0, hostOps0_1, hostOps0_2]
  after_results

/-- The activations the kernel is handed are the tokens, spread. -/
theorem spread_x (c : Dev nD) (t : Fin cfg0.N) :
    Spread (iblk m c 0 t) (xrow (m ((c : Thread nD τ).loc main_arg0))) := by
  have h : (iblk m c 0 t : Vec Ideal S16x8192 .bf16) = spreadHost (m ((c : Thread nD τ).loc main_arg0)) := by
    rw [← entry_x]
    funext i
    blk_ext [iblk, idx t]
  have h2 := spread_host (m ((c : Thread nD τ).loc main_arg0))
  rw [← h] at h2
  exact h2

/-- What one grid point adds to the block of the result. -/
def part (c : Dev nD) (t : Fin cfg0.N) (Y : S1x8x4096.Idx) : EReal :=
  partB (iblk m c 1 t) (iblk m c 2 t) (iblk m c 3 t) (xrow (m ((c : Thread nD τ).loc main_arg0))) (iblk m c 4 t)
    (iblk m c 5 t) (4 * (t.val % 28)) (by omega) (Y 1) (Y 2)

/-- The layer over the argument arrays. -/
def out (c : Dev nD) (t : Fin 8) (o : Fin 4096) : EReal :=
  layer (m ((c : Thread nD τ).loc main_arg0)) (six (m ((c : Thread nD τ).loc main_arg1))) (six (m ((c : Thread nD τ).loc main_arg2)))
    (six (m ((c : Thread nD τ).loc main_arg3))) (six (m ((c : Thread nD τ).loc main_arg4))) (six (m ((c : Thread nD τ).loc main_arg5))) 0 t o

/-- The first point of an expert leaves its part alone. -/
theorem first (c : Dev nD) (t : Fin cfg0.N) (h : t.val % 28 = 0) (Y : S1x8x4096.Idx) :
    outsAt0 m c t.val t.isLt Y = (0 : EReal) + part m c t Y := by
  rw [outsAt0_A m c t h]
  exact out_A (xrow (m ((c : Thread nD τ).loc main_arg0))) c t _ _ _ _ _ _ _ (spread_x m c t) (by omega) Y

/-- Every later point adds its part to what the point before left. -/
theorem later (c : Dev nD) (t : Fin cfg0.N) (h : ¬ t.val % 28 = 0) (Y : S1x8x4096.Idx) :
    outsAt0 m c t.val t.isLt Y
      = (outsAt0 m c (t.val - 1) (Nat.lt_of_le_of_lt (Nat.sub_le _ _) t.isLt) Y : EReal) + part m c t Y := by
  rw [outsAt0_B m c t h]
  exact out_B (xrow (m ((c : Thread nD τ).loc main_arg0))) c t _ _ _ _ _ _ _ _ (spread_x m c t) (by omega) Y

theorem part_eq (c : Dev nD) (t : Fin cfg0.N) (Y : S1x8x4096.Idx) (s : Fin 28) (hs : s.val = t.val % 28) :
    part m c t Y = ∑ q : Fin 512,
      hidA (m ((c : Thread nD τ).loc main_arg0)) (six (m ((c : Thread nD τ).loc main_arg1))) (six (m ((c : Thread nD τ).loc main_arg2))) (six (m ((c : Thread nD τ).loc main_arg3)))
        0 (Y 1) ⟨s.val * 512 + q.val, by omega⟩
      * downA (six (m ((c : Thread nD τ).loc main_arg4))) (six (m ((c : Thread nD τ).loc main_arg5))) 0 ⟨s.val * 512 + q.val, by omega⟩ (Y 2) := by
  unfold part
  refine partB_layer (xrow (m ((c : Thread nD τ).loc main_arg0))) _ _ _ _ _ _ _ _ _ _ _ 0 s _ _ (by omega) ?_ ?_ ?_ ?_ ?_ _ _
  all_goals intro a b
  · refine Eq.trans (b := V m c main_v0 (ix3 0 a ⟨s.val * 512 + b.val, by omega⟩)) ?_ ?_
    · blk_ext [iblk, idx t]
    · rw [entry_1]; pointwise [six]
  · refine Eq.trans (b := V m c main_v1 (ix3 0 a ⟨s.val * 512 + b.val, by omega⟩)) ?_ ?_
    · blk_ext [iblk, idx t]
    · rw [entry_2]; pointwise [six]
  · refine Eq.trans (b := V m c main_v2 (ix3 0 a ⟨s.val * 512 + b.val, by omega⟩)) ?_ ?_
    · blk_ext [iblk, idx t]
    · rw [entry_3]; pointwise [six]
  · refine Eq.trans (b := V m c main_v3 (ix3 0 ⟨s.val * 512 + a.val, by omega⟩ b)) ?_ ?_
    · blk_ext [iblk, idx t]
    · rw [entry_4]; pointwise [six]
  · refine Eq.trans (b := V m c main_v4 (ix3 0 a b)) ?_ ?_
    · blk_ext [iblk, idx t]
    · rw [entry_5]; pointwise [six]

/-- The array of results at the end of the grid. -/
theorem final (c : Dev nD) : (dats m 0 c).arrAt 6 cfg0.N = fun i : S1x8x4096.Idx => out m c (i 1) (i 2) := by
  refine (dats m 0 c).arrAt_eq_of_covers 6 _ (by decide +kernel) fun t hf y => ?_
  have hN : t.val < 28 := lt_of_lt_of_eq t.isLt (show cfg0.N = 28 from N_0)
  have key : (outsAt0 m c t.val t.isLt y : EReal) = out m c (y 1) (y 2) := by
    refine (Pipeline.eq_sum_fin_of_reset_step_apply_of_flush (fun n h => outsAt0 m c n h) 28 (fun _ => (0 : EReal))
      (fun t j => part m c t j) (fun t h j => first m c t h j) (fun t h j => later m c t h j) t ((flush0_6 t).mp hf) y).trans ?_
    rw [zero_add]
    unfold out layer
    refine (Finset.sum_congr rfl fun s _ => part_eq m c ⟨_, Pipeline.run_point_lt_of_flush t ((flush0_6 t).mp hf) s⟩ y
      s (by dsimp only; omega)).trans ?_
    exact Fin.sum_mul_add_congr fun s k hl => rfl
  rw [after0_6]
  refine key.trans ?_
  show out m c _ _ = out m c _ _
  congr 1
  · refine Fin.ext ?_
    blk_simp [idx t]
  · refine Fin.ext ?_
    blk_simp [idx t]

end Cert.SharedIdeal.Body
-- ==== Proof.SharedReference.lean ====
module

public import proofs.«01_k».proof.Proof.SharedFold
public import proofs.«01_k».proof.Proof.Reference
public import proofs.«01_k».proof.Proof.Gen.ExpertIdeal.Run

/-! # What the shared expert's reference computes

The reference read entry by entry: it is the layer at one expert. -/

@[expose] public section

set_option maxRecDepth 16384

noncomputable section

namespace Cert.ExpertIdeal.Read

open Cert.ExpertIdeal Cert.ExpertIdeal.Gen Idealize.ShloMosaic Idealize.ShloMosaic.TcCoe Idealize.SL.Sem
open Cert.ReferenceIdeal.Read (nib nib_low nib_high)
open Cert.SharedIdeal.Body (six)
open Cert.KernelIdeal.Body (nlo nhi xrow gateA upA hidA downA layer)

/-- The weights of the up or gate projection: codes moved by `s`, times their group's scale. -/
def wUp (s : BitVec 32) (codes : Vec Ideal S1x4096x14336 .i8) (scales : Vec Ideal S1x32x14336 .bf16) : Vec Ideal S1x4096x14336 .bf16 :=
  shapeCast _ (mulf (F := Ideal) (shapeCast _ (truncf (F := Ideal) .bf16 (sitofp (F := Ideal) .f32 (Host.shrsi (Host.shli (extui 32 codes natLt_8_32)
    (broadcastInDim S1x4096x14336 ![] bcast_S_S1x4096x14336 (constantI S_ 32 s)))
    (broadcastInDim S1x4096x14336 ![] bcast_S_S1x4096x14336 (constantI S_ 32 28#32)))) bitsLt_bf16_f32)
    shapeCasts_S1x4096x14336_S1x32x128x14336)
    (broadcastInDim S1x32x128x14336 ![0, 1, 2, 3] bcast_S1x32x1x14336_S1x32x128x14336_0_1_2_3
      (broadcastInDim S1x32x1x14336 ![0, 1, 3] bcast_S1x32x14336_S1x32x1x14336_0_1_3 scales)))
    shapeCasts_S1x32x128x14336_S1x4096x14336

theorem wUp_at (s : BitVec 32) (codes : Vec Ideal S1x4096x14336 .i8) (scales : Vec Ideal S1x32x14336 .bf16)
    (k : Fin 4096) (f : Fin 14336) :
    wUp s codes scales (ix3 0 k f) = nib s (codes (ix3 0 k f)) * scales (ix3 0 ⟨k.val / 128, by omega⟩ f) := by
  pointwise [wUp]
  rfl

/-- The tokens, padded to eight rows. -/
def xg (x : Vec Ideal S7x1x4096 .bf16) : Vec Ideal S8x4096 .bf16 :=
  pad S8x4096 ![0, 0] ![1, 0] ![0, 0] (shapeCast _ x shapeCasts_S7x1x4096_S7x4096)
    (sitofp (F := Ideal) .bf16 (constantI S_ 32 0#32)) pads_S7x4096_S8x4096_010_000 h_S_

theorem xg_at (x : Vec Ideal S7x1x4096 .bf16) (t : Fin 8) (k : Fin 4096) : xg x (ix2 t k) = xrow x t k :=
  Cert.KernelIdeal.Body.padded_at x t k

/-- A projection of the padded tokens. -/
def proj (w : Vec Ideal S1x4096x14336 .bf16) (x : Vec Ideal S8x4096 .bf16) : Vec Ideal S1x8x14336 .f32 :=
  transpose S1x8x14336 [0, 2, 1]
    (Host.dotGeneral (F := Ideal) (φ₁ := .bf16) (φ₂ := .bf16) dot_S1x4096x14336_S8x4096_S1x14336x8_1_1_02_0_n_n none w x) transposes_S1x14336x8_S1x8x14336_0_2_1

theorem proj_at (w : Vec Ideal S1x4096x14336 .bf16) (x : Vec Ideal S8x4096 .bf16) (t : Fin 8) (f : Fin 14336) :
    (proj w x (ix3 0 t f) : EReal) = ∑ k : Fin 4096, (x (ix2 t k) : EReal) * w (ix3 0 k f) := by
  pointwise [proj]
  exact Finset.sum_congr rfl fun k _ => mul_comm _ _

/-- The hidden layer: silu of the gate, times up. -/
def hidden (g u : Vec Ideal S1x8x14336 .f32) : Vec Ideal S1x8x14336 .bf16 :=
  truncf (F := Ideal) .bf16 (mulf (mulf g (Host.divf (broadcastInDim S1x8x14336 ![] bcast_S_S1x8x14336 (constant (F := Ideal) S_ .f32 0x3F800000#32))
    (addf (broadcastInDim S1x8x14336 ![] bcast_S_S1x8x14336 (constant S_ .f32 0x3F800000#32)) (Host.exp (Host.negf g))))) u) bitsLt_bf16_f32

theorem hidden_at (g u : Vec Ideal S1x8x14336 .f32) (i : S1x8x14336.Idx) :
    (hidden g u i : EReal) = (g i : EReal) * Ideal.logistic (g i) * u i := by
  pointwise [hidden]
  rfl

/-- The down weights of one half of the columns. -/
def wDown (s : BitVec 32) (codes : Vec Ideal S1x14336x2048 .i8) (scales : Vec Ideal S1x112x2048 .bf16) : Vec Ideal S1x14336x2048 .bf16 :=
  shapeCast _ (mulf (F := Ideal) (shapeCast _ (truncf (F := Ideal) .bf16 (sitofp (F := Ideal) .f32 (Host.shrsi (Host.shli (extui 32 codes natLt_8_32)
    (broadcastInDim S1x14336x2048 ![] bcast_S_S1x14336x2048 (constantI S_ 32 s)))
    (broadcastInDim S1x14336x2048 ![] bcast_S_S1x14336x2048 (constantI S_ 32 28#32)))) bitsLt_bf16_f32)
    shapeCasts_S1x14336x2048_S1x112x128x2048)
    (broadcastInDim S1x112x128x2048 ![0, 1, 2, 3] bcast_S1x112x1x2048_S1x112x128x2048_0_1_2_3
      (broadcastInDim S1x112x1x2048 ![0, 1, 3] bcast_S1x112x2048_S1x112x1x2048_0_1_3 scales)))
    shapeCasts_S1x112x128x2048_S1x14336x2048

theorem wDown_at (s : BitVec 32) (codes : Vec Ideal S1x14336x2048 .i8) (scales : Vec Ideal S1x112x2048 .bf16)
    (f : Fin 14336) (o : Fin 2048) :
    wDown s codes scales (ix3 0 f o) = nib s (codes (ix3 0 f o)) * scales (ix3 0 ⟨f.val / 128, by omega⟩ o) := by
  pointwise [wDown]
  rfl

/-- The down projection onto one half of the columns. -/
def down (h : Vec Ideal S1x8x14336 .bf16) (w : Vec Ideal S1x14336x2048 .bf16) : Vec Ideal S1x8x2048 .f32 :=
  Host.dotGeneral (F := Ideal) (φ₁ := .bf16) (φ₂ := .bf16) dot_S1x8x14336_S1x14336x2048_S1x8x2048_2_1_1_2_0_0 none h w

theorem down_at (h : Vec Ideal S1x8x14336 .bf16) (w : Vec Ideal S1x14336x2048 .bf16) (t : Fin 8) (o : Fin 2048) :
    (down h w (ix3 0 t o) : EReal) = ∑ f : Fin 14336, (h (ix3 0 t f) : EReal) * w (ix3 0 f o) := by
  pointwise [down]

/-- The two halves side by side. -/
def halves (a b : Vec Ideal S1x8x2048 .f32) : Vec Ideal S1x8x4096 .f32 :=
  concatenate S1x8x4096 2 [⟨S1x8x2048, a⟩, ⟨S1x8x2048, b⟩] concatenates_S1x8x2048_S1x8x2048_S1x8x4096_d2

theorem halves_at (a b : Vec Ideal S1x8x2048 .f32) (t : Fin 8) (o : Fin 4096) :
    halves a b (ix3 0 t o) = if h : o.val < 2048 then a (ix3 0 t ⟨o.val, h⟩) else b (ix3 0 t ⟨o.val - 2048, by omega⟩) := by
  pointwise [halves]

section

variable (x : Vec Ideal S7x1x4096 .bf16) (w13 : Vec Ideal S4096x14336 .i8) (gs us : Vec Ideal S32x14336 .bf16)
  (w2 : Vec Ideal S14336x2048 .i8) (sd : Vec Ideal S112x4096 .bf16)

/-- The bytes of the gate and up weights, as those of one expert. -/
def up1 : Vec Ideal S1x4096x14336 .i8 := broadcastInDim S1x4096x14336 ![1, 2] bcast_S4096x14336_S1x4096x14336_1_2 w13

/-- A table of scales of the gate or up weights, as that of one expert. -/
def scale1 : Vec Ideal S1x32x14336 .bf16 := broadcastInDim S1x32x14336 ![1, 2] bcast_S32x14336_S1x32x14336_1_2 gs

/-- The bytes of the down weights, as those of one expert. -/
def down1 : Vec Ideal S1x14336x2048 .i8 := broadcastInDim S1x14336x2048 ![1, 2] bcast_S14336x2048_S1x14336x2048_1_2 w2

/-- The table of scales of the down weights, as that of one expert. -/
def scaleDown1 : Vec Ideal S1x112x4096 .bf16 := broadcastInDim S1x112x4096 ![1, 2] bcast_S112x4096_S1x112x4096_1_2 sd

theorem up1_at (k : Fin 4096) (f : Fin 14336) : up1 w13 (ix3 0 k f) = w13 (ix2 k f) := by
  pointwise [up1]

theorem scale1_at (k : Fin 32) (f : Fin 14336) : scale1 gs (ix3 0 k f) = gs (ix2 k f) := by
  pointwise [scale1]

theorem down1_at (f : Fin 14336) (o : Fin 2048) : down1 w2 (ix3 0 f o) = w2 (ix2 f o) := by
  pointwise [down1]

theorem scaleDown1_at (r : Fin 112) (o : Fin 4096) : scaleDown1 sd (ix3 0 r o) = sd (ix2 r o) := by
  pointwise [scaleDown1]

/-- The whole reference, over its arguments. -/
def ref : Vec Ideal S1x8x4096 .f32 :=
  halves
    (down (hidden (proj (wUp 28#32 (up1 w13) (scale1 gs)) (xg x)) (proj (wUp 24#32 (up1 w13) (scale1 us)) (xg x)))
      (wDown 28#32 (down1 w2) (extractStridedSlice S1x112x2048 ![0, 0, 0] (scaleDown1 sd) slices_S1x112x4096_S1x112x2048_0_0_0)))
    (down (hidden (proj (wUp 28#32 (up1 w13) (scale1 gs)) (xg x)) (proj (wUp 24#32 (up1 w13) (scale1 us)) (xg x)))
      (wDown 24#32 (down1 w2) (extractStridedSlice S1x112x2048 ![0, 0, 2048] (scaleDown1 sd) slices_S1x112x4096_S1x112x2048_0_0_2048)))

theorem hid_ref (t : Fin 8) (f : Fin 14336) :
    (hidden (proj (wUp 28#32 (up1 w13) (scale1 gs)) (xg x)) (proj (wUp 24#32 (up1 w13) (scale1 us)) (xg x)) (ix3 0 t f) : EReal)
      = hidA x (six w13) (six gs) (six us) 0 t f := by
  have hg : (proj (wUp 28#32 (up1 w13) (scale1 gs)) (xg x) (ix3 0 t f) : EReal) = gateA x (six w13) (six gs) 0 t f := by
    rw [proj_at]
    unfold gateA
    refine Finset.sum_congr rfl fun k _ => ?_
    rw [xg_at, wUp_at, nib_low, up1_at, scale1_at]
    rfl
  have hu : (proj (wUp 24#32 (up1 w13) (scale1 us)) (xg x) (ix3 0 t f) : EReal) = upA x (six w13) (six us) 0 t f := by
    rw [proj_at]
    unfold upA
    refine Finset.sum_congr rfl fun k _ => ?_
    rw [xg_at, wUp_at, nib_high, up1_at, scale1_at]
    rfl
  rw [hidden_at, hg, hu]
  rfl

theorem low_at (r : Fin 112) (o : Fin 2048) :
    extractStridedSlice S1x112x2048 ![0, 0, 0] (scaleDown1 sd) slices_S1x112x4096_S1x112x2048_0_0_0 (ix3 0 r o)
      = sd (ix2 r ⟨o.val, by omega⟩) := by
  pointwise [scaleDown1]

theorem high_at (r : Fin 112) (o : Fin 2048) :
    extractStridedSlice S1x112x2048 ![0, 0, 2048] (scaleDown1 sd) slices_S1x112x4096_S1x112x2048_0_0_2048 (ix3 0 r o)
      = sd (ix2 r ⟨2048 + o.val, by omega⟩) := by
  pointwise [scaleDown1]

theorem ref_at (t : Fin 8) (o : Fin 4096) :
    (ref x w13 gs us w2 sd (ix3 0 t o) : EReal) = layer x (six w13) (six gs) (six us) (six w2) (six sd) 0 t o := by
  unfold ref layer
  rw [halves_at]
  by_cases h : o.val < 2048
  · rw [dif_pos h, down_at]
    refine Finset.sum_congr rfl fun f _ => ?_
    rw [hid_ref, wDown_at, nib_low, down1_at, low_at]
    unfold downA
    rw [dif_pos h]
    rfl
  · rw [dif_neg h, down_at]
    refine Finset.sum_congr rfl fun f _ => ?_
    rw [hid_ref, wDown_at, nib_high, down1_at, high_at]
    unfold downA
    rw [dif_neg h]
    have e : (⟨2048 + (o.val - 2048), by omega⟩ : Fin 4096) = o := Fin.ext (by dsimp only; omega)
    simp only [e]
    rfl

end

/-- The term that the reference's run leaves is `ref` of its arguments. -/
theorem res_eq (m : (ℓ : Loc nD τ sig) → Buf (Elt Ideal) ℓ) (c : Dev nD) :
    Cert.ExpertIdeal.Value.res_out0 m c
      = ref (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

end Cert.ExpertIdeal.Read
-- ==== Proof.SharedClaims.lean ====
module

public import proofs.«01_k».proof.Defs
public import proofs.«01_k».proof.Proof.Gen.Shared.Frame
public import proofs.«01_k».proof.Proof.Gen.SharedIdeal.Frame
public import Idealize.ShloMosaic.Adequacy
public import Idealize.ShloMosaic.Lib.Bf16PairInverse
public import Idealize.ShloMosaic.Lib.Quiescent
public import proofs.«01_k».proof.Proof.SharedFold
public import proofs.«01_k».proof.Proof.SharedReference
public import proofs.«01_k».proof.Proof.Gen.SharedIdeal.Value

/-! # The shared expert's call and its reference compute the same array -/

@[expose] public section

set_option maxRecDepth 16384

noncomputable section

namespace Cert.Proof

open Idealize.ShloMosaic Idealize.ShloMosaic.TcCoe Idealize.SL.Sem

/-- The shared expert's call terminates without fault and keeps its arguments. -/
theorem frame_h : Cert.quiescent_Shared := fun m ρ _ => Cert.Shared.Gen.frame m ρ

/-- So does its idealization. -/
theorem frame_hi : Cert.quiescent_SharedIdeal := fun m ρ _ => Cert.SharedIdeal.Gen.frame m ρ

/-- So does its reference. -/
theorem frame_ti : Cert.quiescent_ExpertIdeal := fun m ρ _ =>
  (θ_run Cert.ExpertIdeal.defs _ _).mono (fun r h => ⟨fun c => (h c).2,
      Idealize.ShloMosaic.sem_eq_zero_of_no_sems (by decide) r.2⟩)
    (Cert.ExpertIdeal.Value.run (F := Ideal) m ρ)

/-- The idealization is the call with packed pairs of scales kept as pairs: each rewritten place, by its statement. -/
theorem preserves_shared : Cert.preserves_Shared_SharedIdeal :=
  open Cert.SharedIdeal IdealRules.bf16_pair in
  ⟨bufferStatement S32x2x512 S32x1x512, bufferStatement S112x2x2048 S112x1x2048, halfStatement S32x512,
   statement S32x2x512 S32x1x512, halfStatement S112x2048, statement S112x2x2048 S112x1x2048,
   statement S1x2x512 S1x1x512, statement S2x512 S1x512⟩

/-- The reference's array over arguments equal to the kernel's is the kernel's array. -/
theorem same_shared (m : (ℓ : Loc Cert.SharedIdeal.nD Cert.SharedIdeal.τ Cert.SharedIdeal.sig) → Buf (Elt Ideal) ℓ) (c : Dev Cert.SharedIdeal.nD) :
    Cert.ExpertIdeal.Read.ref (m (c.tc.loc Cert.SharedIdeal.main_arg0)) (m (c.tc.loc Cert.SharedIdeal.main_arg1))
      (m (c.tc.loc Cert.SharedIdeal.main_arg2)) (m (c.tc.loc Cert.SharedIdeal.main_arg3)) (m (c.tc.loc Cert.SharedIdeal.main_arg4))
      (m (c.tc.loc Cert.SharedIdeal.main_arg5)) = (Cert.SharedIdeal.Gen.dats m 0 c).arrAt 6 Cert.SharedIdeal.cfg0.N := by
  rw [Cert.SharedIdeal.Body.final]
  funext i
  idx_vars i
  obtain rfl : i0 = 0 := Subsingleton.elim _ _
  exact Cert.ExpertIdeal.Read.ref_at _ _ _ _ _ _ _ _

/-- Over the extended reals, from equal arguments, the shared expert's call and its reference leave the same array. -/
theorem algebraic_shared : Cert.algebraic_SharedIdeal_ExpertIdeal := by
  intro m g m' g' _ h
  refine ⟨fun c => (Cert.SharedIdeal.Gen.dats m 0 c).arrAt 6 Cert.SharedIdeal.cfg0.N, Cert.SharedIdeal.Value.run_blocks m g, ?_⟩
  refine (θ_run Cert.ExpertIdeal.defs _ _).mono (fun r hr c => ⟨(hr c).1.trans ?_, (hr c).2⟩)
    (Cert.ExpertIdeal.Value.run (F := Ideal) m' g')
  obtain ⟨h0, h1, h2, h3, h4, h5⟩ := h c
  refine (Cert.ExpertIdeal.Read.res_eq m' c).trans ?_
  rw [h0, h1, h2, h3, h4, h5]
  exact same_shared m c

end Cert.Proof

end
-- ==== Proof.lean ====
module

public import proofs.«01_k».proof.Proof.Gen.Combine.Skeleton
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.CombineIdeal.Frame
public import proofs.«01_k».proof.Proof.Gen.CombineIdeal.Skeleton
public import proofs.«01_k».proof.Proof.Gen.Combine.Frame
public import proofs.«01_k».proof.Proof.Gen.BlendIdeal
public import proofs.«01_k».proof.Proof.Gen.BlendIdeal.Run
public import proofs.«01_k».proof.Proof.Gen.Pre_slots_in_range
public import proofs.«01_k».proof.Proof.Gen.CombineIdeal
public import proofs.«01_k».proof.Proof.Gen.Combine
public import proofs.«01_k».proof.Proof.Gen.ReferenceIdeal.Run
public import proofs.«01_k».proof.Proof.Gen.Shared
public import proofs.«01_k».proof.Proof.Gen.Shared.Skeleton
public import proofs.«01_k».proof.Proof.Gen.Shared.Loops
public import proofs.«01_k».proof.Proof.Gen.Shared.Launch
public import proofs.«01_k».proof.Proof.Gen.Shared.Points
public import proofs.«01_k».proof.Proof.Gen.Shared.Frame
public import proofs.«01_k».proof.Proof.Gen.SharedIdeal
public import proofs.«01_k».proof.Proof.Gen.SharedIdeal.Skeleton
public import proofs.«01_k».proof.Proof.Gen.SharedIdeal.Loops
public import proofs.«01_k».proof.Proof.Gen.SharedIdeal.Launch
public import proofs.«01_k».proof.Proof.Gen.SharedIdeal.Points
public import proofs.«01_k».proof.Proof.Gen.SharedIdeal.Frame
public import proofs.«01_k».proof.Proof.Gen.SharedIdeal.Value
public import proofs.«01_k».proof.Proof.Gen.ExpertIdeal
public import proofs.«01_k».proof.Proof.Gen.ExpertIdeal.Run
public import proofs.«01_k».proof.Proof.Claims
public import proofs.«01_k».proof.Proof.Value
public import proofs.«01_k».proof.Proof.CombineClaims
public import proofs.«01_k».proof.Proof.CombineFinal
public import proofs.«01_k».proof.Proof.SharedClaims
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim := ⟨Cert.Kernel.Gen.facts, Cert.KernelIdeal.Gen.facts, Cert.ReferenceIdeal.Gen.facts,
  Cert.Combine.Gen.facts, Cert.CombineIdeal.Gen.facts, Cert.BlendIdeal.Gen.facts,
  Cert.Shared.Gen.facts, Cert.SharedIdeal.Gen.facts, Cert.ExpertIdeal.Gen.facts, Cert.Pre_slots_in_range.Gen.facts,
  frame_p, frame_pi, frame_ri, frame_c, frame_ci, frame_si, frame_h, frame_hi, frame_ti,
  preserves, algebraic, trivial, algebraic_combine, preserves_shared, algebraic_shared⟩

end Cert.Proof

end
